-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_invertible [hPre_invertible : Cert.Pre_invertible.Facts] (m : (ℓ : Loc Cert.KernelIdeal.nD Cert.KernelIdeal.τ Cert.KernelIdeal.sig) → Buf (Elt Ideal) ℓ) : Prop :=
  ∀ c : Dev Cert.KernelIdeal.nD,
    (Cert.Pre_invertible.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_invertible [hPre_invertible : Cert.Pre_invertible.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_invertible.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_invertible [hKernelIdeal : Cert.KernelIdeal.Facts] [hPre_invertible : Cert.Pre_invertible.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_invertible m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_invertible [hReferenceIdeal : Cert.ReferenceIdeal.Facts] [hPre_invertible : Cert.Pre_invertible.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_invertible m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_pre_invertible [hKernelIdeal : Cert.KernelIdeal.Facts] [hReferenceIdeal : Cert.ReferenceIdeal.Facts] [hPre_invertible : Cert.Pre_invertible.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_invertible m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v16)) (v1 : (c : Dev Cert.KernelIdeal.nD) → Buf (Elt Ideal) ((c.tc : Thread Cert.KernelIdeal.nD Cert.KernelIdeal.τ).loc Cert.KernelIdeal.main_v14)) (v2 : (c : Dev Cert.KernelIdeal.nD) → Buf (Elt Ideal) ((c.tc : Thread Cert.KernelIdeal.nD Cert.KernelIdeal.τ).loc Cert.KernelIdeal.main_v10)) (v3 : (c : Dev Cert.KernelIdeal.nD) → Buf (Elt Ideal) ((c.tc : Thread Cert.KernelIdeal.nD Cert.KernelIdeal.τ).loc Cert.KernelIdeal.main_v12)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v16) = v0 c
          ∧ r.2.mem ((c.tc : Thread Cert.KernelIdeal.nD Cert.KernelIdeal.τ).loc Cert.KernelIdeal.main_v14) = v1 c
          ∧ r.2.mem ((c.tc : Thread Cert.KernelIdeal.nD Cert.KernelIdeal.τ).loc Cert.KernelIdeal.main_v10) = v2 c
          ∧ r.2.mem ((c.tc : Thread Cert.KernelIdeal.nD Cert.KernelIdeal.τ).loc Cert.KernelIdeal.main_v12) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v265) = v0 c
          ∧ r.2.mem ((c.tc : Thread Cert.ReferenceIdeal.nD Cert.ReferenceIdeal.τ).loc Cert.ReferenceIdeal.main_v261) = v1 c
          ∧ r.2.mem ((c.tc : Thread Cert.ReferenceIdeal.nD Cert.ReferenceIdeal.τ).loc Cert.ReferenceIdeal.main_v328) = v2 c
          ∧ r.2.mem ((c.tc : Thread Cert.ReferenceIdeal.nD Cert.ReferenceIdeal.τ).loc Cert.ReferenceIdeal.main_v130) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_invertible : Cert.Pre_invertible.Facts),
    quiescent_Kernel (hKernel := hKernel)
    ∧ quiescent_KernelIdeal (hKernelIdeal := hKernelIdeal)
    ∧ quiescent_KernelIdeal_pre_invertible (hKernelIdeal := hKernelIdeal) (hPre_invertible := hPre_invertible)
    ∧ quiescent_ReferenceIdeal (hReferenceIdeal := hReferenceIdeal)
    ∧ quiescent_ReferenceIdeal_pre_invertible (hReferenceIdeal := hReferenceIdeal) (hPre_invertible := hPre_invertible)
    ∧ preserves_Kernel_KernelIdeal
    ∧ algebraic_KernelIdeal_ReferenceIdeal_pre_invertible (hKernelIdeal := hKernelIdeal) (hReferenceIdeal := hReferenceIdeal) (hPre_invertible := hPre_invertible)
-- ==== Pre_invertible.lean ====
abbrev S64x1x512x512 : Shape := ⟨4, ![64, 1, 512, 512]⟩
abbrev S64x3x3 : Shape := ⟨3, ![64, 3, 3]⟩
abbrev S64x3 : Shape := ⟨2, ![64, 3]⟩
abbrev S64x2 : Shape := ⟨2, ![64, 2]⟩
abbrev S64x1x3 : Shape := ⟨3, ![64, 1, 3]⟩
abbrev S64x1 : Shape := ⟨2, ![64, 1]⟩
abbrev S64 : Shape := ⟨1, ![64]⟩
abbrev S1x64 : Shape := ⟨2, ![1, 64]⟩
abbrev S3x64 : Shape := ⟨2, ![3, 64]⟩
abbrev S_ : Shape := ⟨0, ![]⟩

class Facts : Prop where
  slices_S64x3x3_S64x1x3_0_0_0 : S64x3x3.Slices ![0, 0, 0] S64x1x3
  shapeCasts_S64x1x3_S64x3 : S64x1x3.ShapeCasts S64x3
  slices_S64x3x3_S64x1x3_0_1_0 : S64x3x3.Slices ![0, 1, 0] S64x1x3
  slices_S64x3x3_S64x1x3_0_2_0 : S64x3x3.Slices ![0, 2, 0] S64x1x3
  slices_S64x3_S64x1_0_0 : S64x3.Slices ![0, 0] S64x1
  shapeCasts_S64x1_S64 : S64x1.ShapeCasts S64
  slices_S64x3_S64x1_0_1 : S64x3.Slices ![0, 1] S64x1
  slices_S64x3_S64x1_0_2 : S64x3.Slices ![0, 2] S64x1
  bcast_S64_S1x64_1 : S64.BroadcastsInDim S1x64 (![1] : Fin 1 → Fin S1x64.rank)
  concatenates_S1x64_S1x64_S1x64_S3x64_d0 : Shape.Concatenates [S1x64, S1x64, S1x64] S3x64 0
  transposes_S3x64_S64x3_1_0 : S3x64.Transposes [1, 0] S64x3
  reducesTo_S64x3_S64_d1 : S64x3.ReducesTo [1] S64
  h_S_ : 0 < S_.numel
  bcast_S_S64x3x3 : S_.BroadcastsInDim S64x3x3 (![] : Fin 0 → Fin S64x3x3.rank)
  reducesTo_S64x3x3_S_d0_1_2 : S64x3x3.ReducesTo [0, 1, 2] S_
  bcast_S_S64 : S_.BroadcastsInDim S64 (![] : Fin 0 → Fin S64.rank)
  reducesTo_S64_S_d0 : S64.ReducesTo [0] S_

variable [Facts]

def fn_cross_part1 {F : FTy → Type} [FloatOps F] (v21 : FVec F S1x64 .f32) (v22 : FVec F S1x64 .f32) (v23 : FVec F S1x64 .f32) : FVec F S64x3 .f32 :=
  let v24 : FVec F S3x64 .f32 := concatenate S3x64 0 [⟨S1x64, v21⟩, ⟨S1x64, v22⟩, ⟨S1x64, v23⟩] concatenates_S1x64_S1x64_S1x64_S3x64_d0
  let v25 : FVec F S64x3 .f32 := (transpose S64x3 [1, 0] · transposes_S3x64_S64x3_1_0) v24
  v25

def fn_cross {F : FTy → Type} [FloatOps F] (arg0 : FVec F S64x3 .f32) (arg1 : FVec F S64x3 .f32) : FVec F S64x3 .f32 :=
  let v0 : FVec F S64x1 .f32 := (extractStridedSlice S64x1 ![0, 0] · slices_S64x3_S64x1_0_0) arg0
  let v1 : FVec F S64 .f32 := shapeCast S64 v0 shapeCasts_S64x1_S64
  let v2 : FVec F S64x1 .f32 := (extractStridedSlice S64x1 ![0, 1] · slices_S64x3_S64x1_0_1) arg0
  let v3 : FVec F S64 .f32 := shapeCast S64 v2 shapeCasts_S64x1_S64
  let v4 : FVec F S64x1 .f32 := (extractStridedSlice S64x1 ![0, 2] · slices_S64x3_S64x1_0_2) arg0
  let v5 : FVec F S64 .f32 := shapeCast S64 v4 shapeCasts_S64x1_S64
  let v6 : FVec F S64x1 .f32 := (extractStridedSlice S64x1 ![0, 0] · slices_S64x3_S64x1_0_0) arg1
  let v7 : FVec F S64 .f32 := shapeCast S64 v6 shapeCasts_S64x1_S64
  let v8 : FVec F S64x1 .f32 := (extractStridedSlice S64x1 ![0, 1] · slices_S64x3_S64x1_0_1) arg1
  let v9 : FVec F S64 .f32 := shapeCast S64 v8 shapeCasts_S64x1_S64
  let v10 : FVec F S64x1 .f32 := (extractStridedSlice S64x1 ![0, 2] · slices_S64x3_S64x1_0_2) arg1
  let v11 : FVec F S64 .f32 := shapeCast S64 v10 shapeCasts_S64x1_S64
  let v12 : FVec F S64 .f32 := mulf v3 v11
  let v13 : FVec F S64 .f32 := mulf v5 v9
  let v14 : FVec F S64 .f32 := subf v12 v13
  let v15 : FVec F S64 .f32 := mulf v5 v7
  let v16 : FVec F S64 .f32 := mulf v1 v11
  let v17 : FVec F S64 .f32 := subf v15 v16
  let v18 : FVec F S64 .f32 := mulf v1 v9
  let v19 : FVec F S64 .f32 := mulf v3 v7
  let v20 : FVec F S64 .f32 := subf v18 v19
  let v21 : FVec F S1x64 .f32 := broadcastInDim S1x64 ![1] bcast_S64_S1x64_1 v14
  let v22 : FVec F S1x64 .f32 := broadcastInDim S1x64 ![1] bcast_S64_S1x64_1 v17
  let v23 : FVec F S1x64 .f32 := broadcastInDim S1x64 ![1] bcast_S64_S1x64_1 v20
  fn_cross_part1 (F := F) v21 v22 v23

def fn {F : FTy → Type} [FloatOps F] (main_arg0 : FVec F S64x1x512x512 .f32) (main_arg1 : FVec F S64x3x3 .f32) (main_arg2 : FVec F S64x3 .f32) (main_arg3 : FVec F S64x2 .f32) (main_arg4 : FVec F S64x2 .f32) : IVec S_ 1 :=
  let main_v0 : FVec F S64x1x3 .f32 := (extractStridedSlice S64x1x3 ![0, 0, 0] · slices_S64x3x3_S64x1x3_0_0_0) main_arg1
  let main_v1 : FVec F S64x3 .f32 := shapeCast S64x3 main_v0 shapeCasts_S64x1x3_S64x3
  let main_v2 : FVec F S64x1x3 .f32 := (extractStridedSlice S64x1x3 ![0, 1, 0] · slices_S64x3x3_S64x1x3_0_1_0) main_arg1
  let main_v3 : FVec F S64x3 .f32 := shapeCast S64x3 main_v2 shapeCasts_S64x1x3_S64x3
  let main_v4 : FVec F S64x1x3 .f32 := (extractStridedSlice S64x1x3 ![0, 2, 0] · slices_S64x3x3_S64x1x3_0_2_0) main_arg1
  let main_v5 : FVec F S64x3 .f32 := shapeCast S64x3 main_v4 shapeCasts_S64x1x3_S64x3
  let main_v6 : FVec F S64x3 .f32 := fn_cross (F := F) main_v3 main_v5
  let main_v7 : FVec F S64x3 .f32 := mulf main_v1 main_v6
  let main_cst : FVec F S_ .f32 := constant S_ .f32 0x00000000#32
  let main_v8 : FVec F S64 .f32 := (fun x v => Host.reduceAdd x v reducesTo_S64x3_S64_d1 h_S_) main_v7 main_cst
  let main_v9 : FVec F S64x3x3 .f32 := Host.absf main_arg1
  let main_cst_0 : FVec F S_ .f32 := constant S_ .f32 0x7F800000#32
  let main_v10 : FVec F S64x3x3 .f32 := broadcastInDim S64x3x3 ![] bcast_S_S64x3x3 main_cst_0
  let main_v11 : IVec S64x3x3 1 := cmpf .olt main_v9 main_v10
  let main_c : IVec S_ 1 := constantI S_ 1 1#1
  let main_v12 : IVec S_ 1 := (fun x v => Host.reduce IntOp.andi x v reducesTo_S64x3x3_S_d0_1_2 h_S_) main_v11 main_c
  let main_cst_1 : FVec F S_ .f32 := constant S_ .f32 0x00000000#32
  let main_v13 : FVec F S64 .f32 := broadcastInDim S64 ![] bcast_S_S64 main_cst_1
  let main_v14 : IVec S64 1 := cmpf .une main_v8 main_v13
  let main_c_2 : IVec S_ 1 := constantI S_ 1 1#1
  let main_v15 : IVec S_ 1 := (fun x v => Host.reduce IntOp.andi x v reducesTo_S64_S_d0 h_S_) main_v14 main_c_2
  let main_v16 : IVec S_ 1 := andi main_v12 main_v15
  main_v16
-- ==== Kernel.lean ====
abbrev S64x1x512x512 : Shape := ⟨4, ![64, 1, 512, 512]⟩
abbrev S64x3x3 : Shape := ⟨3, ![64, 3, 3]⟩
abbrev S64x3 : Shape := ⟨2, ![64, 3]⟩
abbrev S64x2 : Shape := ⟨2, ![64, 2]⟩
abbrev S64x128x2048 : Shape := ⟨3, ![64, 128, 2048]⟩
abbrev S64x128x8 : Shape := ⟨3, ![64, 128, 8]⟩
abbrev S1x128x2048 : Shape := ⟨3, ![1, 128, 2048]⟩
abbrev S1x128x8 : Shape := ⟨3, ![1, 128, 8]⟩
abbrev S128x2048 : Shape := ⟨2, ![128, 2048]⟩
abbrev S8x2048 : Shape := ⟨2, ![8, 2048]⟩
abbrev S1x2048 : Shape := ⟨2, ![1, 2048]⟩
abbrev S2048 : Shape := ⟨1, ![2048]⟩
abbrev S8 : Shape := ⟨1, ![8]⟩
abbrev S8x1 : Shape := ⟨2, ![8, 1]⟩
abbrev S1x1x8 : Shape := ⟨3, ![1, 1, 8]⟩
abbrev S64x1x1024 : Shape := ⟨3, ![64, 1, 1024]⟩
abbrev S64x1x9 : Shape := ⟨3, ![64, 1, 9]⟩
abbrev S64x1x3 : Shape := ⟨3, ![64, 1, 3]⟩
abbrev S64x1x2 : Shape := ⟨3, ![64, 1, 2]⟩
abbrev S64x2x1x1024 : Shape := ⟨4, ![64, 2, 1, 1024]⟩
abbrev S64x3x1x1024 : Shape := ⟨4, ![64, 3, 1, 1024]⟩
abbrev S1x1x1024 : Shape := ⟨3, ![1, 1, 1024]⟩
abbrev S1x1x9 : Shape := ⟨3, ![1, 1, 9]⟩
abbrev S1x1x3 : Shape := ⟨3, ![1, 1, 3]⟩
abbrev S1x1x2 : Shape := ⟨3, ![1, 1, 2]⟩
abbrev S1x2x1x1024 : Shape := ⟨4, ![1, 2, 1, 1024]⟩
abbrev S1x3x1x1024 : Shape := ⟨4, ![1, 3, 1, 1024]⟩
abbrev S1024 : Shape := ⟨1, ![1024]⟩
abbrev S1x1x1 : Shape := ⟨3, ![1, 1, 1]⟩
abbrev S1x1x1x1024 : Shape := ⟨4, ![1, 1, 1, 1024]⟩
abbrev S_ : Shape := ⟨0, ![]⟩
abbrev S63 : Shape := ⟨1, ![63]⟩
abbrev S1 : Shape := ⟨1, ![1]⟩
abbrev S64 : Shape := ⟨1, ![64]⟩
abbrev S1x64 : Shape := ⟨2, ![1, 64]⟩
abbrev S64x1024x64 : Shape := ⟨3, ![64, 1024, 64]⟩
abbrev S1x1024x64 : Shape := ⟨3, ![1, 1024, 64]⟩
abbrev S1024x64 : Shape := ⟨2, ![1024, 64]⟩
abbrev S64x2x1024 : Shape := ⟨3, ![64, 2, 1024]⟩
abbrev S64x1024x2 : Shape := ⟨3, ![64, 1024, 2]⟩
abbrev S64x3x1024 : Shape := ⟨3, ![64, 3, 1024]⟩
abbrev S64x1024x3 : Shape := ⟨3, ![64, 1024, 3]⟩

abbrev nBuf : Space → Nat
  | .hbm => 46
  | .vmem => 16
  | .smem => 8
  | _ => 0

abbrev bufTy : (tb : Table) → Fin (tcTables nBuf tb) → BufTy
  | .hbm, ⟨0, _⟩ => ⟨S64x1x512x512, .f32⟩
  | .hbm, ⟨1, _⟩ => ⟨S64x3x3, .f32⟩
  | .hbm, ⟨2, _⟩ => ⟨S64x3, .f32⟩
  | .hbm, ⟨3, _⟩ => ⟨S64x2, .f32⟩
  | .hbm, ⟨4, _⟩ => ⟨S64x2, .f32⟩
  | .hbm, ⟨5, _⟩ => ⟨S64x128x2048, .f32⟩
  | .hbm, ⟨6, _⟩ => ⟨S64x128x8, .i32⟩
  | .hbm, ⟨7, _⟩ => ⟨S64x1x1024, .i32⟩
  | .hbm, ⟨8, _⟩ => ⟨S64x1x9, .f32⟩
  | .hbm, ⟨9, _⟩ => ⟨S64x1x3, .f32⟩
  | .hbm, ⟨10, _⟩ => ⟨S64x1x2, .f32⟩
  | .hbm, ⟨11, _⟩ => ⟨S64x1x2, .f32⟩
  | .hbm, ⟨12, _⟩ => ⟨S64x2x1x1024, .f32⟩
  | .hbm, ⟨13, _⟩ => ⟨S64x3x1x1024, .f32⟩
  | .hbm, ⟨14, _⟩ => ⟨S64x3x1x1024, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S63, .f32⟩
  | .hbm, ⟨23, _⟩ => ⟨S_, .f32⟩
  | .hbm, ⟨24, _⟩ => ⟨S63, .f32⟩
  | .hbm, ⟨25, _⟩ => ⟨S63, .f32⟩
  | .hbm, ⟨26, _⟩ => ⟨S1, .f32⟩
  | .hbm, ⟨27, _⟩ => ⟨S_, .f32⟩
  | .hbm, ⟨28, _⟩ => ⟨S63, .f32⟩
  | .hbm, ⟨29, _⟩ => ⟨S63, .f32⟩
  | .hbm, ⟨30, _⟩ => ⟨S63, .f32⟩
  | .hbm, ⟨31, _⟩ => ⟨S63, .f32⟩
  | .hbm, ⟨32, _⟩ => ⟨S1, .f32⟩
  | .hbm, ⟨33, _⟩ => ⟨S63, .f32⟩
  | .hbm, ⟨34, _⟩ => ⟨S63, .f32⟩
  | .hbm, ⟨35, _⟩ => ⟨S63, .f32⟩
  | .hbm, ⟨36, _⟩ => ⟨S1, .f32⟩
  | .hbm, ⟨37, _⟩ => ⟨S64, .f32⟩
  | .hbm, ⟨38, _⟩ => ⟨S1x64, .f32⟩
  | .hbm, ⟨39, _⟩ => ⟨S64x1024x64, .f32⟩
  | .hbm, ⟨40, _⟩ => ⟨S64x2x1024, .f32⟩
  | .hbm, ⟨41, _⟩ => ⟨S64x1024x2, .f32⟩
  | .hbm, ⟨42, _⟩ => ⟨S64x3x1024, .f32⟩
  | .hbm, ⟨43, _⟩ => ⟨S64x1024x3, .f32⟩
  | .hbm, ⟨44, _⟩ => ⟨S64x3x1024, .f32⟩
  | .hbm, ⟨45, _⟩ => ⟨S64x1024x3, .f32⟩
  | .local _ .vmem, ⟨0, _⟩ => ⟨S1x128x2048, .f32⟩
  | .local _ .vmem, ⟨1, _⟩ => ⟨S1x128x2048, .f32⟩
  | .local _ .vmem, ⟨2, _⟩ => ⟨S1x128x8, .i32⟩
  | .local _ .vmem, ⟨3, _⟩ => ⟨S1x128x8, .i32⟩
  | .local _ .vmem, ⟨4, _⟩ => ⟨S128x2048, .f32⟩
  | .local _ .vmem, ⟨5, _⟩ => ⟨S1x1x1024, .i32⟩
  | .local _ .vmem, ⟨6, _⟩ => ⟨S1x1x1024, .i32⟩
  | .local _ .vmem, ⟨7, _⟩ => ⟨S1x2x1x1024, .f32⟩
  | .local _ .vmem, ⟨8, _⟩ => ⟨S1x2x1x1024, .f32⟩
  | .local _ .vmem, ⟨9, _⟩ => ⟨S1x3x1x1024, .f32⟩
  | .local _ .vmem, ⟨10, _⟩ => ⟨S1x3x1x1024, .f32⟩
  | .local _ .vmem, ⟨11, _⟩ => ⟨S1x3x1x1024, .f32⟩
  | .local _ .vmem, ⟨12, _⟩ => ⟨S1x3x1x1024, .f32⟩
  | .local _ .vmem, ⟨13, _⟩ => ⟨S1x64, .f32⟩
  | .local _ .vmem, ⟨14, _⟩ => ⟨S1x1024x64, .f32⟩
  | .local _ .vmem, ⟨15, _⟩ => ⟨S1x1024x64, .f32⟩
  | .local _ .smem, ⟨0, _⟩ => ⟨S1x1x9, .f32⟩
  | .local _ .smem, ⟨1, _⟩ => ⟨S1x1x9, .f32⟩
  | .local _ .smem, ⟨2, _⟩ => ⟨S1x1x3, .f32⟩
  | .local _ .smem, ⟨3, _⟩ => ⟨S1x1x3, .f32⟩
  | .local _ .smem, ⟨4, _⟩ => ⟨S1x1x2, .f32⟩
  | .local _ .smem, ⟨5, _⟩ => ⟨S1x1x2, .f32⟩
  | .local _ .smem, ⟨6, _⟩ => ⟨S1x1x2, .f32⟩
  | .local _ .smem, ⟨7, _⟩ => ⟨S1x1x2, .f32⟩
  | _, _ => ⟨S64x1x512x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .smem, ⟨0, _⟩ => true
  | .smem, ⟨1, _⟩ => true
  | .smem, ⟨2, _⟩ => true
  | .smem, ⟨3, _⟩ => true
  | .smem, ⟨4, _⟩ => true
  | .smem, ⟨5, _⟩ => true
  | .smem, ⟨6, _⟩ => true
  | .smem, ⟨7, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7_0 : Ref sig .tc := ⟨.hbm, 12, rfl⟩
abbrev main_v7_1 : Ref sig .tc := ⟨.hbm, 13, rfl⟩
abbrev main_v7_2 : Ref sig .tc := ⟨.hbm, 14, rfl⟩
abbrev main_cst : Ref sig .tc := ⟨.hbm, 15, rfl⟩
abbrev main_cst_0 : Ref sig .tc := ⟨.hbm, 16, rfl⟩
abbrev main_call0_v0 : Ref sig .tc := ⟨.hbm, 17, rfl⟩
abbrev main_call0_v1 : Ref sig .tc := ⟨.hbm, 18, rfl⟩
abbrev main_call0_v2 : Ref sig .tc := ⟨.hbm, 19, rfl⟩
abbrev main_call0_cst : Ref sig .tc := ⟨.hbm, 20, rfl⟩
abbrev main_call0_v3 : Ref sig .tc := ⟨.hbm, 21, rfl⟩
abbrev main_call0_v4 : Ref sig .tc := ⟨.hbm, 22, rfl⟩
abbrev main_call0_cst_0 : Ref sig .tc := ⟨.hbm, 23, rfl⟩
abbrev main_call0_v5 : Ref sig .tc := ⟨.hbm, 24, rfl⟩
abbrev main_call0_v6 : Ref sig .tc := ⟨.hbm, 25, rfl⟩
abbrev main_call0_v7 : Ref sig .tc := ⟨.hbm, 26, rfl⟩
abbrev main_call0_cst_1 : Ref sig .tc := ⟨.hbm, 27, rfl⟩
abbrev main_call0_v8 : Ref sig .tc := ⟨.hbm, 28, rfl⟩
abbrev main_call0_v9 : Ref sig .tc := ⟨.hbm, 29, rfl⟩
abbrev main_call0_v10 : Ref sig .tc := ⟨.hbm, 30, rfl⟩
abbrev main_call0_v11 : Ref sig .tc := ⟨.hbm, 31, rfl⟩
abbrev main_call0_v12 : Ref sig .tc := ⟨.hbm, 32, rfl⟩
abbrev main_call0_v13 : Ref sig .tc := ⟨.hbm, 33, rfl⟩
abbrev main_call0_v14 : Ref sig .tc := ⟨.hbm, 34, rfl⟩
abbrev main_call0_v15 : Ref sig .tc := ⟨.hbm, 35, rfl⟩
abbrev main_call0_v16 : Ref sig .tc := ⟨.hbm, 36, rfl⟩
abbrev main_v8 : Ref sig .tc := ⟨.hbm, 37, rfl⟩
abbrev main_v9 : Ref sig .tc := ⟨.hbm, 38, rfl⟩
abbrev main_v10 : Ref sig .tc := ⟨.hbm, 39, rfl⟩
abbrev main_v11 : Ref sig .tc := ⟨.hbm, 40, rfl⟩
abbrev main_v12 : Ref sig .tc := ⟨.hbm, 41, rfl⟩
abbrev main_v13 : Ref sig .tc := ⟨.hbm, 42, rfl⟩
abbrev main_v14 : Ref sig .tc := ⟨.hbm, 43, rfl⟩
abbrev main_v15 : Ref sig .tc := ⟨.hbm, 44, rfl⟩
abbrev main_v16 : Ref sig .tc := ⟨.hbm, 45, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_scratch0 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg5_0 : Ref sig .tc := ⟨.vmem, 7, rfl⟩
abbrev cc1_stg5_1 : Ref sig .tc := ⟨.vmem, 8, rfl⟩
abbrev cc1_stg6_0 : Ref sig .tc := ⟨.vmem, 9, rfl⟩
abbrev cc1_stg6_1 : Ref sig .tc := ⟨.vmem, 10, rfl⟩
abbrev cc1_stg7_0 : Ref sig .tc := ⟨.vmem, 11, rfl⟩
abbrev cc1_stg7_1 : Ref sig .tc := ⟨.vmem, 12, rfl⟩
abbrev cc2_stg0_0 : Ref sig .tc := ⟨.vmem, 13, rfl⟩
abbrev cc2_stg1_0 : Ref sig .tc := ⟨.vmem, 14, rfl⟩
abbrev cc2_stg1_1 : Ref sig .tc := ⟨.vmem, 15, rfl⟩
abbrev cc1_stg1_0 : Ref sig .tc := ⟨.smem, 0, rfl⟩
abbrev cc1_stg1_1 : Ref sig .tc := ⟨.smem, 1, rfl⟩
abbrev cc1_stg2_0 : Ref sig .tc := ⟨.smem, 2, rfl⟩
abbrev cc1_stg2_1 : Ref sig .tc := ⟨.smem, 3, rfl⟩
abbrev cc1_stg3_0 : Ref sig .tc := ⟨.smem, 4, rfl⟩
abbrev cc1_stg3_1 : Ref sig .tc := ⟨.smem, 5, rfl⟩
abbrev cc1_stg4_0 : Ref sig .tc := ⟨.smem, 6, rfl⟩
abbrev cc1_stg4_1 : Ref sig .tc := ⟨.smem, 7, rfl⟩
abbrev cc0_sem0_0 : DmaSem sig := 0
abbrev cc0_sem0_1 : DmaSem sig := 1
abbrev cc0_sem1_0 : DmaSem sig := 2
abbrev cc0_sem1_1 : DmaSem sig := 3
abbrev cc1_sem0_0 : DmaSem sig := 4
abbrev cc1_sem0_1 : DmaSem sig := 5
abbrev cc1_sem1_0 : DmaSem sig := 6
abbrev cc1_sem1_1 : DmaSem sig := 7
abbrev cc1_sem2_0 : DmaSem sig := 8
abbrev cc1_sem2_1 : DmaSem sig := 9
abbrev cc1_sem3_0 : DmaSem sig := 10
abbrev cc1_sem3_1 : DmaSem sig := 11
abbrev cc1_sem4_0 : DmaSem sig := 12
abbrev cc1_sem4_1 : DmaSem sig := 13
abbrev cc1_sem5_0 : DmaSem sig := 14
abbrev cc1_sem5_1 : DmaSem sig := 15
abbrev cc1_sem6_0 : DmaSem sig := 16
abbrev cc1_sem6_1 : DmaSem sig := 17
abbrev cc1_sem7_0 : DmaSem sig := 18
abbrev cc1_sem7_1 : DmaSem sig := 19
abbrev cc2_sem0_0 : DmaSem sig := 20
abbrev cc2_sem1_0 : DmaSem sig := 21
abbrev cc2_sem1_1 : DmaSem sig := 22

abbrev nD : Nat := 1
abbrev τ : Topo := Topo.v7x

variable {F : FTy → Type} [FloatOps F]

abbrev grid0 : Pipeline.Grid := ⟨1, ![64], ![false]⟩

@[reducible] def k0_t1_loop : Scf.Loop 32 :=
  let c0_i32 : BitVec 32 := 0#32
  let c128_i32 : BitVec 32 := 128#32
  let v20 : BitVec 32 := Scalar.addi c0_i32 c128_i32
  let c1_i32 : BitVec 32 := 1#32
  ⟨c0_i32, v20, c1_i32⟩
@[reducible] def k0_t2_loop : Scf.Loop 32 :=
  let c0_i32_10 : BitVec 32 := 0#32
  let c128_i32_11 : BitVec 32 := 128#32
  let v27 : BitVec 32 := Scalar.addi c0_i32_10 c128_i32_11
  let c1_i32_12 : BitVec 32 := 1#32
  ⟨c0_i32_10, v27, c1_i32_12⟩
def k0_off1 (k0_t2 : Fin k0_t2_loop.trips) : Fin 2 → Nat :=
  let c0_i32_10 : BitVec 32 := 0#32
  let c1_i32_12 : BitVec 32 := 1#32
  let arg5 : BitVec 32 := Scf.iv c0_i32_10 c1_i32_12 k0_t2
  let v215 : Index := Scalar.indexCast arg5
  let c0_55 : Index := 0#32
  ![v215.toNat, 0]
def k0_off2 (k0_t1 : Fin k0_t1_loop.trips) : Fin 3 → Nat :=
  let c0_16 : Index := 0#32
  let c0_i32 : BitVec 32 := 0#32
  let c1_i32 : BitVec 32 := 1#32
  let arg4 : BitVec 32 := Scf.iv c0_i32 c1_i32 k0_t1
  let v36 : Index := Scalar.indexCast arg4
  let c0_17 : Index := 0#32
  ![0, v36.toNat, 0]
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x128x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x128x8 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev grid1 : Pipeline.Grid := ⟨1, ![64], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_3 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_4 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_5 (i : grid1.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc1_transform_6 (i : grid1.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc1_transform_7 (i : grid1.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage1_0 : Fin 2 → Memref sig .tc .vmem S1x1x1024 .i32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .smem S1x1x9 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .smem S1x1x3 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .smem S1x1x2 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .smem S1x1x2 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S1x2x1x1024 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S1x3x1x1024 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev stage1_7 : Fin 2 → Memref sig .tc .vmem S1x3x1x1024 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev grid2 : Pipeline.Grid := ⟨1, ![64], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_1 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage2_0 : Fin 1 → Memref sig .tc .vmem S1x64 .f32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))
abbrev reads2_0 : Fin grid2.rank → Bool := ![false]

abbrev stage2_1 : Fin 2 → Memref sig .tc .vmem S1x1024x64 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]
-- ==== ReferenceIdeal.lean ====
abbrev S64x1x512x512 : Shape := ⟨4, ![64, 1, 512, 512]⟩
abbrev S64x3x3 : Shape := ⟨3, ![64, 3, 3]⟩
abbrev S64x3 : Shape := ⟨2, ![64, 3]⟩
abbrev S64x2 : Shape := ⟨2, ![64, 2]⟩
abbrev S_ : Shape := ⟨0, ![]⟩
abbrev S2 : Shape := ⟨1, ![2]⟩
abbrev S1 : Shape := ⟨1, ![1]⟩
abbrev S64x512x512 : Shape := ⟨3, ![64, 512, 512]⟩
abbrev S64x262144 : Shape := ⟨2, ![64, 262144]⟩
abbrev S64x1024x262144 : Shape := ⟨3, ![64, 1024, 262144]⟩
abbrev S64x1x262144 : Shape := ⟨3, ![64, 1, 262144]⟩
abbrev S64x1024 : Shape := ⟨2, ![64, 1024]⟩
abbrev S64x1024x1 : Shape := ⟨3, ![64, 1024, 1]⟩
abbrev S511 : Shape := ⟨1, ![511]⟩
abbrev S512 : Shape := ⟨1, ![512]⟩
abbrev S512x512 : Shape := ⟨2, ![512, 512]⟩
abbrev S512x512x1 : Shape := ⟨3, ![512, 512, 1]⟩
abbrev S512x512x2 : Shape := ⟨3, ![512, 512, 2]⟩
abbrev S262144x2 : Shape := ⟨2, ![262144, 2]⟩
abbrev S1x1x1 : Shape := ⟨3, ![1, 1, 1]⟩
abbrev S64x1024x2 : Shape := ⟨3, ![64, 1024, 2]⟩
abbrev S64x1x2 : Shape := ⟨3, ![64, 1, 2]⟩
abbrev S64x1024x3 : Shape := ⟨3, ![64, 1024, 3]⟩
abbrev S3x3 : Shape := ⟨2, ![3, 3]⟩
abbrev S64x3x6 : Shape := ⟨3, ![64, 3, 6]⟩
abbrev S3 : Shape := ⟨1, ![3]⟩
abbrev S1x3 : Shape := ⟨2, ![1, 3]⟩
abbrev S64x3x1 : Shape := ⟨3, ![64, 3, 1]⟩
abbrev S64 : Shape := ⟨1, ![64]⟩
abbrev S64x1 : Shape := ⟨2, ![64, 1]⟩
abbrev S64x1x6 : Shape := ⟨3, ![64, 1, 6]⟩
abbrev S64x1x1 : Shape := ⟨3, ![64, 1, 1]⟩
abbrev S1x3x1 : Shape := ⟨3, ![1, 3, 1]⟩
abbrev S64x1x3 : Shape := ⟨3, ![64, 1, 3]⟩
abbrev S63 : Shape := ⟨1, ![63]⟩
abbrev S64x1024x64 : Shape := ⟨3, ![64, 1024, 64]⟩
abbrev S1x1x64 : Shape := ⟨3, ![1, 1, 64]⟩

abbrev nBuf : Space → Nat
  | .hbm => 1126
  | .vmem => 0
  | .smem => 0
  | _ => 0

abbrev hbmTy0_0 (i : Nat) : BufTy := match i % 128 with
  | 0 => ⟨S64x1x512x512, .f32⟩
  | 1 => ⟨S64x3x3, .f32⟩
  | 2 => ⟨S64x3, .f32⟩
  | 3 => ⟨S64x2, .f32⟩
  | 4 => ⟨S64x2, .f32⟩
  | 5 => ⟨S_, .i32⟩
  | 6 => ⟨S2, .i32⟩
  | 7 => ⟨S2, .i32⟩
  | 8 => ⟨S_, .i32⟩
  | 9 => ⟨S_, .i32⟩
  | 10 => ⟨S_, .i32⟩
  | 11 => ⟨S_, .i32⟩
  | 12 => ⟨S_, .i32⟩
  | 13 => ⟨S_, .i32⟩
  | 14 => ⟨S2, .i32⟩
  | 15 => ⟨S2, .i32⟩
  | 16 => ⟨S_, .i32⟩
  | 17 => ⟨S2, .i32⟩
  | 18 => ⟨S2, .i32⟩
  | 19 => ⟨S2, .i32⟩
  | 20 => ⟨S_, .i32⟩
  | 21 => ⟨S2, .i32⟩
  | 22 => ⟨S2, .i32⟩
  | 23 => ⟨S_, .i32⟩
  | 24 => ⟨S2, .i32⟩
  | 25 => ⟨S2, .i32⟩
  | 26 => ⟨S2, .i32⟩
  | 27 => ⟨S2, .i32⟩
  | 28 => ⟨S2, .i32⟩
  | 29 => ⟨S_, .i32⟩
  | 30 => ⟨S2, .i32⟩
  | 31 => ⟨S2, .i32⟩
  | 32 => ⟨S_, .i32⟩
  | 33 => ⟨S2, .i32⟩
  | 34 => ⟨S2, .i32⟩
  | 35 => ⟨S2, .i32⟩
  | 36 => ⟨S2, .i32⟩
  | 37 => ⟨S2, .i32⟩
  | 38 => ⟨S_, .i32⟩
  | 39 => ⟨S2, .i32⟩
  | 40 => ⟨S2, .i32⟩
  | 41 => ⟨S_, .i32⟩
  | 42 => ⟨S2, .i32⟩
  | 43 => ⟨S2, .i32⟩
  | 44 => ⟨S2, .i32⟩
  | 45 => ⟨S2, .i32⟩
  | 46 => ⟨S2, .i32⟩
  | 47 => ⟨S_, .i32⟩
  | 48 => ⟨S2, .i32⟩
  | 49 => ⟨S2, .i32⟩
  | 50 => ⟨S_, .i32⟩
  | 51 => ⟨S2, .i32⟩
  | 52 => ⟨S2, .i32⟩
  | 53 => ⟨S2, .i32⟩
  | 54 => ⟨S2, .i32⟩
  | 55 => ⟨S_, .i32⟩
  | 56 => ⟨S2, .i32⟩
  | 57 => ⟨S2, .i32⟩
  | 58 => ⟨S_, .i32⟩
  | 59 => ⟨S_, .i32⟩
  | 60 => ⟨S2, .i32⟩
  | 61 => ⟨S2, .i32⟩
  | 62 => ⟨S2, .i32⟩
  | 63 => ⟨S_, .i32⟩
  | 64 => ⟨S2, .i32⟩
  | 65 => ⟨S2, .i32⟩
  | 66 => ⟨S_, .i32⟩
  | 67 => ⟨S2, .i32⟩
  | 68 => ⟨S2, .i32⟩
  | 69 => ⟨S2, .i32⟩
  | 70 => ⟨S2, .i32⟩
  | 71 => ⟨S2, .i32⟩
  | 72 => ⟨S_, .i32⟩
  | 73 => ⟨S2, .i32⟩
  | 74 => ⟨S2, .i32⟩
  | 75 => ⟨S_, .i32⟩
  | 76 => ⟨S2, .i32⟩
  | 77 => ⟨S2, .i32⟩
  | 78 => ⟨S2, .i32⟩
  | 79 => ⟨S2, .i32⟩
  | 80 => ⟨S2, .i32⟩
  | 81 => ⟨S_, .i32⟩
  | 82 => ⟨S2, .i32⟩
  | 83 => ⟨S2, .i32⟩
  | 84 => ⟨S_, .i32⟩
  | 85 => ⟨S2, .i32⟩
  | 86 => ⟨S2, .i32⟩
  | 87 => ⟨S2, .i32⟩
  | 88 => ⟨S2, .i32⟩
  | 89 => ⟨S2, .i32⟩
  | 90 => ⟨S_, .i32⟩
  | 91 => ⟨S2, .i32⟩
  | 92 => ⟨S2, .i32⟩
  | 93 => ⟨S_, .i32⟩
  | 94 => ⟨S2, .i32⟩
  | 95 => ⟨S2, .i32⟩
  | 96 => ⟨S2, .i32⟩
  | 97 => ⟨S2, .i32⟩
  | 98 => ⟨S2, .i32⟩
  | 99 => ⟨S2, .i32⟩
  | 100 => ⟨S_, .i32⟩
  | 101 => ⟨S_, .i32⟩
  | 102 => ⟨S_, .i32⟩
  | 103 => ⟨S2, .i32⟩
  | 104 => ⟨S2, .i32⟩
  | 105 => ⟨S2, .i32⟩
  | 106 => ⟨S_, .i32⟩
  | 107 => ⟨S2, .i32⟩
  | 108 => ⟨S2, .i32⟩
  | 109 => ⟨S_, .i32⟩
  | 110 => ⟨S2, .i32⟩
  | 111 => ⟨S2, .i32⟩
  | 112 => ⟨S2, .i32⟩
  | 113 => ⟨S2, .i32⟩
  | 114 => ⟨S2, .i32⟩
  | 115 => ⟨S_, .i32⟩
  | 116 => ⟨S2, .i32⟩
  | 117 => ⟨S2, .i32⟩
  | 118 => ⟨S_, .i32⟩
  | 119 => ⟨S2, .i32⟩
  | 120 => ⟨S2, .i32⟩
  | 121 => ⟨S2, .i32⟩
  | 122 => ⟨S2, .i32⟩
  | 123 => ⟨S2, .i32⟩
  | 124 => ⟨S_, .i32⟩
  | 125 => ⟨S2, .i32⟩
  | 126 => ⟨S2, .i32⟩
  | 127 => ⟨S_, .i32⟩
  | _ => ⟨S64x1x512x512, .f32⟩

abbrev hbmTy0_1 (i : Nat) : BufTy := match i % 128 with
  | 0 => ⟨S2, .i32⟩
  | 1 => ⟨S2, .i32⟩
  | 2 => ⟨S2, .i32⟩
  | 3 => ⟨S2, .i32⟩
  | 4 => ⟨S2, .i32⟩
  | 5 => ⟨S_, .i32⟩
  | 6 => ⟨S2, .i32⟩
  | 7 => ⟨S2, .i32⟩
  | 8 => ⟨S_, .i32⟩
  | 9 => ⟨S2, .i32⟩
  | 10 => ⟨S2, .i32⟩
  | 11 => ⟨S2, .i32⟩
  | 12 => ⟨S2, .i32⟩
  | 13 => ⟨S_, .i32⟩
  | 14 => ⟨S2, .i32⟩
  | 15 => ⟨S2, .i32⟩
  | 16 => ⟨S_, .i32⟩
  | 17 => ⟨S_, .i32⟩
  | 18 => ⟨S_, .i32⟩
  | 19 => ⟨S2, .i32⟩
  | 20 => ⟨S2, .i32⟩
  | 21 => ⟨S2, .i32⟩
  | 22 => ⟨S_, .i32⟩
  | 23 => ⟨S2, .i32⟩
  | 24 => ⟨S2, .i32⟩
  | 25 => ⟨S_, .i32⟩
  | 26 => ⟨S2, .i32⟩
  | 27 => ⟨S2, .i32⟩
  | 28 => ⟨S2, .i32⟩
  | 29 => ⟨S2, .i32⟩
  | 30 => ⟨S2, .i32⟩
  | 31 => ⟨S_, .i32⟩
  | 32 => ⟨S2, .i32⟩
  | 33 => ⟨S2, .i32⟩
  | 34 => ⟨S_, .i32⟩
  | 35 => ⟨S2, .i32⟩
  | 36 => ⟨S2, .i32⟩
  | 37 => ⟨S2, .i32⟩
  | 38 => ⟨S2, .i32⟩
  | 39 => ⟨S2, .i32⟩
  | 40 => ⟨S_, .i32⟩
  | 41 => ⟨S2, .i32⟩
  | 42 => ⟨S2, .i32⟩
  | 43 => ⟨S_, .i32⟩
  | 44 => ⟨S2, .i32⟩
  | 45 => ⟨S2, .i32⟩
  | 46 => ⟨S2, .i32⟩
  | 47 => ⟨S2, .i32⟩
  | 48 => ⟨S2, .i32⟩
  | 49 => ⟨S_, .i32⟩
  | 50 => ⟨S2, .i32⟩
  | 51 => ⟨S2, .i32⟩
  | 52 => ⟨S_, .i32⟩
  | 53 => ⟨S2, .i32⟩
  | 54 => ⟨S2, .i32⟩
  | 55 => ⟨S2, .i32⟩
  | 56 => ⟨S2, .i32⟩
  | 57 => ⟨S_, .i32⟩
  | 58 => ⟨S2, .i32⟩
  | 59 => ⟨S2, .i32⟩
  | 60 => ⟨S_, .i32⟩
  | 61 => ⟨S_, .i32⟩
  | 62 => ⟨S2, .i32⟩
  | 63 => ⟨S2, .i32⟩
  | 64 => ⟨S2, .i32⟩
  | 65 => ⟨S_, .i32⟩
  | 66 => ⟨S2, .i32⟩
  | 67 => ⟨S2, .i32⟩
  | 68 => ⟨S_, .i32⟩
  | 69 => ⟨S2, .i32⟩
  | 70 => ⟨S2, .i32⟩
  | 71 => ⟨S2, .i32⟩
  | 72 => ⟨S2, .i32⟩
  | 73 => ⟨S2, .i32⟩
  | 74 => ⟨S_, .i32⟩
  | 75 => ⟨S2, .i32⟩
  | 76 => ⟨S2, .i32⟩
  | 77 => ⟨S_, .i32⟩
  | 78 => ⟨S2, .i32⟩
  | 79 => ⟨S2, .i32⟩
  | 80 => ⟨S2, .i32⟩
  | 81 => ⟨S2, .i32⟩
  | 82 => ⟨S2, .i32⟩
  | 83 => ⟨S_, .i32⟩
  | 84 => ⟨S2, .i32⟩
  | 85 => ⟨S2, .i32⟩
  | 86 => ⟨S_, .i32⟩
  | 87 => ⟨S2, .i32⟩
  | 88 => ⟨S2, .i32⟩
  | 89 => ⟨S2, .i32⟩
  | 90 => ⟨S2, .i32⟩
  | 91 => ⟨S2, .i32⟩
  | 92 => ⟨S_, .i32⟩
  | 93 => ⟨S2, .i32⟩
  | 94 => ⟨S2, .i32⟩
  | 95 => ⟨S_, .i32⟩
  | 96 => ⟨S2, .i32⟩
  | 97 => ⟨S2, .i32⟩
  | 98 => ⟨S2, .i32⟩
  | 99 => ⟨S2, .i32⟩
  | 100 => ⟨S2, .i32⟩
  | 101 => ⟨S2, .i32⟩
  | 102 => ⟨S_, .i32⟩
  | 103 => ⟨S_, .i32⟩
  | 104 => ⟨S_, .i32⟩
  | 105 => ⟨S2, .i32⟩
  | 106 => ⟨S2, .i32⟩
  | 107 => ⟨S1, .i32⟩
  | 108 => ⟨S_, .i32⟩
  | 109 => ⟨S1, .i32⟩
  | 110 => ⟨S_, .i32⟩
  | 111 => ⟨S1, .i32⟩
  | 112 => ⟨S_, .i32⟩
  | 113 => ⟨S1, .i32⟩
  | 114 => ⟨S_, .i32⟩
  | 115 => ⟨S64x512x512, .f32⟩
  | 116 => ⟨S64x262144, .f32⟩
  | 117 => ⟨S_, .f32⟩
  | 118 => ⟨S64x262144, .f32⟩
  | 119 => ⟨S64x262144, .f32⟩
  | 120 => ⟨S64x262144, .f32⟩
  | 121 => ⟨S64x1024x262144, .i32⟩
  | 122 => ⟨S64x1024x262144, .i32⟩
  | 123 => ⟨S64x1024x262144, .i32⟩
  | 124 => ⟨S_, .i32⟩
  | 125 => ⟨S64x1024x262144, .i32⟩
  | 126 => ⟨S64x1024x262144, .i32⟩
  | 127 => ⟨S_, .i32⟩
  | _ => ⟨S64x1x512x512, .f32⟩

abbrev hbmTy0_2 (i : Nat) : BufTy := match i % 128 with
  | 0 => ⟨S64x1024x262144, .i32⟩
  | 1 => ⟨S64x1024x262144, .i32⟩
  | 2 => ⟨S_, .i32⟩
  | 3 => ⟨S64x1024x262144, .i32⟩
  | 4 => ⟨S64x1024x262144, .i32⟩
  | 5 => ⟨S64x1024x262144, .i32⟩
  | 6 => ⟨S64x1024x262144, .i32⟩
  | 7 => ⟨S_, .i32⟩
  | 8 => ⟨S_, .i32⟩
  | 9 => ⟨S_, .i32⟩
  | 10 => ⟨S64x1024x262144, .i32⟩
  | 11 => ⟨S64x1024x262144, .i32⟩
  | 12 => ⟨S64x1024x262144, .i32⟩
  | 13 => ⟨S64x1024x262144, .i32⟩
  | 14 => ⟨S64x1024x262144, .i32⟩
  | 15 => ⟨S_, .i32⟩
  | 16 => ⟨S64x1024x262144, .i32⟩
  | 17 => ⟨S64x1024x262144, .i32⟩
  | 18 => ⟨S_, .i32⟩
  | 19 => ⟨S64x1024x262144, .i32⟩
  | 20 => ⟨S64x1024x262144, .i32⟩
  | 21 => ⟨S64x1024x262144, .i32⟩
  | 22 => ⟨S64x1024x262144, .i32⟩
  | 23 => ⟨S64x1024x262144, .i32⟩
  | 24 => ⟨S_, .i32⟩
  | 25 => ⟨S64x1024x262144, .i32⟩
  | 26 => ⟨S64x1024x262144, .i32⟩
  | 27 => ⟨S_, .i32⟩
  | 28 => ⟨S64x1024x262144, .i32⟩
  | 29 => ⟨S64x1024x262144, .i32⟩
  | 30 => ⟨S64x1024x262144, .i32⟩
  | 31 => ⟨S64x1024x262144, .i32⟩
  | 32 => ⟨S64x1024x262144, .i32⟩
  | 33 => ⟨S_, .i32⟩
  | 34 => ⟨S64x1024x262144, .i32⟩
  | 35 => ⟨S64x1024x262144, .i32⟩
  | 36 => ⟨S_, .i32⟩
  | 37 => ⟨S64x1024x262144, .i32⟩
  | 38 => ⟨S64x1024x262144, .i32⟩
  | 39 => ⟨S64x1024x262144, .i32⟩
  | 40 => ⟨S64x1024x262144, .i32⟩
  | 41 => ⟨S64x1024x262144, .i32⟩
  | 42 => ⟨S_, .i32⟩
  | 43 => ⟨S64x1024x262144, .i32⟩
  | 44 => ⟨S64x1024x262144, .i32⟩
  | 45 => ⟨S_, .i32⟩
  | 46 => ⟨S64x1024x262144, .i32⟩
  | 47 => ⟨S64x1024x262144, .i32⟩
  | 48 => ⟨S64x1024x262144, .i32⟩
  | 49 => ⟨S64x1024x262144, .i32⟩
  | 50 => ⟨S64x1024x262144, .i32⟩
  | 51 => ⟨S64x1024x262144, .i32⟩
  | 52 => ⟨S_, .i32⟩
  | 53 => ⟨S_, .i32⟩
  | 54 => ⟨S64x1024x262144, .i32⟩
  | 55 => ⟨S64x1024x262144, .i32⟩
  | 56 => ⟨S64x1024x262144, .i32⟩
  | 57 => ⟨S_, .i32⟩
  | 58 => ⟨S64x1024x262144, .i32⟩
  | 59 => ⟨S64x1024x262144, .i32⟩
  | 60 => ⟨S_, .i32⟩
  | 61 => ⟨S64x1024x262144, .i32⟩
  | 62 => ⟨S64x1024x262144, .i32⟩
  | 63 => ⟨S64x1024x262144, .i32⟩
  | 64 => ⟨S64x1024x262144, .i32⟩
  | 65 => ⟨S64x1024x262144, .i32⟩
  | 66 => ⟨S_, .i32⟩
  | 67 => ⟨S64x1024x262144, .i32⟩
  | 68 => ⟨S64x1024x262144, .i32⟩
  | 69 => ⟨S_, .i32⟩
  | 70 => ⟨S64x1024x262144, .i32⟩
  | 71 => ⟨S64x1024x262144, .i32⟩
  | 72 => ⟨S64x1024x262144, .i32⟩
  | 73 => ⟨S64x1024x262144, .i32⟩
  | 74 => ⟨S64x1024x262144, .i32⟩
  | 75 => ⟨S_, .i32⟩
  | 76 => ⟨S64x1024x262144, .i32⟩
  | 77 => ⟨S64x1024x262144, .i32⟩
  | 78 => ⟨S_, .i32⟩
  | 79 => ⟨S64x1024x262144, .i32⟩
  | 80 => ⟨S64x1024x262144, .i32⟩
  | 81 => ⟨S64x1024x262144, .i32⟩
  | 82 => ⟨S64x1024x262144, .i32⟩
  | 83 => ⟨S64x1024x262144, .i32⟩
  | 84 => ⟨S_, .i32⟩
  | 85 => ⟨S64x1024x262144, .i32⟩
  | 86 => ⟨S64x1024x262144, .i32⟩
  | 87 => ⟨S_, .i32⟩
  | 88 => ⟨S64x1024x262144, .i32⟩
  | 89 => ⟨S64x1024x262144, .i32⟩
  | 90 => ⟨S64x1024x262144, .i32⟩
  | 91 => ⟨S64x1024x262144, .i32⟩
  | 92 => ⟨S64x1024x262144, .i32⟩
  | 93 => ⟨S64x1024x262144, .i32⟩
  | 94 => ⟨S_, .i32⟩
  | 95 => ⟨S_, .i32⟩
  | 96 => ⟨S64x1024x262144, .i32⟩
  | 97 => ⟨S64x1024x262144, .i32⟩
  | 98 => ⟨S64x1024x262144, .i32⟩
  | 99 => ⟨S_, .i32⟩
  | 100 => ⟨S64x1024x262144, .i32⟩
  | 101 => ⟨S64x1024x262144, .i32⟩
  | 102 => ⟨S_, .i32⟩
  | 103 => ⟨S64x1024x262144, .i32⟩
  | 104 => ⟨S64x1024x262144, .i32⟩
  | 105 => ⟨S64x1024x262144, .i32⟩
  | 106 => ⟨S64x1024x262144, .i32⟩
  | 107 => ⟨S64x1024x262144, .i32⟩
  | 108 => ⟨S_, .i32⟩
  | 109 => ⟨S64x1024x262144, .i32⟩
  | 110 => ⟨S64x1024x262144, .i32⟩
  | 111 => ⟨S_, .i32⟩
  | 112 => ⟨S64x1024x262144, .i32⟩
  | 113 => ⟨S64x1024x262144, .i32⟩
  | 114 => ⟨S64x1024x262144, .i32⟩
  | 115 => ⟨S64x1024x262144, .i32⟩
  | 116 => ⟨S64x1024x262144, .i32⟩
  | 117 => ⟨S_, .i32⟩
  | 118 => ⟨S64x1024x262144, .i32⟩
  | 119 => ⟨S64x1024x262144, .i32⟩
  | 120 => ⟨S_, .i32⟩
  | 121 => ⟨S64x1024x262144, .i32⟩
  | 122 => ⟨S64x1024x262144, .i32⟩
  | 123 => ⟨S64x1024x262144, .i32⟩
  | 124 => ⟨S64x1024x262144, .i32⟩
  | 125 => ⟨S64x1024x262144, .i32⟩
  | 126 => ⟨S_, .i32⟩
  | 127 => ⟨S64x1024x262144, .i32⟩
  | _ => ⟨S64x1x512x512, .f32⟩

abbrev hbmTy0_3 (i : Nat) : BufTy := match i % 128 with
  | 0 => ⟨S64x1024x262144, .i32⟩
  | 1 => ⟨S_, .i32⟩
  | 2 => ⟨S64x1024x262144, .i32⟩
  | 3 => ⟨S64x1024x262144, .i32⟩
  | 4 => ⟨S64x1024x262144, .i32⟩
  | 5 => ⟨S64x1024x262144, .i32⟩
  | 6 => ⟨S64x1024x262144, .i32⟩
  | 7 => ⟨S64x1024x262144, .i32⟩
  | 8 => ⟨S_, .i32⟩
  | 9 => ⟨S_, .i32⟩
  | 10 => ⟨S64x1024x262144, .i32⟩
  | 11 => ⟨S64x1024x262144, .i32⟩
  | 12 => ⟨S64x1024x262144, .i32⟩
  | 13 => ⟨S_, .i32⟩
  | 14 => ⟨S64x1024x262144, .i32⟩
  | 15 => ⟨S64x1024x262144, .i32⟩
  | 16 => ⟨S_, .i32⟩
  | 17 => ⟨S64x1024x262144, .i32⟩
  | 18 => ⟨S64x1024x262144, .i32⟩
  | 19 => ⟨S64x1024x262144, .i32⟩
  | 20 => ⟨S64x1024x262144, .i32⟩
  | 21 => ⟨S64x1024x262144, .i32⟩
  | 22 => ⟨S_, .i32⟩
  | 23 => ⟨S64x1024x262144, .i32⟩
  | 24 => ⟨S64x1024x262144, .i32⟩
  | 25 => ⟨S_, .i32⟩
  | 26 => ⟨S64x1024x262144, .i32⟩
  | 27 => ⟨S64x1024x262144, .i32⟩
  | 28 => ⟨S64x1024x262144, .i32⟩
  | 29 => ⟨S64x1024x262144, .i32⟩
  | 30 => ⟨S64x1024x262144, .i32⟩
  | 31 => ⟨S_, .i32⟩
  | 32 => ⟨S64x1024x262144, .i32⟩
  | 33 => ⟨S64x1024x262144, .i32⟩
  | 34 => ⟨S_, .i32⟩
  | 35 => ⟨S64x1024x262144, .i32⟩
  | 36 => ⟨S64x1024x262144, .i32⟩
  | 37 => ⟨S64x1024x262144, .i32⟩
  | 38 => ⟨S64x1024x262144, .i32⟩
  | 39 => ⟨S64x1024x262144, .i32⟩
  | 40 => ⟨S_, .i32⟩
  | 41 => ⟨S64x1024x262144, .i32⟩
  | 42 => ⟨S64x1024x262144, .i32⟩
  | 43 => ⟨S_, .i32⟩
  | 44 => ⟨S64x1024x262144, .i32⟩
  | 45 => ⟨S64x1024x262144, .i32⟩
  | 46 => ⟨S64x1024x262144, .i32⟩
  | 47 => ⟨S64x1024x262144, .i32⟩
  | 48 => ⟨S64x1024x262144, .i32⟩
  | 49 => ⟨S64x1024x262144, .i32⟩
  | 50 => ⟨S_, .i32⟩
  | 51 => ⟨S_, .i32⟩
  | 52 => ⟨S64x1024x262144, .i32⟩
  | 53 => ⟨S64x1024x262144, .i32⟩
  | 54 => ⟨S64x1024x262144, .i32⟩
  | 55 => ⟨S_, .i32⟩
  | 56 => ⟨S64x1024x262144, .i32⟩
  | 57 => ⟨S64x1024x262144, .i32⟩
  | 58 => ⟨S_, .i32⟩
  | 59 => ⟨S64x1024x262144, .i32⟩
  | 60 => ⟨S64x1024x262144, .i32⟩
  | 61 => ⟨S64x1024x262144, .i32⟩
  | 62 => ⟨S64x1024x262144, .i32⟩
  | 63 => ⟨S64x1024x262144, .i32⟩
  | 64 => ⟨S_, .i32⟩
  | 65 => ⟨S64x1024x262144, .i32⟩
  | 66 => ⟨S64x1024x262144, .i32⟩
  | 67 => ⟨S_, .i32⟩
  | 68 => ⟨S64x1024x262144, .i32⟩
  | 69 => ⟨S64x1024x262144, .i32⟩
  | 70 => ⟨S64x1024x262144, .i32⟩
  | 71 => ⟨S64x1024x262144, .i32⟩
  | 72 => ⟨S64x1024x262144, .i32⟩
  | 73 => ⟨S_, .i32⟩
  | 74 => ⟨S64x1024x262144, .i32⟩
  | 75 => ⟨S64x1024x262144, .i32⟩
  | 76 => ⟨S_, .i32⟩
  | 77 => ⟨S64x1024x262144, .i32⟩
  | 78 => ⟨S64x1024x262144, .i32⟩
  | 79 => ⟨S64x1024x262144, .i32⟩
  | 80 => ⟨S64x1024x262144, .i32⟩
  | 81 => ⟨S64x1024x262144, .i32⟩
  | 82 => ⟨S_, .i32⟩
  | 83 => ⟨S64x1024x262144, .i32⟩
  | 84 => ⟨S64x1024x262144, .i32⟩
  | 85 => ⟨S_, .i32⟩
  | 86 => ⟨S64x1024x262144, .i32⟩
  | 87 => ⟨S64x1024x262144, .i32⟩
  | 88 => ⟨S64x1024x262144, .i32⟩
  | 89 => ⟨S64x1024x262144, .i32⟩
  | 90 => ⟨S64x1024x262144, .i32⟩
  | 91 => ⟨S64x1024x262144, .i32⟩
  | 92 => ⟨S_, .i32⟩
  | 93 => ⟨S_, .i32⟩
  | 94 => ⟨S64x1024x262144, .i32⟩
  | 95 => ⟨S64x1024x262144, .i32⟩
  | 96 => ⟨S64x1024x262144, .i32⟩
  | 97 => ⟨S_, .i32⟩
  | 98 => ⟨S64x1024x262144, .i32⟩
  | 99 => ⟨S64x1024x262144, .i32⟩
  | 100 => ⟨S_, .i32⟩
  | 101 => ⟨S64x1024x262144, .i32⟩
  | 102 => ⟨S64x1024x262144, .i32⟩
  | 103 => ⟨S64x1024x262144, .f32⟩
  | 104 => ⟨S_, .f32⟩
  | 105 => ⟨S64x1024x262144, .f32⟩
  | 106 => ⟨S64x1024x262144, .f32⟩
  | 107 => ⟨S_, .f32⟩
  | 108 => ⟨S64x1024x262144, .f32⟩
  | 109 => ⟨S64x1024x262144, .f32⟩
  | 110 => ⟨S64x1024x262144, .f32⟩
  | 111 => ⟨S64x1024x262144, .f32⟩
  | 112 => ⟨S64x1024x262144, .f32⟩
  | 113 => ⟨S64x1024x262144, .f32⟩
  | 114 => ⟨S64x1x262144, .f32⟩
  | 115 => ⟨S64x1024x262144, .f32⟩
  | 116 => ⟨S64x1024x262144, .f32⟩
  | 117 => ⟨S64x1024x262144, .i32⟩
  | 118 => ⟨S_, .f32⟩
  | 119 => ⟨S64x1024, .f32⟩
  | 120 => ⟨S64x1024x1, .f32⟩
  | 121 => ⟨S64x1024x262144, .f32⟩
  | 122 => ⟨S64x1024x262144, .i1⟩
  | 123 => ⟨S_, .i32⟩
  | 124 => ⟨S_, .i32⟩
  | 125 => ⟨S64x1024x262144, .i32⟩
  | 126 => ⟨S64x1024x262144, .i32⟩
  | 127 => ⟨S_, .i32⟩
  | _ => ⟨S64x1x512x512, .f32⟩

abbrev hbmTy0_4 (i : Nat) : BufTy := match i % 128 with
  | 0 => ⟨S64x1024, .i32⟩
  | 1 => ⟨S_, .f32⟩
  | 2 => ⟨S_, .f32⟩
  | 3 => ⟨S_, .f32⟩
  | 4 => ⟨S_, .f32⟩
  | 5 => ⟨S_, .f32⟩
  | 6 => ⟨S_, .f32⟩
  | 7 => ⟨S_, .f32⟩
  | 8 => ⟨S511, .f32⟩
  | 9 => ⟨S_, .f32⟩
  | 10 => ⟨S511, .f32⟩
  | 11 => ⟨S511, .f32⟩
  | 12 => ⟨S1, .f32⟩
  | 13 => ⟨S_, .f32⟩
  | 14 => ⟨S511, .f32⟩
  | 15 => ⟨S511, .f32⟩
  | 16 => ⟨S511, .f32⟩
  | 17 => ⟨S511, .f32⟩
  | 18 => ⟨S1, .f32⟩
  | 19 => ⟨S511, .f32⟩
  | 20 => ⟨S511, .f32⟩
  | 21 => ⟨S511, .f32⟩
  | 22 => ⟨S1, .f32⟩
  | 23 => ⟨S512, .f32⟩
  | 24 => ⟨S_, .f32⟩
  | 25 => ⟨S_, .f32⟩
  | 26 => ⟨S_, .f32⟩
  | 27 => ⟨S_, .f32⟩
  | 28 => ⟨S_, .f32⟩
  | 29 => ⟨S_, .f32⟩
  | 30 => ⟨S_, .f32⟩
  | 31 => ⟨S511, .f32⟩
  | 32 => ⟨S_, .f32⟩
  | 33 => ⟨S511, .f32⟩
  | 34 => ⟨S511, .f32⟩
  | 35 => ⟨S1, .f32⟩
  | 36 => ⟨S_, .f32⟩
  | 37 => ⟨S511, .f32⟩
  | 38 => ⟨S511, .f32⟩
  | 39 => ⟨S511, .f32⟩
  | 40 => ⟨S511, .f32⟩
  | 41 => ⟨S1, .f32⟩
  | 42 => ⟨S511, .f32⟩
  | 43 => ⟨S511, .f32⟩
  | 44 => ⟨S511, .f32⟩
  | 45 => ⟨S1, .f32⟩
  | 46 => ⟨S512, .f32⟩
  | 47 => ⟨S512x512, .f32⟩
  | 48 => ⟨S512x512, .f32⟩
  | 49 => ⟨S512x512x1, .f32⟩
  | 50 => ⟨S512x512x1, .f32⟩
  | 51 => ⟨S512x512x2, .f32⟩
  | 52 => ⟨S262144x2, .f32⟩
  | 53 => ⟨S_, .i32⟩
  | 54 => ⟨S64x1024, .i32⟩
  | 55 => ⟨S64x1024, .i1⟩
  | 56 => ⟨S_, .i32⟩
  | 57 => ⟨S64x1024, .i32⟩
  | 58 => ⟨S64x1024, .i32⟩
  | 59 => ⟨S64x1024, .i32⟩
  | 60 => ⟨S64x1024x1, .i32⟩
  | 61 => ⟨S1, .i32⟩
  | 62 => ⟨S_, .i32⟩
  | 63 => ⟨S64x1024x1, .i32⟩
  | 64 => ⟨S64x1024x1, .i1⟩
  | 65 => ⟨S1x1x1, .i32⟩
  | 66 => ⟨S64x1024x1, .i32⟩
  | 67 => ⟨S64x1024x1, .i1⟩
  | 68 => ⟨S64x1024x1, .i1⟩
  | 69 => ⟨S_, .i1⟩
  | 70 => ⟨S64x1024, .i1⟩
  | 71 => ⟨S64x1024x2, .f32⟩
  | 72 => ⟨S64x1024x2, .i1⟩
  | 73 => ⟨S_, .f32⟩
  | 74 => ⟨S64x1024x2, .f32⟩
  | 75 => ⟨S64x1024x2, .f32⟩
  | 76 => ⟨S64x1x2, .f32⟩
  | 77 => ⟨S64x1024x2, .f32⟩
  | 78 => ⟨S64x1024x2, .f32⟩
  | 79 => ⟨S64x1x2, .f32⟩
  | 80 => ⟨S64x1024x2, .f32⟩
  | 81 => ⟨S64x1024x2, .f32⟩
  | 82 => ⟨S_, .f32⟩
  | 83 => ⟨S64x1024x1, .f32⟩
  | 84 => ⟨S64x1024x3, .f32⟩
  | 85 => ⟨S3x3, .i32⟩
  | 86 => ⟨S3x3, .i32⟩
  | 87 => ⟨S_, .i32⟩
  | 88 => ⟨S3x3, .i32⟩
  | 89 => ⟨S3x3, .i32⟩
  | 90 => ⟨S3x3, .i1⟩
  | 91 => ⟨S3x3, .f32⟩
  | 92 => ⟨S64x3x3, .f32⟩
  | 93 => ⟨S64x3x6, .f32⟩
  | 94 => ⟨S3, .i32⟩
  | 95 => ⟨S1x3, .i32⟩
  | 96 => ⟨S_, .i32⟩
  | 97 => ⟨S1x3, .i32⟩
  | 98 => ⟨S1x3, .i1⟩
  | 99 => ⟨S64x3x1, .f32⟩
  | 100 => ⟨S64x3, .f32⟩
  | 101 => ⟨S64x3, .f32⟩
  | 102 => ⟨S_, .f32⟩
  | 103 => ⟨S_, .f32⟩
  | 104 => ⟨S64x3, .i1⟩
  | 105 => ⟨S64x3, .f32⟩
  | 106 => ⟨S64x3, .f32⟩
  | 107 => ⟨S64x3, .i32⟩
  | 108 => ⟨S_, .f32⟩
  | 109 => ⟨S64, .f32⟩
  | 110 => ⟨S64x1, .f32⟩
  | 111 => ⟨S64x3, .f32⟩
  | 112 => ⟨S64x3, .i1⟩
  | 113 => ⟨S_, .i32⟩
  | 114 => ⟨S_, .i32⟩
  | 115 => ⟨S64x3, .i32⟩
  | 116 => ⟨S64x3, .i32⟩
  | 117 => ⟨S_, .i32⟩
  | 118 => ⟨S64, .i32⟩
  | 119 => ⟨S64x1, .i32⟩
  | 120 => ⟨S_, .i32⟩
  | 121 => ⟨S1x3, .i32⟩
  | 122 => ⟨S1x3, .i1⟩
  | 123 => ⟨S64x3, .i32⟩
  | 124 => ⟨S64x3, .i32⟩
  | 125 => ⟨S64x3, .i1⟩
  | 126 => ⟨S_, .i32⟩
  | 127 => ⟨S_, .i32⟩
  | _ => ⟨S64x1x512x512, .f32⟩

abbrev hbmTy0_5 (i : Nat) : BufTy := match i % 128 with
  | 0 => ⟨S64x3, .i32⟩
  | 1 => ⟨S64x3, .i32⟩
  | 2 => ⟨S64x3, .i32⟩
  | 3 => ⟨S64x3, .i1⟩
  | 4 => ⟨S64x3, .i32⟩
  | 5 => ⟨S64x3, .i32⟩
  | 6 => ⟨S64x3x1, .i32⟩
  | 7 => ⟨S_, .i32⟩
  | 8 => ⟨S64x3x1, .i32⟩
  | 9 => ⟨S64x3x1, .i1⟩
  | 10 => ⟨S_, .i32⟩
  | 11 => ⟨S64x3x1, .i32⟩
  | 12 => ⟨S64x3x1, .i32⟩
  | 13 => ⟨S64x3x1, .i32⟩
  | 14 => ⟨S1, .i32⟩
  | 15 => ⟨S_, .i32⟩
  | 16 => ⟨S64x3x1, .i32⟩
  | 17 => ⟨S64x3x1, .i1⟩
  | 18 => ⟨S1x1x1, .i32⟩
  | 19 => ⟨S64x3x1, .i32⟩
  | 20 => ⟨S64x3x1, .i1⟩
  | 21 => ⟨S64x3x1, .i1⟩
  | 22 => ⟨S_, .i1⟩
  | 23 => ⟨S64x3, .i1⟩
  | 24 => ⟨S64x3x6, .f32⟩
  | 25 => ⟨S64x3x6, .i1⟩
  | 26 => ⟨S_, .f32⟩
  | 27 => ⟨S64x3x6, .f32⟩
  | 28 => ⟨S64x3x6, .f32⟩
  | 29 => ⟨S64x1x6, .f32⟩
  | 30 => ⟨S64x1x1, .f32⟩
  | 31 => ⟨S64x1x6, .f32⟩
  | 32 => ⟨S64x1x6, .f32⟩
  | 33 => ⟨S1x3x1, .i32⟩
  | 34 => ⟨S_, .i32⟩
  | 35 => ⟨S1x3x1, .i32⟩
  | 36 => ⟨S1x3x1, .i1⟩
  | 37 => ⟨S64x3x1, .f32⟩
  | 38 => ⟨S64x3x6, .f32⟩
  | 39 => ⟨S64x3x6, .f32⟩
  | 40 => ⟨S64x3x6, .f32⟩
  | 41 => ⟨S64x3x6, .f32⟩
  | 42 => ⟨S64x3x6, .i1⟩
  | 43 => ⟨S64x3x6, .f32⟩
  | 44 => ⟨S64x3x6, .f32⟩
  | 45 => ⟨S_, .i32⟩
  | 46 => ⟨S1x3, .i32⟩
  | 47 => ⟨S1x3, .i1⟩
  | 48 => ⟨S64x3x1, .f32⟩
  | 49 => ⟨S64x3, .f32⟩
  | 50 => ⟨S64x3, .f32⟩
  | 51 => ⟨S_, .f32⟩
  | 52 => ⟨S_, .f32⟩
  | 53 => ⟨S64x3, .i1⟩
  | 54 => ⟨S64x3, .f32⟩
  | 55 => ⟨S64x3, .f32⟩
  | 56 => ⟨S64x3, .i32⟩
  | 57 => ⟨S_, .f32⟩
  | 58 => ⟨S64, .f32⟩
  | 59 => ⟨S64x1, .f32⟩
  | 60 => ⟨S64x3, .f32⟩
  | 61 => ⟨S64x3, .i1⟩
  | 62 => ⟨S_, .i32⟩
  | 63 => ⟨S_, .i32⟩
  | 64 => ⟨S64x3, .i32⟩
  | 65 => ⟨S64x3, .i32⟩
  | 66 => ⟨S_, .i32⟩
  | 67 => ⟨S64, .i32⟩
  | 68 => ⟨S64x1, .i32⟩
  | 69 => ⟨S_, .i32⟩
  | 70 => ⟨S1x3, .i32⟩
  | 71 => ⟨S1x3, .i1⟩
  | 72 => ⟨S64x3, .i32⟩
  | 73 => ⟨S64x3, .i32⟩
  | 74 => ⟨S64x3, .i1⟩
  | 75 => ⟨S_, .i32⟩
  | 76 => ⟨S_, .i32⟩
  | 77 => ⟨S64x3, .i32⟩
  | 78 => ⟨S64x3, .i32⟩
  | 79 => ⟨S64x3, .i32⟩
  | 80 => ⟨S64x3, .i1⟩
  | 81 => ⟨S64x3, .i32⟩
  | 82 => ⟨S64x3, .i32⟩
  | 83 => ⟨S64x3x1, .i32⟩
  | 84 => ⟨S_, .i32⟩
  | 85 => ⟨S64x3x1, .i32⟩
  | 86 => ⟨S64x3x1, .i1⟩
  | 87 => ⟨S_, .i32⟩
  | 88 => ⟨S64x3x1, .i32⟩
  | 89 => ⟨S64x3x1, .i32⟩
  | 90 => ⟨S64x3x1, .i32⟩
  | 91 => ⟨S1, .i32⟩
  | 92 => ⟨S_, .i32⟩
  | 93 => ⟨S64x3x1, .i32⟩
  | 94 => ⟨S64x3x1, .i1⟩
  | 95 => ⟨S1x1x1, .i32⟩
  | 96 => ⟨S64x3x1, .i32⟩
  | 97 => ⟨S64x3x1, .i1⟩
  | 98 => ⟨S64x3x1, .i1⟩
  | 99 => ⟨S_, .i1⟩
  | 100 => ⟨S64x3, .i1⟩
  | 101 => ⟨S64x3x6, .f32⟩
  | 102 => ⟨S64x3x6, .i1⟩
  | 103 => ⟨S_, .f32⟩
  | 104 => ⟨S64x3x6, .f32⟩
  | 105 => ⟨S64x3x6, .f32⟩
  | 106 => ⟨S64x1x6, .f32⟩
  | 107 => ⟨S64x1x1, .f32⟩
  | 108 => ⟨S64x1x6, .f32⟩
  | 109 => ⟨S64x1x6, .f32⟩
  | 110 => ⟨S1x3x1, .i32⟩
  | 111 => ⟨S_, .i32⟩
  | 112 => ⟨S1x3x1, .i32⟩
  | 113 => ⟨S1x3x1, .i1⟩
  | 114 => ⟨S64x3x1, .f32⟩
  | 115 => ⟨S64x3x6, .f32⟩
  | 116 => ⟨S64x3x6, .f32⟩
  | 117 => ⟨S64x3x6, .f32⟩
  | 118 => ⟨S64x3x6, .f32⟩
  | 119 => ⟨S64x3x6, .i1⟩
  | 120 => ⟨S64x3x6, .f32⟩
  | 121 => ⟨S64x3x6, .f32⟩
  | 122 => ⟨S_, .i32⟩
  | 123 => ⟨S1x3, .i32⟩
  | 124 => ⟨S1x3, .i1⟩
  | 125 => ⟨S64x3x1, .f32⟩
  | 126 => ⟨S64x3, .f32⟩
  | 127 => ⟨S64x3, .f32⟩
  | _ => ⟨S64x1x512x512, .f32⟩

abbrev hbmTy0_6 (i : Nat) : BufTy := match i % 128 with
  | 0 => ⟨S_, .f32⟩
  | 1 => ⟨S_, .f32⟩
  | 2 => ⟨S64x3, .i1⟩
  | 3 => ⟨S64x3, .f32⟩
  | 4 => ⟨S64x3, .f32⟩
  | 5 => ⟨S64x3, .i32⟩
  | 6 => ⟨S_, .f32⟩
  | 7 => ⟨S64, .f32⟩
  | 8 => ⟨S64x1, .f32⟩
  | 9 => ⟨S64x3, .f32⟩
  | 10 => ⟨S64x3, .i1⟩
  | 11 => ⟨S_, .i32⟩
  | 12 => ⟨S_, .i32⟩
  | 13 => ⟨S64x3, .i32⟩
  | 14 => ⟨S64x3, .i32⟩
  | 15 => ⟨S_, .i32⟩
  | 16 => ⟨S64, .i32⟩
  | 17 => ⟨S64x1, .i32⟩
  | 18 => ⟨S_, .i32⟩
  | 19 => ⟨S1x3, .i32⟩
  | 20 => ⟨S1x3, .i1⟩
  | 21 => ⟨S64x3, .i32⟩
  | 22 => ⟨S64x3, .i32⟩
  | 23 => ⟨S64x3, .i1⟩
  | 24 => ⟨S_, .i32⟩
  | 25 => ⟨S_, .i32⟩
  | 26 => ⟨S64x3, .i32⟩
  | 27 => ⟨S64x3, .i32⟩
  | 28 => ⟨S64x3, .i32⟩
  | 29 => ⟨S64x3, .i1⟩
  | 30 => ⟨S64x3, .i32⟩
  | 31 => ⟨S64x3, .i32⟩
  | 32 => ⟨S64x3x1, .i32⟩
  | 33 => ⟨S_, .i32⟩
  | 34 => ⟨S64x3x1, .i32⟩
  | 35 => ⟨S64x3x1, .i1⟩
  | 36 => ⟨S_, .i32⟩
  | 37 => ⟨S64x3x1, .i32⟩
  | 38 => ⟨S64x3x1, .i32⟩
  | 39 => ⟨S64x3x1, .i32⟩
  | 40 => ⟨S1, .i32⟩
  | 41 => ⟨S_, .i32⟩
  | 42 => ⟨S64x3x1, .i32⟩
  | 43 => ⟨S64x3x1, .i1⟩
  | 44 => ⟨S1x1x1, .i32⟩
  | 45 => ⟨S64x3x1, .i32⟩
  | 46 => ⟨S64x3x1, .i1⟩
  | 47 => ⟨S64x3x1, .i1⟩
  | 48 => ⟨S_, .i1⟩
  | 49 => ⟨S64x3, .i1⟩
  | 50 => ⟨S64x3x6, .f32⟩
  | 51 => ⟨S64x3x6, .i1⟩
  | 52 => ⟨S_, .f32⟩
  | 53 => ⟨S64x3x6, .f32⟩
  | 54 => ⟨S64x3x6, .f32⟩
  | 55 => ⟨S64x1x6, .f32⟩
  | 56 => ⟨S64x1x1, .f32⟩
  | 57 => ⟨S64x1x6, .f32⟩
  | 58 => ⟨S64x1x6, .f32⟩
  | 59 => ⟨S1x3x1, .i32⟩
  | 60 => ⟨S_, .i32⟩
  | 61 => ⟨S1x3x1, .i32⟩
  | 62 => ⟨S1x3x1, .i1⟩
  | 63 => ⟨S64x3x1, .f32⟩
  | 64 => ⟨S64x3x6, .f32⟩
  | 65 => ⟨S64x3x6, .f32⟩
  | 66 => ⟨S64x3x6, .f32⟩
  | 67 => ⟨S64x3x6, .f32⟩
  | 68 => ⟨S64x3x6, .i1⟩
  | 69 => ⟨S64x3x6, .f32⟩
  | 70 => ⟨S64x3x6, .f32⟩
  | 71 => ⟨S64x3x3, .f32⟩
  | 72 => ⟨S64x1024x3, .f32⟩
  | 73 => ⟨S64x1024x3, .f32⟩
  | 74 => ⟨S_, .f32⟩
  | 75 => ⟨S64x1024, .f32⟩
  | 76 => ⟨S64x1024x1, .f32⟩
  | 77 => ⟨S64x1024x1, .f32⟩
  | 78 => ⟨S64x1024x3, .f32⟩
  | 79 => ⟨S64x1024x3, .f32⟩
  | 80 => ⟨S64x3, .f32⟩
  | 81 => ⟨S64x3, .f32⟩
  | 82 => ⟨S64x1x3, .f32⟩
  | 83 => ⟨S64x1024x3, .f32⟩
  | 84 => ⟨S_, .f32⟩
  | 85 => ⟨S_, .f32⟩
  | 86 => ⟨S_, .f32⟩
  | 87 => ⟨S_, .f32⟩
  | 88 => ⟨S_, .f32⟩
  | 89 => ⟨S_, .f32⟩
  | 90 => ⟨S_, .f32⟩
  | 91 => ⟨S63, .f32⟩
  | 92 => ⟨S_, .f32⟩
  | 93 => ⟨S63, .f32⟩
  | 94 => ⟨S63, .f32⟩
  | 95 => ⟨S1, .f32⟩
  | 96 => ⟨S_, .f32⟩
  | 97 => ⟨S63, .f32⟩
  | 98 => ⟨S63, .f32⟩
  | 99 => ⟨S63, .f32⟩
  | 100 => ⟨S63, .f32⟩
  | 101 => ⟨S1, .f32⟩
  | 102 => ⟨S63, .f32⟩
  | 103 => ⟨S63, .f32⟩
  | 104 => ⟨S63, .f32⟩
  | 105 => ⟨S1, .f32⟩
  | 106 => ⟨S64, .f32⟩
  | 107 => ⟨S64x1024x64, .i32⟩
  | 108 => ⟨S64x1024x64, .i32⟩
  | 109 => ⟨S64x1024x64, .i32⟩
  | 110 => ⟨S_, .i32⟩
  | 111 => ⟨S64x1024x64, .i32⟩
  | 112 => ⟨S64x1024x64, .i32⟩
  | 113 => ⟨S_, .i32⟩
  | 114 => ⟨S64x1024x64, .i32⟩
  | 115 => ⟨S64x1024x64, .i32⟩
  | 116 => ⟨S_, .i32⟩
  | 117 => ⟨S64x1024x64, .i32⟩
  | 118 => ⟨S64x1024x64, .i32⟩
  | 119 => ⟨S64x1024x64, .i32⟩
  | 120 => ⟨S64x1024x64, .i32⟩
  | 121 => ⟨S_, .i32⟩
  | 122 => ⟨S_, .i32⟩
  | 123 => ⟨S_, .i32⟩
  | 124 => ⟨S64x1024x64, .i32⟩
  | 125 => ⟨S64x1024x64, .i32⟩
  | 126 => ⟨S64x1024x64, .i32⟩
  | 127 => ⟨S64x1024x64, .i32⟩
  | _ => ⟨S64x1x512x512, .f32⟩

abbrev hbmTy0_7 (i : Nat) : BufTy := match i % 128 with
  | 0 => ⟨S64x1024x64, .i32⟩
  | 1 => ⟨S_, .i32⟩
  | 2 => ⟨S64x1024x64, .i32⟩
  | 3 => ⟨S64x1024x64, .i32⟩
  | 4 => ⟨S_, .i32⟩
  | 5 => ⟨S64x1024x64, .i32⟩
  | 6 => ⟨S64x1024x64, .i32⟩
  | 7 => ⟨S64x1024x64, .i32⟩
  | 8 => ⟨S64x1024x64, .i32⟩
  | 9 => ⟨S64x1024x64, .i32⟩
  | 10 => ⟨S_, .i32⟩
  | 11 => ⟨S64x1024x64, .i32⟩
  | 12 => ⟨S64x1024x64, .i32⟩
  | 13 => ⟨S_, .i32⟩
  | 14 => ⟨S64x1024x64, .i32⟩
  | 15 => ⟨S64x1024x64, .i32⟩
  | 16 => ⟨S64x1024x64, .i32⟩
  | 17 => ⟨S64x1024x64, .i32⟩
  | 18 => ⟨S64x1024x64, .i32⟩
  | 19 => ⟨S_, .i32⟩
  | 20 => ⟨S64x1024x64, .i32⟩
  | 21 => ⟨S64x1024x64, .i32⟩
  | 22 => ⟨S_, .i32⟩
  | 23 => ⟨S64x1024x64, .i32⟩
  | 24 => ⟨S64x1024x64, .i32⟩
  | 25 => ⟨S64x1024x64, .i32⟩
  | 26 => ⟨S64x1024x64, .i32⟩
  | 27 => ⟨S64x1024x64, .i32⟩
  | 28 => ⟨S_, .i32⟩
  | 29 => ⟨S64x1024x64, .i32⟩
  | 30 => ⟨S64x1024x64, .i32⟩
  | 31 => ⟨S_, .i32⟩
  | 32 => ⟨S64x1024x64, .i32⟩
  | 33 => ⟨S64x1024x64, .i32⟩
  | 34 => ⟨S64x1024x64, .i32⟩
  | 35 => ⟨S64x1024x64, .i32⟩
  | 36 => ⟨S64x1024x64, .i32⟩
  | 37 => ⟨S64x1024x64, .i32⟩
  | 38 => ⟨S_, .i32⟩
  | 39 => ⟨S_, .i32⟩
  | 40 => ⟨S64x1024x64, .i32⟩
  | 41 => ⟨S64x1024x64, .i32⟩
  | 42 => ⟨S64x1024x64, .i32⟩
  | 43 => ⟨S_, .i32⟩
  | 44 => ⟨S64x1024x64, .i32⟩
  | 45 => ⟨S64x1024x64, .i32⟩
  | 46 => ⟨S_, .i32⟩
  | 47 => ⟨S64x1024x64, .i32⟩
  | 48 => ⟨S64x1024x64, .i32⟩
  | 49 => ⟨S64x1024x64, .i32⟩
  | 50 => ⟨S64x1024x64, .i32⟩
  | 51 => ⟨S64x1024x64, .i32⟩
  | 52 => ⟨S_, .i32⟩
  | 53 => ⟨S64x1024x64, .i32⟩
  | 54 => ⟨S64x1024x64, .i32⟩
  | 55 => ⟨S_, .i32⟩
  | 56 => ⟨S64x1024x64, .i32⟩
  | 57 => ⟨S64x1024x64, .i32⟩
  | 58 => ⟨S64x1024x64, .i32⟩
  | 59 => ⟨S64x1024x64, .i32⟩
  | 60 => ⟨S64x1024x64, .i32⟩
  | 61 => ⟨S_, .i32⟩
  | 62 => ⟨S64x1024x64, .i32⟩
  | 63 => ⟨S64x1024x64, .i32⟩
  | 64 => ⟨S_, .i32⟩
  | 65 => ⟨S64x1024x64, .i32⟩
  | 66 => ⟨S64x1024x64, .i32⟩
  | 67 => ⟨S64x1024x64, .i32⟩
  | 68 => ⟨S64x1024x64, .i32⟩
  | 69 => ⟨S64x1024x64, .i32⟩
  | 70 => ⟨S_, .i32⟩
  | 71 => ⟨S64x1024x64, .i32⟩
  | 72 => ⟨S64x1024x64, .i32⟩
  | 73 => ⟨S_, .i32⟩
  | 74 => ⟨S64x1024x64, .i32⟩
  | 75 => ⟨S64x1024x64, .i32⟩
  | 76 => ⟨S64x1024x64, .i32⟩
  | 77 => ⟨S64x1024x64, .i32⟩
  | 78 => ⟨S64x1024x64, .i32⟩
  | 79 => ⟨S64x1024x64, .i32⟩
  | 80 => ⟨S_, .i32⟩
  | 81 => ⟨S_, .i32⟩
  | 82 => ⟨S64x1024x64, .i32⟩
  | 83 => ⟨S64x1024x64, .i32⟩
  | 84 => ⟨S64x1024x64, .i32⟩
  | 85 => ⟨S_, .i32⟩
  | 86 => ⟨S64x1024x64, .i32⟩
  | 87 => ⟨S64x1024x64, .i32⟩
  | 88 => ⟨S_, .i32⟩
  | 89 => ⟨S64x1024x64, .i32⟩
  | 90 => ⟨S64x1024x64, .i32⟩
  | 91 => ⟨S64x1024x64, .i32⟩
  | 92 => ⟨S64x1024x64, .i32⟩
  | 93 => ⟨S64x1024x64, .i32⟩
  | 94 => ⟨S_, .i32⟩
  | 95 => ⟨S64x1024x64, .i32⟩
  | 96 => ⟨S64x1024x64, .i32⟩
  | 97 => ⟨S_, .i32⟩
  | 98 => ⟨S64x1024x64, .i32⟩
  | 99 => ⟨S64x1024x64, .i32⟩
  | 100 => ⟨S64x1024x64, .i32⟩
  | 101 => ⟨S64x1024x64, .i32⟩
  | 102 => ⟨S64x1024x64, .i32⟩
  | 103 => ⟨S_, .i32⟩
  | 104 => ⟨S64x1024x64, .i32⟩
  | 105 => ⟨S64x1024x64, .i32⟩
  | 106 => ⟨S_, .i32⟩
  | 107 => ⟨S64x1024x64, .i32⟩
  | 108 => ⟨S64x1024x64, .i32⟩
  | 109 => ⟨S64x1024x64, .i32⟩
  | 110 => ⟨S64x1024x64, .i32⟩
  | 111 => ⟨S64x1024x64, .i32⟩
  | 112 => ⟨S_, .i32⟩
  | 113 => ⟨S64x1024x64, .i32⟩
  | 114 => ⟨S64x1024x64, .i32⟩
  | 115 => ⟨S_, .i32⟩
  | 116 => ⟨S64x1024x64, .i32⟩
  | 117 => ⟨S64x1024x64, .i32⟩
  | 118 => ⟨S64x1024x64, .i32⟩
  | 119 => ⟨S64x1024x64, .i32⟩
  | 120 => ⟨S64x1024x64, .i32⟩
  | 121 => ⟨S64x1024x64, .i32⟩
  | 122 => ⟨S_, .i32⟩
  | 123 => ⟨S_, .i32⟩
  | 124 => ⟨S64x1024x64, .i32⟩
  | 125 => ⟨S64x1024x64, .i32⟩
  | 126 => ⟨S64x1024x64, .i32⟩
  | 127 => ⟨S_, .i32⟩
  | _ => ⟨S64x1x512x512, .f32⟩

abbrev hbmTy0_8 (i : Nat) : BufTy := match i % 128 with
  | 0 => ⟨S64x1024x64, .i32⟩
  | 1 => ⟨S64x1024x64, .i32⟩
  | 2 => ⟨S_, .i32⟩
  | 3 => ⟨S64x1024x64, .i32⟩
  | 4 => ⟨S64x1024x64, .i32⟩
  | 5 => ⟨S64x1024x64, .i32⟩
  | 6 => ⟨S64x1024x64, .i32⟩
  | 7 => ⟨S64x1024x64, .i32⟩
  | 8 => ⟨S_, .i32⟩
  | 9 => ⟨S64x1024x64, .i32⟩
  | 10 => ⟨S64x1024x64, .i32⟩
  | 11 => ⟨S_, .i32⟩
  | 12 => ⟨S64x1024x64, .i32⟩
  | 13 => ⟨S64x1024x64, .i32⟩
  | 14 => ⟨S64x1024x64, .i32⟩
  | 15 => ⟨S64x1024x64, .i32⟩
  | 16 => ⟨S64x1024x64, .i32⟩
  | 17 => ⟨S_, .i32⟩
  | 18 => ⟨S64x1024x64, .i32⟩
  | 19 => ⟨S64x1024x64, .i32⟩
  | 20 => ⟨S_, .i32⟩
  | 21 => ⟨S64x1024x64, .i32⟩
  | 22 => ⟨S64x1024x64, .i32⟩
  | 23 => ⟨S64x1024x64, .i32⟩
  | 24 => ⟨S64x1024x64, .i32⟩
  | 25 => ⟨S64x1024x64, .i32⟩
  | 26 => ⟨S_, .i32⟩
  | 27 => ⟨S64x1024x64, .i32⟩
  | 28 => ⟨S64x1024x64, .i32⟩
  | 29 => ⟨S_, .i32⟩
  | 30 => ⟨S64x1024x64, .i32⟩
  | 31 => ⟨S64x1024x64, .i32⟩
  | 32 => ⟨S64x1024x64, .i32⟩
  | 33 => ⟨S64x1024x64, .i32⟩
  | 34 => ⟨S64x1024x64, .i32⟩
  | 35 => ⟨S64x1024x64, .i32⟩
  | 36 => ⟨S_, .i32⟩
  | 37 => ⟨S_, .i32⟩
  | 38 => ⟨S64x1024x64, .i32⟩
  | 39 => ⟨S64x1024x64, .i32⟩
  | 40 => ⟨S64x1024x64, .i32⟩
  | 41 => ⟨S_, .i32⟩
  | 42 => ⟨S64x1024x64, .i32⟩
  | 43 => ⟨S64x1024x64, .i32⟩
  | 44 => ⟨S_, .i32⟩
  | 45 => ⟨S64x1024x64, .i32⟩
  | 46 => ⟨S64x1024x64, .i32⟩
  | 47 => ⟨S64x1024x64, .i32⟩
  | 48 => ⟨S64x1024x64, .i32⟩
  | 49 => ⟨S64x1024x64, .i32⟩
  | 50 => ⟨S_, .i32⟩
  | 51 => ⟨S64x1024x64, .i32⟩
  | 52 => ⟨S64x1024x64, .i32⟩
  | 53 => ⟨S_, .i32⟩
  | 54 => ⟨S64x1024x64, .i32⟩
  | 55 => ⟨S64x1024x64, .i32⟩
  | 56 => ⟨S64x1024x64, .i32⟩
  | 57 => ⟨S64x1024x64, .i32⟩
  | 58 => ⟨S64x1024x64, .i32⟩
  | 59 => ⟨S_, .i32⟩
  | 60 => ⟨S64x1024x64, .i32⟩
  | 61 => ⟨S64x1024x64, .i32⟩
  | 62 => ⟨S_, .i32⟩
  | 63 => ⟨S64x1024x64, .i32⟩
  | 64 => ⟨S64x1024x64, .i32⟩
  | 65 => ⟨S64x1024x64, .i32⟩
  | 66 => ⟨S64x1024x64, .i32⟩
  | 67 => ⟨S64x1024x64, .i32⟩
  | 68 => ⟨S_, .i32⟩
  | 69 => ⟨S64x1024x64, .i32⟩
  | 70 => ⟨S64x1024x64, .i32⟩
  | 71 => ⟨S_, .i32⟩
  | 72 => ⟨S64x1024x64, .i32⟩
  | 73 => ⟨S64x1024x64, .i32⟩
  | 74 => ⟨S64x1024x64, .i32⟩
  | 75 => ⟨S64x1024x64, .i32⟩
  | 76 => ⟨S64x1024x64, .i32⟩
  | 77 => ⟨S64x1024x64, .i32⟩
  | 78 => ⟨S_, .i32⟩
  | 79 => ⟨S_, .i32⟩
  | 80 => ⟨S64x1024x64, .i32⟩
  | 81 => ⟨S64x1024x64, .i32⟩
  | 82 => ⟨S64x1024x64, .i32⟩
  | 83 => ⟨S_, .i32⟩
  | 84 => ⟨S64x1024x64, .i32⟩
  | 85 => ⟨S64x1024x64, .i32⟩
  | 86 => ⟨S_, .i32⟩
  | 87 => ⟨S64x1024x64, .i32⟩
  | 88 => ⟨S64x1024x64, .i32⟩
  | 89 => ⟨S64x1024x64, .f32⟩
  | 90 => ⟨S_, .f32⟩
  | 91 => ⟨S64x1024x64, .f32⟩
  | 92 => ⟨S64x1024x64, .f32⟩
  | 93 => ⟨S_, .f32⟩
  | 94 => ⟨S64x1024x64, .f32⟩
  | 95 => ⟨S64x1024x64, .f32⟩
  | 96 => ⟨S_, .f32⟩
  | 97 => ⟨S64x1024x64, .f32⟩
  | 98 => ⟨S64x1024x64, .f32⟩
  | 99 => ⟨S1x1x64, .f32⟩
  | 100 => ⟨S64x1024x64, .f32⟩
  | 101 => ⟨S64x1024x64, .f32⟩
  | _ => ⟨S64x1x512x512, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | 6 => hbmTy0_6 i
  | 7 => hbmTy0_7 i
  | 8 => hbmTy0_8 i
  | _ => ⟨S64x1x512x512, .f32⟩

abbrev bufTy : (tb : Table) → Fin (tcTables nBuf tb) → BufTy
  | .hbm, ⟨i, _⟩ => hbmTy i
  | _, _ => ⟨S64x1x512x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_v0 : Ref sig .tc := ⟨.hbm, 6, rfl⟩
abbrev main_v1 : Ref sig .tc := ⟨.hbm, 7, rfl⟩
abbrev main_c_0 : Ref sig .tc := ⟨.hbm, 8, rfl⟩
abbrev main_c_1 : Ref sig .tc := ⟨.hbm, 9, rfl⟩
abbrev main_v2 : Ref sig .tc := ⟨.hbm, 10, rfl⟩
abbrev main_c_2 : Ref sig .tc := ⟨.hbm, 11, rfl⟩
abbrev main_v3 : Ref sig .tc := ⟨.hbm, 12, rfl⟩
abbrev main_c_3 : Ref sig .tc := ⟨.hbm, 13, rfl⟩
abbrev main_v4 : Ref sig .tc := ⟨.hbm, 14, rfl⟩
abbrev main_v5 : Ref sig .tc := ⟨.hbm, 15, rfl⟩
abbrev main_c_4 : Ref sig .tc := ⟨.hbm, 16, rfl⟩
abbrev main_v6 : Ref sig .tc := ⟨.hbm, 17, rfl⟩
abbrev main_v7 : Ref sig .tc := ⟨.hbm, 18, rfl⟩
abbrev main_call0_v0 : Ref sig .tc := ⟨.hbm, 19, rfl⟩
abbrev main_call0_c : Ref sig .tc := ⟨.hbm, 20, rfl⟩
abbrev main_call0_v1 : Ref sig .tc := ⟨.hbm, 21, rfl⟩
abbrev main_call0_v2 : Ref sig .tc := ⟨.hbm, 22, rfl⟩
abbrev main_call0_c_0 : Ref sig .tc := ⟨.hbm, 23, rfl⟩
abbrev main_call0_v3 : Ref sig .tc := ⟨.hbm, 24, rfl⟩
abbrev main_call0_v4 : Ref sig .tc := ⟨.hbm, 25, rfl⟩
abbrev main_call0_v5 : Ref sig .tc := ⟨.hbm, 26, rfl⟩
abbrev main_call0_v6 : Ref sig .tc := ⟨.hbm, 27, rfl⟩
abbrev main_call0_v7 : Ref sig .tc := ⟨.hbm, 28, rfl⟩
abbrev main_call0_c_1 : Ref sig .tc := ⟨.hbm, 29, rfl⟩
abbrev main_call0_v8 : Ref sig .tc := ⟨.hbm, 30, rfl⟩
abbrev main_call0_v9 : Ref sig .tc := ⟨.hbm, 31, rfl⟩
abbrev main_call0_c_2 : Ref sig .tc := ⟨.hbm, 32, rfl⟩
abbrev main_call0_v10 : Ref sig .tc := ⟨.hbm, 33, rfl⟩
abbrev main_call0_v11 : Ref sig .tc := ⟨.hbm, 34, rfl⟩
abbrev main_call0_v12 : Ref sig .tc := ⟨.hbm, 35, rfl⟩
abbrev main_call0_v13 : Ref sig .tc := ⟨.hbm, 36, rfl⟩
abbrev main_call0_v14 : Ref sig .tc := ⟨.hbm, 37, rfl⟩
abbrev main_call0_c_3 : Ref sig .tc := ⟨.hbm, 38, rfl⟩
abbrev main_call0_v15 : Ref sig .tc := ⟨.hbm, 39, rfl⟩
abbrev main_call0_v16 : Ref sig .tc := ⟨.hbm, 40, rfl⟩
abbrev main_call0_c_4 : Ref sig .tc := ⟨.hbm, 41, rfl⟩
abbrev main_call0_v17 : Ref sig .tc := ⟨.hbm, 42, rfl⟩
abbrev main_call0_v18 : Ref sig .tc := ⟨.hbm, 43, rfl⟩
abbrev main_call0_v19 : Ref sig .tc := ⟨.hbm, 44, rfl⟩
abbrev main_call0_v20 : Ref sig .tc := ⟨.hbm, 45, rfl⟩
abbrev main_v8_0 : Ref sig .tc := ⟨.hbm, 46, rfl⟩
abbrev main_call0_c_5 : Ref sig .tc := ⟨.hbm, 47, rfl⟩
abbrev main_call0_v22 : Ref sig .tc := ⟨.hbm, 48, rfl⟩
abbrev main_call0_v23 : Ref sig .tc := ⟨.hbm, 49, rfl⟩
abbrev main_call0_c_6 : Ref sig .tc := ⟨.hbm, 50, rfl⟩
abbrev main_call0_v24 : Ref sig .tc := ⟨.hbm, 51, rfl⟩
abbrev main_call0_v25 : Ref sig .tc := ⟨.hbm, 52, rfl⟩
abbrev main_call0_v26 : Ref sig .tc := ⟨.hbm, 53, rfl⟩
abbrev main_v8_1 : Ref sig .tc := ⟨.hbm, 54, rfl⟩
abbrev main_c_5 : Ref sig .tc := ⟨.hbm, 55, rfl⟩
abbrev main_v9 : Ref sig .tc := ⟨.hbm, 56, rfl⟩
abbrev main_v10 : Ref sig .tc := ⟨.hbm, 57, rfl⟩
abbrev main_c_6 : Ref sig .tc := ⟨.hbm, 58, rfl⟩
abbrev main_v11 : Ref sig .tc := ⟨.hbm, 59, rfl⟩
abbrev main_v12 : Ref sig .tc := ⟨.hbm, 60, rfl⟩
abbrev main_v13 : Ref sig .tc := ⟨.hbm, 61, rfl⟩
abbrev main_call1_v0 : Ref sig .tc := ⟨.hbm, 62, rfl⟩
abbrev main_call1_c : Ref sig .tc := ⟨.hbm, 63, rfl⟩
abbrev main_call1_v1 : Ref sig .tc := ⟨.hbm, 64, rfl⟩
abbrev main_call1_v2 : Ref sig .tc := ⟨.hbm, 65, rfl⟩
abbrev main_call1_c_0 : Ref sig .tc := ⟨.hbm, 66, rfl⟩
abbrev main_call1_v3 : Ref sig .tc := ⟨.hbm, 67, rfl⟩
abbrev main_call1_v4 : Ref sig .tc := ⟨.hbm, 68, rfl⟩
abbrev main_call1_v5 : Ref sig .tc := ⟨.hbm, 69, rfl⟩
abbrev main_call1_v6 : Ref sig .tc := ⟨.hbm, 70, rfl⟩
abbrev main_call1_v7 : Ref sig .tc := ⟨.hbm, 71, rfl⟩
abbrev main_call1_c_1 : Ref sig .tc := ⟨.hbm, 72, rfl⟩
abbrev main_call1_v8 : Ref sig .tc := ⟨.hbm, 73, rfl⟩
abbrev main_call1_v9 : Ref sig .tc := ⟨.hbm, 74, rfl⟩
abbrev main_call1_c_2 : Ref sig .tc := ⟨.hbm, 75, rfl⟩
abbrev main_call1_v10 : Ref sig .tc := ⟨.hbm, 76, rfl⟩
abbrev main_call1_v11 : Ref sig .tc := ⟨.hbm, 77, rfl⟩
abbrev main_call1_v12 : Ref sig .tc := ⟨.hbm, 78, rfl⟩
abbrev main_call1_v13 : Ref sig .tc := ⟨.hbm, 79, rfl⟩
abbrev main_call1_v14 : Ref sig .tc := ⟨.hbm, 80, rfl⟩
abbrev main_call1_c_3 : Ref sig .tc := ⟨.hbm, 81, rfl⟩
abbrev main_call1_v15 : Ref sig .tc := ⟨.hbm, 82, rfl⟩
abbrev main_call1_v16 : Ref sig .tc := ⟨.hbm, 83, rfl⟩
abbrev main_call1_c_4 : Ref sig .tc := ⟨.hbm, 84, rfl⟩
abbrev main_call1_v17 : Ref sig .tc := ⟨.hbm, 85, rfl⟩
abbrev main_call1_v18 : Ref sig .tc := ⟨.hbm, 86, rfl⟩
abbrev main_call1_v19 : Ref sig .tc := ⟨.hbm, 87, rfl⟩
abbrev main_call1_v20 : Ref sig .tc := ⟨.hbm, 88, rfl⟩
abbrev main_v14_0 : Ref sig .tc := ⟨.hbm, 89, rfl⟩
abbrev main_call1_c_5 : Ref sig .tc := ⟨.hbm, 90, rfl⟩
abbrev main_call1_v22 : Ref sig .tc := ⟨.hbm, 91, rfl⟩
abbrev main_call1_v23 : Ref sig .tc := ⟨.hbm, 92, rfl⟩
abbrev main_call1_c_6 : Ref sig .tc := ⟨.hbm, 93, rfl⟩
abbrev main_call1_v24 : Ref sig .tc := ⟨.hbm, 94, rfl⟩
abbrev main_call1_v25 : Ref sig .tc := ⟨.hbm, 95, rfl⟩
abbrev main_call1_v26 : Ref sig .tc := ⟨.hbm, 96, rfl⟩
abbrev main_v14_1 : Ref sig .tc := ⟨.hbm, 97, rfl⟩
abbrev main_v15 : Ref sig .tc := ⟨.hbm, 98, rfl⟩
abbrev main_v16 : Ref sig .tc := ⟨.hbm, 99, rfl⟩
abbrev main_c_7 : Ref sig .tc := ⟨.hbm, 100, rfl⟩
abbrev main_c_8 : Ref sig .tc := ⟨.hbm, 101, rfl⟩
abbrev main_v17 : Ref sig .tc := ⟨.hbm, 102, rfl⟩
abbrev main_v18 : Ref sig .tc := ⟨.hbm, 103, rfl⟩
abbrev main_v19 : Ref sig .tc := ⟨.hbm, 104, rfl⟩
abbrev main_call2_v0 : Ref sig .tc := ⟨.hbm, 105, rfl⟩
abbrev main_call2_c : Ref sig .tc := ⟨.hbm, 106, rfl⟩
abbrev main_call2_v1 : Ref sig .tc := ⟨.hbm, 107, rfl⟩
abbrev main_call2_v2 : Ref sig .tc := ⟨.hbm, 108, rfl⟩
abbrev main_call2_c_0 : Ref sig .tc := ⟨.hbm, 109, rfl⟩
abbrev main_call2_v3 : Ref sig .tc := ⟨.hbm, 110, rfl⟩
abbrev main_call2_v4 : Ref sig .tc := ⟨.hbm, 111, rfl⟩
abbrev main_call2_v5 : Ref sig .tc := ⟨.hbm, 112, rfl⟩
abbrev main_call2_v6 : Ref sig .tc := ⟨.hbm, 113, rfl⟩
abbrev main_call2_v7 : Ref sig .tc := ⟨.hbm, 114, rfl⟩
abbrev main_call2_c_1 : Ref sig .tc := ⟨.hbm, 115, rfl⟩
abbrev main_call2_v8 : Ref sig .tc := ⟨.hbm, 116, rfl⟩
abbrev main_call2_v9 : Ref sig .tc := ⟨.hbm, 117, rfl⟩
abbrev main_call2_c_2 : Ref sig .tc := ⟨.hbm, 118, rfl⟩
abbrev main_call2_v10 : Ref sig .tc := ⟨.hbm, 119, rfl⟩
abbrev main_call2_v11 : Ref sig .tc := ⟨.hbm, 120, rfl⟩
abbrev main_call2_v12 : Ref sig .tc := ⟨.hbm, 121, rfl⟩
abbrev main_call2_v13 : Ref sig .tc := ⟨.hbm, 122, rfl⟩
abbrev main_call2_v14 : Ref sig .tc := ⟨.hbm, 123, rfl⟩
abbrev main_call2_c_3 : Ref sig .tc := ⟨.hbm, 124, rfl⟩
abbrev main_call2_v15 : Ref sig .tc := ⟨.hbm, 125, rfl⟩
abbrev main_call2_v16 : Ref sig .tc := ⟨.hbm, 126, rfl⟩
abbrev main_call2_c_4 : Ref sig .tc := ⟨.hbm, 127, rfl⟩
abbrev main_call2_v17 : Ref sig .tc := ⟨.hbm, 128, rfl⟩
abbrev main_call2_v18 : Ref sig .tc := ⟨.hbm, 129, rfl⟩
abbrev main_call2_v19 : Ref sig .tc := ⟨.hbm, 130, rfl⟩
abbrev main_call2_v20 : Ref sig .tc := ⟨.hbm, 131, rfl⟩
abbrev main_v20_0 : Ref sig .tc := ⟨.hbm, 132, rfl⟩
abbrev main_call2_c_5 : Ref sig .tc := ⟨.hbm, 133, rfl⟩
abbrev main_call2_v22 : Ref sig .tc := ⟨.hbm, 134, rfl⟩
abbrev main_call2_v23 : Ref sig .tc := ⟨.hbm, 135, rfl⟩
abbrev main_call2_c_6 : Ref sig .tc := ⟨.hbm, 136, rfl⟩
abbrev main_call2_v24 : Ref sig .tc := ⟨.hbm, 137, rfl⟩
abbrev main_call2_v25 : Ref sig .tc := ⟨.hbm, 138, rfl⟩
abbrev main_call2_v26 : Ref sig .tc := ⟨.hbm, 139, rfl⟩
abbrev main_v20_1 : Ref sig .tc := ⟨.hbm, 140, rfl⟩
abbrev main_c_9 : Ref sig .tc := ⟨.hbm, 141, rfl⟩
abbrev main_v21 : Ref sig .tc := ⟨.hbm, 142, rfl⟩
abbrev main_v22 : Ref sig .tc := ⟨.hbm, 143, rfl⟩
abbrev main_c_10 : Ref sig .tc := ⟨.hbm, 144, rfl⟩
abbrev main_c_11 : Ref sig .tc := ⟨.hbm, 145, rfl⟩
abbrev main_v23 : Ref sig .tc := ⟨.hbm, 146, rfl⟩
abbrev main_v24 : Ref sig .tc := ⟨.hbm, 147, rfl⟩
abbrev main_v25 : Ref sig .tc := ⟨.hbm, 148, rfl⟩
abbrev main_call3_v0 : Ref sig .tc := ⟨.hbm, 149, rfl⟩
abbrev main_call3_c : Ref sig .tc := ⟨.hbm, 150, rfl⟩
abbrev main_call3_v1 : Ref sig .tc := ⟨.hbm, 151, rfl⟩
abbrev main_call3_v2 : Ref sig .tc := ⟨.hbm, 152, rfl⟩
abbrev main_call3_c_0 : Ref sig .tc := ⟨.hbm, 153, rfl⟩
abbrev main_call3_v3 : Ref sig .tc := ⟨.hbm, 154, rfl⟩
abbrev main_call3_v4 : Ref sig .tc := ⟨.hbm, 155, rfl⟩
abbrev main_call3_v5 : Ref sig .tc := ⟨.hbm, 156, rfl⟩
abbrev main_call3_v6 : Ref sig .tc := ⟨.hbm, 157, rfl⟩
abbrev main_call3_v7 : Ref sig .tc := ⟨.hbm, 158, rfl⟩
abbrev main_call3_c_1 : Ref sig .tc := ⟨.hbm, 159, rfl⟩
abbrev main_call3_v8 : Ref sig .tc := ⟨.hbm, 160, rfl⟩
abbrev main_call3_v9 : Ref sig .tc := ⟨.hbm, 161, rfl⟩
abbrev main_call3_c_2 : Ref sig .tc := ⟨.hbm, 162, rfl⟩
abbrev main_call3_v10 : Ref sig .tc := ⟨.hbm, 163, rfl⟩
abbrev main_call3_v11 : Ref sig .tc := ⟨.hbm, 164, rfl⟩
abbrev main_call3_v12 : Ref sig .tc := ⟨.hbm, 165, rfl⟩
abbrev main_call3_v13 : Ref sig .tc := ⟨.hbm, 166, rfl⟩
abbrev main_call3_v14 : Ref sig .tc := ⟨.hbm, 167, rfl⟩
abbrev main_call3_c_3 : Ref sig .tc := ⟨.hbm, 168, rfl⟩
abbrev main_call3_v15 : Ref sig .tc := ⟨.hbm, 169, rfl⟩
abbrev main_call3_v16 : Ref sig .tc := ⟨.hbm, 170, rfl⟩
abbrev main_call3_c_4 : Ref sig .tc := ⟨.hbm, 171, rfl⟩
abbrev main_call3_v17 : Ref sig .tc := ⟨.hbm, 172, rfl⟩
abbrev main_call3_v18 : Ref sig .tc := ⟨.hbm, 173, rfl⟩
abbrev main_call3_v19 : Ref sig .tc := ⟨.hbm, 174, rfl⟩
abbrev main_call3_v20 : Ref sig .tc := ⟨.hbm, 175, rfl⟩
abbrev main_v26_0 : Ref sig .tc := ⟨.hbm, 176, rfl⟩
abbrev main_call3_c_5 : Ref sig .tc := ⟨.hbm, 177, rfl⟩
abbrev main_call3_v22 : Ref sig .tc := ⟨.hbm, 178, rfl⟩
abbrev main_call3_v23 : Ref sig .tc := ⟨.hbm, 179, rfl⟩
abbrev main_call3_c_6 : Ref sig .tc := ⟨.hbm, 180, rfl⟩
abbrev main_call3_v24 : Ref sig .tc := ⟨.hbm, 181, rfl⟩
abbrev main_call3_v25 : Ref sig .tc := ⟨.hbm, 182, rfl⟩
abbrev main_call3_v26 : Ref sig .tc := ⟨.hbm, 183, rfl⟩
abbrev main_v26_1 : Ref sig .tc := ⟨.hbm, 184, rfl⟩
abbrev main_c_12 : Ref sig .tc := ⟨.hbm, 185, rfl⟩
abbrev main_v27 : Ref sig .tc := ⟨.hbm, 186, rfl⟩
abbrev main_v28 : Ref sig .tc := ⟨.hbm, 187, rfl⟩
abbrev main_c_13 : Ref sig .tc := ⟨.hbm, 188, rfl⟩
abbrev main_v29 : Ref sig .tc := ⟨.hbm, 189, rfl⟩
abbrev main_v30 : Ref sig .tc := ⟨.hbm, 190, rfl⟩
abbrev main_v31 : Ref sig .tc := ⟨.hbm, 191, rfl⟩
abbrev main_call4_v0 : Ref sig .tc := ⟨.hbm, 192, rfl⟩
abbrev main_call4_c : Ref sig .tc := ⟨.hbm, 193, rfl⟩
abbrev main_call4_v1 : Ref sig .tc := ⟨.hbm, 194, rfl⟩
abbrev main_call4_v2 : Ref sig .tc := ⟨.hbm, 195, rfl⟩
abbrev main_call4_c_0 : Ref sig .tc := ⟨.hbm, 196, rfl⟩
abbrev main_call4_v3 : Ref sig .tc := ⟨.hbm, 197, rfl⟩
abbrev main_call4_v4 : Ref sig .tc := ⟨.hbm, 198, rfl⟩
abbrev main_call4_v5 : Ref sig .tc := ⟨.hbm, 199, rfl⟩
abbrev main_call4_v6 : Ref sig .tc := ⟨.hbm, 200, rfl⟩
abbrev main_call4_v7 : Ref sig .tc := ⟨.hbm, 201, rfl⟩
abbrev main_call4_c_1 : Ref sig .tc := ⟨.hbm, 202, rfl⟩
abbrev main_call4_v8 : Ref sig .tc := ⟨.hbm, 203, rfl⟩
abbrev main_call4_v9 : Ref sig .tc := ⟨.hbm, 204, rfl⟩
abbrev main_call4_c_2 : Ref sig .tc := ⟨.hbm, 205, rfl⟩
abbrev main_call4_v10 : Ref sig .tc := ⟨.hbm, 206, rfl⟩
abbrev main_call4_v11 : Ref sig .tc := ⟨.hbm, 207, rfl⟩
abbrev main_call4_v12 : Ref sig .tc := ⟨.hbm, 208, rfl⟩
abbrev main_call4_v13 : Ref sig .tc := ⟨.hbm, 209, rfl⟩
abbrev main_call4_v14 : Ref sig .tc := ⟨.hbm, 210, rfl⟩
abbrev main_call4_c_3 : Ref sig .tc := ⟨.hbm, 211, rfl⟩
abbrev main_call4_v15 : Ref sig .tc := ⟨.hbm, 212, rfl⟩
abbrev main_call4_v16 : Ref sig .tc := ⟨.hbm, 213, rfl⟩
abbrev main_call4_c_4 : Ref sig .tc := ⟨.hbm, 214, rfl⟩
abbrev main_call4_v17 : Ref sig .tc := ⟨.hbm, 215, rfl⟩
abbrev main_call4_v18 : Ref sig .tc := ⟨.hbm, 216, rfl⟩
abbrev main_call4_v19 : Ref sig .tc := ⟨.hbm, 217, rfl⟩
abbrev main_call4_v20 : Ref sig .tc := ⟨.hbm, 218, rfl⟩
abbrev main_v32_0 : Ref sig .tc := ⟨.hbm, 219, rfl⟩
abbrev main_call4_c_5 : Ref sig .tc := ⟨.hbm, 220, rfl⟩
abbrev main_call4_v22 : Ref sig .tc := ⟨.hbm, 221, rfl⟩
abbrev main_call4_v23 : Ref sig .tc := ⟨.hbm, 222, rfl⟩
abbrev main_call4_c_6 : Ref sig .tc := ⟨.hbm, 223, rfl⟩
abbrev main_call4_v24 : Ref sig .tc := ⟨.hbm, 224, rfl⟩
abbrev main_call4_v25 : Ref sig .tc := ⟨.hbm, 225, rfl⟩
abbrev main_call4_v26 : Ref sig .tc := ⟨.hbm, 226, rfl⟩
abbrev main_v32_1 : Ref sig .tc := ⟨.hbm, 227, rfl⟩
abbrev main_v33 : Ref sig .tc := ⟨.hbm, 228, rfl⟩
abbrev main_v34 : Ref sig .tc := ⟨.hbm, 229, rfl⟩
abbrev main_c_14 : Ref sig .tc := ⟨.hbm, 230, rfl⟩
abbrev main_c_15 : Ref sig .tc := ⟨.hbm, 231, rfl⟩
abbrev main_v35 : Ref sig .tc := ⟨.hbm, 232, rfl⟩
abbrev main_v36 : Ref sig .tc := ⟨.hbm, 233, rfl⟩
abbrev main_v37 : Ref sig .tc := ⟨.hbm, 234, rfl⟩
abbrev main_v38 : Ref sig .tc := ⟨.hbm, 235, rfl⟩
abbrev main_v39 : Ref sig .tc := ⟨.hbm, 236, rfl⟩
abbrev main_v40 : Ref sig .tc := ⟨.hbm, 237, rfl⟩
abbrev main_v41 : Ref sig .tc := ⟨.hbm, 238, rfl⟩
abbrev main_v42 : Ref sig .tc := ⟨.hbm, 239, rfl⟩
abbrev main_v43 : Ref sig .tc := ⟨.hbm, 240, rfl⟩
abbrev main_v44 : Ref sig .tc := ⟨.hbm, 241, rfl⟩
abbrev main_v45 : Ref sig .tc := ⟨.hbm, 242, rfl⟩
abbrev main_v46 : Ref sig .tc := ⟨.hbm, 243, rfl⟩
abbrev main_v47 : Ref sig .tc := ⟨.hbm, 244, rfl⟩
abbrev main_cst : Ref sig .tc := ⟨.hbm, 245, rfl⟩
abbrev main_v48 : Ref sig .tc := ⟨.hbm, 246, rfl⟩
abbrev main_v49 : Ref sig .tc := ⟨.hbm, 247, rfl⟩
abbrev main_v50 : Ref sig .tc := ⟨.hbm, 248, rfl⟩
abbrev main_v51 : Ref sig .tc := ⟨.hbm, 249, rfl⟩
abbrev main_v52 : Ref sig .tc := ⟨.hbm, 250, rfl⟩
abbrev main_v53 : Ref sig .tc := ⟨.hbm, 251, rfl⟩
abbrev main_c_16 : Ref sig .tc := ⟨.hbm, 252, rfl⟩
abbrev main_v54 : Ref sig .tc := ⟨.hbm, 253, rfl⟩
abbrev main_v55 : Ref sig .tc := ⟨.hbm, 254, rfl⟩
abbrev main_c_17 : Ref sig .tc := ⟨.hbm, 255, rfl⟩
abbrev main_v56 : Ref sig .tc := ⟨.hbm, 256, rfl⟩
abbrev main_v57 : Ref sig .tc := ⟨.hbm, 257, rfl⟩
abbrev main_c_18 : Ref sig .tc := ⟨.hbm, 258, rfl⟩
abbrev main_v58 : Ref sig .tc := ⟨.hbm, 259, rfl⟩
abbrev main_v59 : Ref sig .tc := ⟨.hbm, 260, rfl⟩
abbrev main_v60 : Ref sig .tc := ⟨.hbm, 261, rfl⟩
abbrev main_v61 : Ref sig .tc := ⟨.hbm, 262, rfl⟩
abbrev main_v62 : Ref sig .tc := ⟨.hbm, 263, rfl⟩
abbrev main_c_19 : Ref sig .tc := ⟨.hbm, 264, rfl⟩
abbrev main_v63 : Ref sig .tc := ⟨.hbm, 265, rfl⟩
abbrev main_v64 : Ref sig .tc := ⟨.hbm, 266, rfl⟩
abbrev main_v65 : Ref sig .tc := ⟨.hbm, 267, rfl⟩
abbrev main_v66 : Ref sig .tc := ⟨.hbm, 268, rfl⟩
abbrev main_v67 : Ref sig .tc := ⟨.hbm, 269, rfl⟩
abbrev main_call5_v0 : Ref sig .tc := ⟨.hbm, 270, rfl⟩
abbrev main_call5_c : Ref sig .tc := ⟨.hbm, 271, rfl⟩
abbrev main_call5_v1 : Ref sig .tc := ⟨.hbm, 272, rfl⟩
abbrev main_call5_v2 : Ref sig .tc := ⟨.hbm, 273, rfl⟩
abbrev main_call5_c_0 : Ref sig .tc := ⟨.hbm, 274, rfl⟩
abbrev main_call5_v3 : Ref sig .tc := ⟨.hbm, 275, rfl⟩
abbrev main_call5_v4 : Ref sig .tc := ⟨.hbm, 276, rfl⟩
abbrev main_call5_v5 : Ref sig .tc := ⟨.hbm, 277, rfl⟩
abbrev main_call5_v6 : Ref sig .tc := ⟨.hbm, 278, rfl⟩
abbrev main_call5_v7 : Ref sig .tc := ⟨.hbm, 279, rfl⟩
abbrev main_call5_c_1 : Ref sig .tc := ⟨.hbm, 280, rfl⟩
abbrev main_call5_v8 : Ref sig .tc := ⟨.hbm, 281, rfl⟩
abbrev main_call5_v9 : Ref sig .tc := ⟨.hbm, 282, rfl⟩
abbrev main_call5_c_2 : Ref sig .tc := ⟨.hbm, 283, rfl⟩
abbrev main_call5_v10 : Ref sig .tc := ⟨.hbm, 284, rfl⟩
abbrev main_call5_v11 : Ref sig .tc := ⟨.hbm, 285, rfl⟩
abbrev main_call5_v12 : Ref sig .tc := ⟨.hbm, 286, rfl⟩
abbrev main_call5_v13 : Ref sig .tc := ⟨.hbm, 287, rfl⟩
abbrev main_call5_v14 : Ref sig .tc := ⟨.hbm, 288, rfl⟩
abbrev main_call5_c_3 : Ref sig .tc := ⟨.hbm, 289, rfl⟩
abbrev main_call5_v15 : Ref sig .tc := ⟨.hbm, 290, rfl⟩
abbrev main_call5_v16 : Ref sig .tc := ⟨.hbm, 291, rfl⟩
abbrev main_call5_c_4 : Ref sig .tc := ⟨.hbm, 292, rfl⟩
abbrev main_call5_v17 : Ref sig .tc := ⟨.hbm, 293, rfl⟩
abbrev main_call5_v18 : Ref sig .tc := ⟨.hbm, 294, rfl⟩
abbrev main_call5_v19 : Ref sig .tc := ⟨.hbm, 295, rfl⟩
abbrev main_call5_v20 : Ref sig .tc := ⟨.hbm, 296, rfl⟩
abbrev main_v68_0 : Ref sig .tc := ⟨.hbm, 297, rfl⟩
abbrev main_call5_c_5 : Ref sig .tc := ⟨.hbm, 298, rfl⟩
abbrev main_call5_v22 : Ref sig .tc := ⟨.hbm, 299, rfl⟩
abbrev main_call5_v23 : Ref sig .tc := ⟨.hbm, 300, rfl⟩
abbrev main_call5_c_6 : Ref sig .tc := ⟨.hbm, 301, rfl⟩
abbrev main_call5_v24 : Ref sig .tc := ⟨.hbm, 302, rfl⟩
abbrev main_call5_v25 : Ref sig .tc := ⟨.hbm, 303, rfl⟩
abbrev main_call5_v26 : Ref sig .tc := ⟨.hbm, 304, rfl⟩
abbrev main_v68_1 : Ref sig .tc := ⟨.hbm, 305, rfl⟩
abbrev main_v69 : Ref sig .tc := ⟨.hbm, 306, rfl⟩
abbrev main_v70 : Ref sig .tc := ⟨.hbm, 307, rfl⟩
abbrev main_c_20 : Ref sig .tc := ⟨.hbm, 308, rfl⟩
abbrev main_v71 : Ref sig .tc := ⟨.hbm, 309, rfl⟩
abbrev main_v72 : Ref sig .tc := ⟨.hbm, 310, rfl⟩
abbrev main_v73 : Ref sig .tc := ⟨.hbm, 311, rfl⟩
abbrev main_call6_v0 : Ref sig .tc := ⟨.hbm, 312, rfl⟩
abbrev main_call6_c : Ref sig .tc := ⟨.hbm, 313, rfl⟩
abbrev main_call6_v1 : Ref sig .tc := ⟨.hbm, 314, rfl⟩
abbrev main_call6_v2 : Ref sig .tc := ⟨.hbm, 315, rfl⟩
abbrev main_call6_c_0 : Ref sig .tc := ⟨.hbm, 316, rfl⟩
abbrev main_call6_v3 : Ref sig .tc := ⟨.hbm, 317, rfl⟩
abbrev main_call6_v4 : Ref sig .tc := ⟨.hbm, 318, rfl⟩
abbrev main_call6_v5 : Ref sig .tc := ⟨.hbm, 319, rfl⟩
abbrev main_call6_v6 : Ref sig .tc := ⟨.hbm, 320, rfl⟩
abbrev main_call6_v7 : Ref sig .tc := ⟨.hbm, 321, rfl⟩
abbrev main_call6_c_1 : Ref sig .tc := ⟨.hbm, 322, rfl⟩
abbrev main_call6_v8 : Ref sig .tc := ⟨.hbm, 323, rfl⟩
abbrev main_call6_v9 : Ref sig .tc := ⟨.hbm, 324, rfl⟩
abbrev main_call6_c_2 : Ref sig .tc := ⟨.hbm, 325, rfl⟩
abbrev main_call6_v10 : Ref sig .tc := ⟨.hbm, 326, rfl⟩
abbrev main_call6_v11 : Ref sig .tc := ⟨.hbm, 327, rfl⟩
abbrev main_call6_v12 : Ref sig .tc := ⟨.hbm, 328, rfl⟩
abbrev main_call6_v13 : Ref sig .tc := ⟨.hbm, 329, rfl⟩
abbrev main_call6_v14 : Ref sig .tc := ⟨.hbm, 330, rfl⟩
abbrev main_call6_c_3 : Ref sig .tc := ⟨.hbm, 331, rfl⟩
abbrev main_call6_v15 : Ref sig .tc := ⟨.hbm, 332, rfl⟩
abbrev main_call6_v16 : Ref sig .tc := ⟨.hbm, 333, rfl⟩
abbrev main_call6_c_4 : Ref sig .tc := ⟨.hbm, 334, rfl⟩
abbrev main_call6_v17 : Ref sig .tc := ⟨.hbm, 335, rfl⟩
abbrev main_call6_v18 : Ref sig .tc := ⟨.hbm, 336, rfl⟩
abbrev main_call6_v19 : Ref sig .tc := ⟨.hbm, 337, rfl⟩
abbrev main_call6_v20 : Ref sig .tc := ⟨.hbm, 338, rfl⟩
abbrev main_v74_0 : Ref sig .tc := ⟨.hbm, 339, rfl⟩
abbrev main_call6_c_5 : Ref sig .tc := ⟨.hbm, 340, rfl⟩
abbrev main_call6_v22 : Ref sig .tc := ⟨.hbm, 341, rfl⟩
abbrev main_call6_v23 : Ref sig .tc := ⟨.hbm, 342, rfl⟩
abbrev main_call6_c_6 : Ref sig .tc := ⟨.hbm, 343, rfl⟩
abbrev main_call6_v24 : Ref sig .tc := ⟨.hbm, 344, rfl⟩
abbrev main_call6_v25 : Ref sig .tc := ⟨.hbm, 345, rfl⟩
abbrev main_call6_v26 : Ref sig .tc := ⟨.hbm, 346, rfl⟩
abbrev main_v74_1 : Ref sig .tc := ⟨.hbm, 347, rfl⟩
abbrev main_v75 : Ref sig .tc := ⟨.hbm, 348, rfl⟩
abbrev main_v76 : Ref sig .tc := ⟨.hbm, 349, rfl⟩
abbrev main_c_21 : Ref sig .tc := ⟨.hbm, 350, rfl⟩
abbrev main_v77 : Ref sig .tc := ⟨.hbm, 351, rfl⟩
abbrev main_v78 : Ref sig .tc := ⟨.hbm, 352, rfl⟩
abbrev main_v79 : Ref sig .tc := ⟨.hbm, 353, rfl⟩
abbrev main_call7_v0 : Ref sig .tc := ⟨.hbm, 354, rfl⟩
abbrev main_call7_c : Ref sig .tc := ⟨.hbm, 355, rfl⟩
abbrev main_call7_v1 : Ref sig .tc := ⟨.hbm, 356, rfl⟩
abbrev main_call7_v2 : Ref sig .tc := ⟨.hbm, 357, rfl⟩
abbrev main_call7_c_0 : Ref sig .tc := ⟨.hbm, 358, rfl⟩
abbrev main_call7_v3 : Ref sig .tc := ⟨.hbm, 359, rfl⟩
abbrev main_call7_v4 : Ref sig .tc := ⟨.hbm, 360, rfl⟩
abbrev main_call7_v5 : Ref sig .tc := ⟨.hbm, 361, rfl⟩
abbrev main_call7_v6 : Ref sig .tc := ⟨.hbm, 362, rfl⟩
abbrev main_call7_v7 : Ref sig .tc := ⟨.hbm, 363, rfl⟩
abbrev main_call7_c_1 : Ref sig .tc := ⟨.hbm, 364, rfl⟩
abbrev main_call7_v8 : Ref sig .tc := ⟨.hbm, 365, rfl⟩
abbrev main_call7_v9 : Ref sig .tc := ⟨.hbm, 366, rfl⟩
abbrev main_call7_c_2 : Ref sig .tc := ⟨.hbm, 367, rfl⟩
abbrev main_call7_v10 : Ref sig .tc := ⟨.hbm, 368, rfl⟩
abbrev main_call7_v11 : Ref sig .tc := ⟨.hbm, 369, rfl⟩
abbrev main_call7_v12 : Ref sig .tc := ⟨.hbm, 370, rfl⟩
abbrev main_call7_v13 : Ref sig .tc := ⟨.hbm, 371, rfl⟩
abbrev main_call7_v14 : Ref sig .tc := ⟨.hbm, 372, rfl⟩
abbrev main_call7_c_3 : Ref sig .tc := ⟨.hbm, 373, rfl⟩
abbrev main_call7_v15 : Ref sig .tc := ⟨.hbm, 374, rfl⟩
abbrev main_call7_v16 : Ref sig .tc := ⟨.hbm, 375, rfl⟩
abbrev main_call7_c_4 : Ref sig .tc := ⟨.hbm, 376, rfl⟩
abbrev main_call7_v17 : Ref sig .tc := ⟨.hbm, 377, rfl⟩
abbrev main_call7_v18 : Ref sig .tc := ⟨.hbm, 378, rfl⟩
abbrev main_call7_v19 : Ref sig .tc := ⟨.hbm, 379, rfl⟩
abbrev main_call7_v20 : Ref sig .tc := ⟨.hbm, 380, rfl⟩
abbrev main_v80_0 : Ref sig .tc := ⟨.hbm, 381, rfl⟩
abbrev main_call7_c_5 : Ref sig .tc := ⟨.hbm, 382, rfl⟩
abbrev main_call7_v22 : Ref sig .tc := ⟨.hbm, 383, rfl⟩
abbrev main_call7_v23 : Ref sig .tc := ⟨.hbm, 384, rfl⟩
abbrev main_call7_c_6 : Ref sig .tc := ⟨.hbm, 385, rfl⟩
abbrev main_call7_v24 : Ref sig .tc := ⟨.hbm, 386, rfl⟩
abbrev main_call7_v25 : Ref sig .tc := ⟨.hbm, 387, rfl⟩
abbrev main_call7_v26 : Ref sig .tc := ⟨.hbm, 388, rfl⟩
abbrev main_v80_1 : Ref sig .tc := ⟨.hbm, 389, rfl⟩
abbrev main_v81 : Ref sig .tc := ⟨.hbm, 390, rfl⟩
abbrev main_v82 : Ref sig .tc := ⟨.hbm, 391, rfl⟩
abbrev main_c_22 : Ref sig .tc := ⟨.hbm, 392, rfl⟩
abbrev main_v83 : Ref sig .tc := ⟨.hbm, 393, rfl⟩
abbrev main_v84 : Ref sig .tc := ⟨.hbm, 394, rfl⟩
abbrev main_v85 : Ref sig .tc := ⟨.hbm, 395, rfl⟩
abbrev main_call8_v0 : Ref sig .tc := ⟨.hbm, 396, rfl⟩
abbrev main_call8_c : Ref sig .tc := ⟨.hbm, 397, rfl⟩
abbrev main_call8_v1 : Ref sig .tc := ⟨.hbm, 398, rfl⟩
abbrev main_call8_v2 : Ref sig .tc := ⟨.hbm, 399, rfl⟩
abbrev main_call8_c_0 : Ref sig .tc := ⟨.hbm, 400, rfl⟩
abbrev main_call8_v3 : Ref sig .tc := ⟨.hbm, 401, rfl⟩
abbrev main_call8_v4 : Ref sig .tc := ⟨.hbm, 402, rfl⟩
abbrev main_call8_v5 : Ref sig .tc := ⟨.hbm, 403, rfl⟩
abbrev main_call8_v6 : Ref sig .tc := ⟨.hbm, 404, rfl⟩
abbrev main_call8_v7 : Ref sig .tc := ⟨.hbm, 405, rfl⟩
abbrev main_call8_c_1 : Ref sig .tc := ⟨.hbm, 406, rfl⟩
abbrev main_call8_v8 : Ref sig .tc := ⟨.hbm, 407, rfl⟩
abbrev main_call8_v9 : Ref sig .tc := ⟨.hbm, 408, rfl⟩
abbrev main_call8_c_2 : Ref sig .tc := ⟨.hbm, 409, rfl⟩
abbrev main_call8_v10 : Ref sig .tc := ⟨.hbm, 410, rfl⟩
abbrev main_call8_v11 : Ref sig .tc := ⟨.hbm, 411, rfl⟩
abbrev main_call8_v12 : Ref sig .tc := ⟨.hbm, 412, rfl⟩
abbrev main_call8_v13 : Ref sig .tc := ⟨.hbm, 413, rfl⟩
abbrev main_call8_v14 : Ref sig .tc := ⟨.hbm, 414, rfl⟩
abbrev main_call8_c_3 : Ref sig .tc := ⟨.hbm, 415, rfl⟩
abbrev main_call8_v15 : Ref sig .tc := ⟨.hbm, 416, rfl⟩
abbrev main_call8_v16 : Ref sig .tc := ⟨.hbm, 417, rfl⟩
abbrev main_call8_c_4 : Ref sig .tc := ⟨.hbm, 418, rfl⟩
abbrev main_call8_v17 : Ref sig .tc := ⟨.hbm, 419, rfl⟩
abbrev main_call8_v18 : Ref sig .tc := ⟨.hbm, 420, rfl⟩
abbrev main_call8_v19 : Ref sig .tc := ⟨.hbm, 421, rfl⟩
abbrev main_call8_v20 : Ref sig .tc := ⟨.hbm, 422, rfl⟩
abbrev main_v86_0 : Ref sig .tc := ⟨.hbm, 423, rfl⟩
abbrev main_call8_c_5 : Ref sig .tc := ⟨.hbm, 424, rfl⟩
abbrev main_call8_v22 : Ref sig .tc := ⟨.hbm, 425, rfl⟩
abbrev main_call8_v23 : Ref sig .tc := ⟨.hbm, 426, rfl⟩
abbrev main_call8_c_6 : Ref sig .tc := ⟨.hbm, 427, rfl⟩
abbrev main_call8_v24 : Ref sig .tc := ⟨.hbm, 428, rfl⟩
abbrev main_call8_v25 : Ref sig .tc := ⟨.hbm, 429, rfl⟩
abbrev main_call8_v26 : Ref sig .tc := ⟨.hbm, 430, rfl⟩
abbrev main_v86_1 : Ref sig .tc := ⟨.hbm, 431, rfl⟩
abbrev main_v87 : Ref sig .tc := ⟨.hbm, 432, rfl⟩
abbrev main_v88 : Ref sig .tc := ⟨.hbm, 433, rfl⟩
abbrev main_c_23 : Ref sig .tc := ⟨.hbm, 434, rfl⟩
abbrev main_v89 : Ref sig .tc := ⟨.hbm, 435, rfl⟩
abbrev main_v90 : Ref sig .tc := ⟨.hbm, 436, rfl⟩
abbrev main_v91 : Ref sig .tc := ⟨.hbm, 437, rfl⟩
abbrev main_call9_v0 : Ref sig .tc := ⟨.hbm, 438, rfl⟩
abbrev main_call9_c : Ref sig .tc := ⟨.hbm, 439, rfl⟩
abbrev main_call9_v1 : Ref sig .tc := ⟨.hbm, 440, rfl⟩
abbrev main_call9_v2 : Ref sig .tc := ⟨.hbm, 441, rfl⟩
abbrev main_call9_c_0 : Ref sig .tc := ⟨.hbm, 442, rfl⟩
abbrev main_call9_v3 : Ref sig .tc := ⟨.hbm, 443, rfl⟩
abbrev main_call9_v4 : Ref sig .tc := ⟨.hbm, 444, rfl⟩
abbrev main_call9_v5 : Ref sig .tc := ⟨.hbm, 445, rfl⟩
abbrev main_call9_v6 : Ref sig .tc := ⟨.hbm, 446, rfl⟩
abbrev main_call9_v7 : Ref sig .tc := ⟨.hbm, 447, rfl⟩
abbrev main_call9_c_1 : Ref sig .tc := ⟨.hbm, 448, rfl⟩
abbrev main_call9_v8 : Ref sig .tc := ⟨.hbm, 449, rfl⟩
abbrev main_call9_v9 : Ref sig .tc := ⟨.hbm, 450, rfl⟩
abbrev main_call9_c_2 : Ref sig .tc := ⟨.hbm, 451, rfl⟩
abbrev main_call9_v10 : Ref sig .tc := ⟨.hbm, 452, rfl⟩
abbrev main_call9_v11 : Ref sig .tc := ⟨.hbm, 453, rfl⟩
abbrev main_call9_v12 : Ref sig .tc := ⟨.hbm, 454, rfl⟩
abbrev main_call9_v13 : Ref sig .tc := ⟨.hbm, 455, rfl⟩
abbrev main_call9_v14 : Ref sig .tc := ⟨.hbm, 456, rfl⟩
abbrev main_call9_c_3 : Ref sig .tc := ⟨.hbm, 457, rfl⟩
abbrev main_call9_v15 : Ref sig .tc := ⟨.hbm, 458, rfl⟩
abbrev main_call9_v16 : Ref sig .tc := ⟨.hbm, 459, rfl⟩
abbrev main_call9_c_4 : Ref sig .tc := ⟨.hbm, 460, rfl⟩
abbrev main_call9_v17 : Ref sig .tc := ⟨.hbm, 461, rfl⟩
abbrev main_call9_v18 : Ref sig .tc := ⟨.hbm, 462, rfl⟩
abbrev main_call9_v19 : Ref sig .tc := ⟨.hbm, 463, rfl⟩
abbrev main_call9_v20 : Ref sig .tc := ⟨.hbm, 464, rfl⟩
abbrev main_v92_0 : Ref sig .tc := ⟨.hbm, 465, rfl⟩
abbrev main_call9_c_5 : Ref sig .tc := ⟨.hbm, 466, rfl⟩
abbrev main_call9_v22 : Ref sig .tc := ⟨.hbm, 467, rfl⟩
abbrev main_call9_v23 : Ref sig .tc := ⟨.hbm, 468, rfl⟩
abbrev main_call9_c_6 : Ref sig .tc := ⟨.hbm, 469, rfl⟩
abbrev main_call9_v24 : Ref sig .tc := ⟨.hbm, 470, rfl⟩
abbrev main_call9_v25 : Ref sig .tc := ⟨.hbm, 471, rfl⟩
abbrev main_call9_v26 : Ref sig .tc := ⟨.hbm, 472, rfl⟩
abbrev main_v92_1 : Ref sig .tc := ⟨.hbm, 473, rfl⟩
abbrev main_v93 : Ref sig .tc := ⟨.hbm, 474, rfl⟩
abbrev main_v94 : Ref sig .tc := ⟨.hbm, 475, rfl⟩
abbrev main_c_24 : Ref sig .tc := ⟨.hbm, 476, rfl⟩
abbrev main_v95 : Ref sig .tc := ⟨.hbm, 477, rfl⟩
abbrev main_v96 : Ref sig .tc := ⟨.hbm, 478, rfl⟩
abbrev main_v97 : Ref sig .tc := ⟨.hbm, 479, rfl⟩
abbrev main_v98 : Ref sig .tc := ⟨.hbm, 480, rfl⟩
abbrev main_c_25 : Ref sig .tc := ⟨.hbm, 481, rfl⟩
abbrev main_v99 : Ref sig .tc := ⟨.hbm, 482, rfl⟩
abbrev main_v100 : Ref sig .tc := ⟨.hbm, 483, rfl⟩
abbrev main_c_26 : Ref sig .tc := ⟨.hbm, 484, rfl⟩
abbrev main_v101 : Ref sig .tc := ⟨.hbm, 485, rfl⟩
abbrev main_v102 : Ref sig .tc := ⟨.hbm, 486, rfl⟩
abbrev main_v103 : Ref sig .tc := ⟨.hbm, 487, rfl⟩
abbrev main_cst_27 : Ref sig .tc := ⟨.hbm, 488, rfl⟩
abbrev main_v104 : Ref sig .tc := ⟨.hbm, 489, rfl⟩
abbrev main_v105 : Ref sig .tc := ⟨.hbm, 490, rfl⟩
abbrev main_cst_28 : Ref sig .tc := ⟨.hbm, 491, rfl⟩
abbrev main_v106 : Ref sig .tc := ⟨.hbm, 492, rfl⟩
abbrev main_v107 : Ref sig .tc := ⟨.hbm, 493, rfl⟩
abbrev main_v108 : Ref sig .tc := ⟨.hbm, 494, rfl⟩
abbrev main_v109 : Ref sig .tc := ⟨.hbm, 495, rfl⟩
abbrev main_v110 : Ref sig .tc := ⟨.hbm, 496, rfl⟩
abbrev main_v111 : Ref sig .tc := ⟨.hbm, 497, rfl⟩
abbrev main_v112 : Ref sig .tc := ⟨.hbm, 498, rfl⟩
abbrev main_v113 : Ref sig .tc := ⟨.hbm, 499, rfl⟩
abbrev main_v114 : Ref sig .tc := ⟨.hbm, 500, rfl⟩
abbrev main_v115 : Ref sig .tc := ⟨.hbm, 501, rfl⟩
abbrev main_cst_29 : Ref sig .tc := ⟨.hbm, 502, rfl⟩
abbrev main_v116 : Ref sig .tc := ⟨.hbm, 503, rfl⟩
abbrev main_v117 : Ref sig .tc := ⟨.hbm, 504, rfl⟩
abbrev main_v118 : Ref sig .tc := ⟨.hbm, 505, rfl⟩
abbrev main_v119 : Ref sig .tc := ⟨.hbm, 506, rfl⟩
abbrev main_c_30 : Ref sig .tc := ⟨.hbm, 507, rfl⟩
abbrev main_call10_v0 : Ref sig .tc := ⟨.hbm, 508, rfl⟩
abbrev main_call10_v1 : Ref sig .tc := ⟨.hbm, 509, rfl⟩
abbrev main_v120 : Ref sig .tc := ⟨.hbm, 510, rfl⟩
abbrev main_c_31 : Ref sig .tc := ⟨.hbm, 511, rfl⟩
abbrev main_v121 : Ref sig .tc := ⟨.hbm, 512, rfl⟩
abbrev main_cst_32 : Ref sig .tc := ⟨.hbm, 513, rfl⟩
abbrev main_cst_33 : Ref sig .tc := ⟨.hbm, 514, rfl⟩
abbrev main_call11_v0 : Ref sig .tc := ⟨.hbm, 515, rfl⟩
abbrev main_call11_v1 : Ref sig .tc := ⟨.hbm, 516, rfl⟩
abbrev main_call11_v2 : Ref sig .tc := ⟨.hbm, 517, rfl⟩
abbrev main_call11_cst : Ref sig .tc := ⟨.hbm, 518, rfl⟩
abbrev main_call11_v3 : Ref sig .tc := ⟨.hbm, 519, rfl⟩
abbrev main_call11_v4 : Ref sig .tc := ⟨.hbm, 520, rfl⟩
abbrev main_call11_cst_0 : Ref sig .tc := ⟨.hbm, 521, rfl⟩
abbrev main_call11_v5 : Ref sig .tc := ⟨.hbm, 522, rfl⟩
abbrev main_call11_v6 : Ref sig .tc := ⟨.hbm, 523, rfl⟩
abbrev main_call11_v7 : Ref sig .tc := ⟨.hbm, 524, rfl⟩
abbrev main_call11_cst_1 : Ref sig .tc := ⟨.hbm, 525, rfl⟩
abbrev main_call11_v8 : Ref sig .tc := ⟨.hbm, 526, rfl⟩
abbrev main_call11_v9 : Ref sig .tc := ⟨.hbm, 527, rfl⟩
abbrev main_call11_v10 : Ref sig .tc := ⟨.hbm, 528, rfl⟩
abbrev main_call11_v11 : Ref sig .tc := ⟨.hbm, 529, rfl⟩
abbrev main_call11_v12 : Ref sig .tc := ⟨.hbm, 530, rfl⟩
abbrev main_call11_v13 : Ref sig .tc := ⟨.hbm, 531, rfl⟩
abbrev main_call11_v14 : Ref sig .tc := ⟨.hbm, 532, rfl⟩
abbrev main_call11_v15 : Ref sig .tc := ⟨.hbm, 533, rfl⟩
abbrev main_call11_v16 : Ref sig .tc := ⟨.hbm, 534, rfl⟩
abbrev main_v122 : Ref sig .tc := ⟨.hbm, 535, rfl⟩
abbrev main_cst_34 : Ref sig .tc := ⟨.hbm, 536, rfl⟩
abbrev main_cst_35 : Ref sig .tc := ⟨.hbm, 537, rfl⟩
abbrev main_call12_v0 : Ref sig .tc := ⟨.hbm, 538, rfl⟩
abbrev main_call12_v1 : Ref sig .tc := ⟨.hbm, 539, rfl⟩
abbrev main_call12_v2 : Ref sig .tc := ⟨.hbm, 540, rfl⟩
abbrev main_call12_cst : Ref sig .tc := ⟨.hbm, 541, rfl⟩
abbrev main_call12_v3 : Ref sig .tc := ⟨.hbm, 542, rfl⟩
abbrev main_call12_v4 : Ref sig .tc := ⟨.hbm, 543, rfl⟩
abbrev main_call12_cst_0 : Ref sig .tc := ⟨.hbm, 544, rfl⟩
abbrev main_call12_v5 : Ref sig .tc := ⟨.hbm, 545, rfl⟩
abbrev main_call12_v6 : Ref sig .tc := ⟨.hbm, 546, rfl⟩
abbrev main_call12_v7 : Ref sig .tc := ⟨.hbm, 547, rfl⟩
abbrev main_call12_cst_1 : Ref sig .tc := ⟨.hbm, 548, rfl⟩
abbrev main_call12_v8 : Ref sig .tc := ⟨.hbm, 549, rfl⟩
abbrev main_call12_v9 : Ref sig .tc := ⟨.hbm, 550, rfl⟩
abbrev main_call12_v10 : Ref sig .tc := ⟨.hbm, 551, rfl⟩
abbrev main_call12_v11 : Ref sig .tc := ⟨.hbm, 552, rfl⟩
abbrev main_call12_v12 : Ref sig .tc := ⟨.hbm, 553, rfl⟩
abbrev main_call12_v13 : Ref sig .tc := ⟨.hbm, 554, rfl⟩
abbrev main_call12_v14 : Ref sig .tc := ⟨.hbm, 555, rfl⟩
abbrev main_call12_v15 : Ref sig .tc := ⟨.hbm, 556, rfl⟩
abbrev main_call12_v16 : Ref sig .tc := ⟨.hbm, 557, rfl⟩
abbrev main_v123 : Ref sig .tc := ⟨.hbm, 558, rfl⟩
abbrev main_v124 : Ref sig .tc := ⟨.hbm, 559, rfl⟩
abbrev main_v125 : Ref sig .tc := ⟨.hbm, 560, rfl⟩
abbrev main_v126 : Ref sig .tc := ⟨.hbm, 561, rfl⟩
abbrev main_v127 : Ref sig .tc := ⟨.hbm, 562, rfl⟩
abbrev main_v128 : Ref sig .tc := ⟨.hbm, 563, rfl⟩
abbrev main_v129 : Ref sig .tc := ⟨.hbm, 564, rfl⟩
abbrev main_call13_c : Ref sig .tc := ⟨.hbm, 565, rfl⟩
abbrev main_call13_v0 : Ref sig .tc := ⟨.hbm, 566, rfl⟩
abbrev main_call13_v1 : Ref sig .tc := ⟨.hbm, 567, rfl⟩
abbrev main_call13_c_0 : Ref sig .tc := ⟨.hbm, 568, rfl⟩
abbrev main_call13_v2 : Ref sig .tc := ⟨.hbm, 569, rfl⟩
abbrev main_call13_v3 : Ref sig .tc := ⟨.hbm, 570, rfl⟩
abbrev main_call13_v4 : Ref sig .tc := ⟨.hbm, 571, rfl⟩
abbrev main_call13_v5 : Ref sig .tc := ⟨.hbm, 572, rfl⟩
abbrev main_call13_c_1 : Ref sig .tc := ⟨.hbm, 573, rfl⟩
abbrev main_call13_c_2 : Ref sig .tc := ⟨.hbm, 574, rfl⟩
abbrev main_call13_v6 : Ref sig .tc := ⟨.hbm, 575, rfl⟩
abbrev main_call13_v7 : Ref sig .tc := ⟨.hbm, 576, rfl⟩
abbrev main_call13_v8 : Ref sig .tc := ⟨.hbm, 577, rfl⟩
abbrev main_call13_v9 : Ref sig .tc := ⟨.hbm, 578, rfl⟩
abbrev main_call13_v10 : Ref sig .tc := ⟨.hbm, 579, rfl⟩
abbrev main_call13_v11 : Ref sig .tc := ⟨.hbm, 580, rfl⟩
abbrev main_call13_c_3 : Ref sig .tc := ⟨.hbm, 581, rfl⟩
abbrev main_call13_v12 : Ref sig .tc := ⟨.hbm, 582, rfl⟩
abbrev main_call13_v13 : Ref sig .tc := ⟨.hbm, 583, rfl⟩
abbrev main_call13_v14 : Ref sig .tc := ⟨.hbm, 584, rfl⟩
abbrev main_call13_cst : Ref sig .tc := ⟨.hbm, 585, rfl⟩
abbrev main_call13_v15 : Ref sig .tc := ⟨.hbm, 586, rfl⟩
abbrev main_v130 : Ref sig .tc := ⟨.hbm, 587, rfl⟩
abbrev main_v131 : Ref sig .tc := ⟨.hbm, 588, rfl⟩
abbrev main_v132 : Ref sig .tc := ⟨.hbm, 589, rfl⟩
abbrev main_v133 : Ref sig .tc := ⟨.hbm, 590, rfl⟩
abbrev main_v134 : Ref sig .tc := ⟨.hbm, 591, rfl⟩
abbrev main_v135 : Ref sig .tc := ⟨.hbm, 592, rfl⟩
abbrev main_v136 : Ref sig .tc := ⟨.hbm, 593, rfl⟩
abbrev main_cst_36 : Ref sig .tc := ⟨.hbm, 594, rfl⟩
abbrev main_v137 : Ref sig .tc := ⟨.hbm, 595, rfl⟩
abbrev main_v138 : Ref sig .tc := ⟨.hbm, 596, rfl⟩
abbrev main_v139 : Ref sig .tc := ⟨.hbm, 597, rfl⟩
abbrev main_v140 : Ref sig .tc := ⟨.hbm, 598, rfl⟩
abbrev main_c_37 : Ref sig .tc := ⟨.hbm, 599, rfl⟩
abbrev main_v141 : Ref sig .tc := ⟨.hbm, 600, rfl⟩
abbrev main_v142 : Ref sig .tc := ⟨.hbm, 601, rfl⟩
abbrev main_v143 : Ref sig .tc := ⟨.hbm, 602, rfl⟩
abbrev main_v144 : Ref sig .tc := ⟨.hbm, 603, rfl⟩
abbrev main_v145 : Ref sig .tc := ⟨.hbm, 604, rfl⟩
abbrev main_v146 : Ref sig .tc := ⟨.hbm, 605, rfl⟩
abbrev main_v147 : Ref sig .tc := ⟨.hbm, 606, rfl⟩
abbrev main_v148 : Ref sig .tc := ⟨.hbm, 607, rfl⟩
abbrev main_c_38 : Ref sig .tc := ⟨.hbm, 608, rfl⟩
abbrev main_v149 : Ref sig .tc := ⟨.hbm, 609, rfl⟩
abbrev main_v150 : Ref sig .tc := ⟨.hbm, 610, rfl⟩
abbrev main_v151 : Ref sig .tc := ⟨.hbm, 611, rfl⟩
abbrev main_v152 : Ref sig .tc := ⟨.hbm, 612, rfl⟩
abbrev main_v153 : Ref sig .tc := ⟨.hbm, 613, rfl⟩
abbrev main_cst_39 : Ref sig .tc := ⟨.hbm, 614, rfl⟩
abbrev main_call14_v0 : Ref sig .tc := ⟨.hbm, 615, rfl⟩
abbrev main_call14_v1 : Ref sig .tc := ⟨.hbm, 616, rfl⟩
abbrev main_call14_v2 : Ref sig .tc := ⟨.hbm, 617, rfl⟩
abbrev main_v154 : Ref sig .tc := ⟨.hbm, 618, rfl⟩
abbrev main_v155 : Ref sig .tc := ⟨.hbm, 619, rfl⟩
abbrev main_cst_40 : Ref sig .tc := ⟨.hbm, 620, rfl⟩
abbrev main_v156 : Ref sig .tc := ⟨.hbm, 621, rfl⟩
abbrev main_v157 : Ref sig .tc := ⟨.hbm, 622, rfl⟩
abbrev main_v158 : Ref sig .tc := ⟨.hbm, 623, rfl⟩
abbrev main_v159 : Ref sig .tc := ⟨.hbm, 624, rfl⟩
abbrev main_c_41 : Ref sig .tc := ⟨.hbm, 625, rfl⟩
abbrev main_call15_v0 : Ref sig .tc := ⟨.hbm, 626, rfl⟩
abbrev main_call15_v1 : Ref sig .tc := ⟨.hbm, 627, rfl⟩
abbrev main_v160 : Ref sig .tc := ⟨.hbm, 628, rfl⟩
abbrev main_c_42 : Ref sig .tc := ⟨.hbm, 629, rfl⟩
abbrev main_v161 : Ref sig .tc := ⟨.hbm, 630, rfl⟩
abbrev main_v162 : Ref sig .tc := ⟨.hbm, 631, rfl⟩
abbrev main_c_43 : Ref sig .tc := ⟨.hbm, 632, rfl⟩
abbrev main_v163 : Ref sig .tc := ⟨.hbm, 633, rfl⟩
abbrev main_v164 : Ref sig .tc := ⟨.hbm, 634, rfl⟩
abbrev main_v165 : Ref sig .tc := ⟨.hbm, 635, rfl⟩
abbrev main_v166 : Ref sig .tc := ⟨.hbm, 636, rfl⟩
abbrev main_v167 : Ref sig .tc := ⟨.hbm, 637, rfl⟩
abbrev main_c_44 : Ref sig .tc := ⟨.hbm, 638, rfl⟩
abbrev main_call16_v0 : Ref sig .tc := ⟨.hbm, 639, rfl⟩
abbrev main_call16_v1 : Ref sig .tc := ⟨.hbm, 640, rfl⟩
abbrev main_call16_v2 : Ref sig .tc := ⟨.hbm, 641, rfl⟩
abbrev main_v168 : Ref sig .tc := ⟨.hbm, 642, rfl⟩
abbrev main_call17_v0 : Ref sig .tc := ⟨.hbm, 643, rfl⟩
abbrev main_call17_v1 : Ref sig .tc := ⟨.hbm, 644, rfl⟩
abbrev main_v169 : Ref sig .tc := ⟨.hbm, 645, rfl⟩
abbrev main_v170 : Ref sig .tc := ⟨.hbm, 646, rfl⟩
abbrev main_call18_c : Ref sig .tc := ⟨.hbm, 647, rfl⟩
abbrev main_call18_v0 : Ref sig .tc := ⟨.hbm, 648, rfl⟩
abbrev main_call18_v1 : Ref sig .tc := ⟨.hbm, 649, rfl⟩
abbrev main_call18_c_0 : Ref sig .tc := ⟨.hbm, 650, rfl⟩
abbrev main_call18_v2 : Ref sig .tc := ⟨.hbm, 651, rfl⟩
abbrev main_call18_v3 : Ref sig .tc := ⟨.hbm, 652, rfl⟩
abbrev main_call18_v4 : Ref sig .tc := ⟨.hbm, 653, rfl⟩
abbrev main_call18_c_1 : Ref sig .tc := ⟨.hbm, 654, rfl⟩
abbrev main_call18_c_2 : Ref sig .tc := ⟨.hbm, 655, rfl⟩
abbrev main_call18_v5 : Ref sig .tc := ⟨.hbm, 656, rfl⟩
abbrev main_call18_v6 : Ref sig .tc := ⟨.hbm, 657, rfl⟩
abbrev main_call18_v7 : Ref sig .tc := ⟨.hbm, 658, rfl⟩
abbrev main_call18_v8 : Ref sig .tc := ⟨.hbm, 659, rfl⟩
abbrev main_call18_v9 : Ref sig .tc := ⟨.hbm, 660, rfl⟩
abbrev main_call18_v10 : Ref sig .tc := ⟨.hbm, 661, rfl⟩
abbrev main_call18_c_3 : Ref sig .tc := ⟨.hbm, 662, rfl⟩
abbrev main_call18_v11 : Ref sig .tc := ⟨.hbm, 663, rfl⟩
abbrev main_call18_v12 : Ref sig .tc := ⟨.hbm, 664, rfl⟩
abbrev main_call18_v13 : Ref sig .tc := ⟨.hbm, 665, rfl⟩
abbrev main_call18_cst : Ref sig .tc := ⟨.hbm, 666, rfl⟩
abbrev main_call18_v14 : Ref sig .tc := ⟨.hbm, 667, rfl⟩
abbrev main_v171 : Ref sig .tc := ⟨.hbm, 668, rfl⟩
abbrev main_v172 : Ref sig .tc := ⟨.hbm, 669, rfl⟩
abbrev main_v173 : Ref sig .tc := ⟨.hbm, 670, rfl⟩
abbrev main_v174 : Ref sig .tc := ⟨.hbm, 671, rfl⟩
abbrev main_v175 : Ref sig .tc := ⟨.hbm, 672, rfl⟩
abbrev main_v176 : Ref sig .tc := ⟨.hbm, 673, rfl⟩
abbrev main_c_45 : Ref sig .tc := ⟨.hbm, 674, rfl⟩
abbrev main_v177 : Ref sig .tc := ⟨.hbm, 675, rfl⟩
abbrev main_v178 : Ref sig .tc := ⟨.hbm, 676, rfl⟩
abbrev main_v179 : Ref sig .tc := ⟨.hbm, 677, rfl⟩
abbrev main_v180 : Ref sig .tc := ⟨.hbm, 678, rfl⟩
abbrev main_v181 : Ref sig .tc := ⟨.hbm, 679, rfl⟩
abbrev main_v182 : Ref sig .tc := ⟨.hbm, 680, rfl⟩
abbrev main_v183 : Ref sig .tc := ⟨.hbm, 681, rfl⟩
abbrev main_call19_v0 : Ref sig .tc := ⟨.hbm, 682, rfl⟩
abbrev main_call19_v1 : Ref sig .tc := ⟨.hbm, 683, rfl⟩
abbrev main_v184 : Ref sig .tc := ⟨.hbm, 684, rfl⟩
abbrev main_c_46 : Ref sig .tc := ⟨.hbm, 685, rfl⟩
abbrev main_v185 : Ref sig .tc := ⟨.hbm, 686, rfl⟩
abbrev main_v186 : Ref sig .tc := ⟨.hbm, 687, rfl⟩
abbrev main_v187 : Ref sig .tc := ⟨.hbm, 688, rfl⟩
abbrev main_v188 : Ref sig .tc := ⟨.hbm, 689, rfl⟩
abbrev main_v189 : Ref sig .tc := ⟨.hbm, 690, rfl⟩
abbrev main_cst_47 : Ref sig .tc := ⟨.hbm, 691, rfl⟩
abbrev main_call20_v0 : Ref sig .tc := ⟨.hbm, 692, rfl⟩
abbrev main_call20_v1 : Ref sig .tc := ⟨.hbm, 693, rfl⟩
abbrev main_call20_v2 : Ref sig .tc := ⟨.hbm, 694, rfl⟩
abbrev main_v190 : Ref sig .tc := ⟨.hbm, 695, rfl⟩
abbrev main_v191 : Ref sig .tc := ⟨.hbm, 696, rfl⟩
abbrev main_cst_48 : Ref sig .tc := ⟨.hbm, 697, rfl⟩
abbrev main_v192 : Ref sig .tc := ⟨.hbm, 698, rfl⟩
abbrev main_v193 : Ref sig .tc := ⟨.hbm, 699, rfl⟩
abbrev main_v194 : Ref sig .tc := ⟨.hbm, 700, rfl⟩
abbrev main_v195 : Ref sig .tc := ⟨.hbm, 701, rfl⟩
abbrev main_c_49 : Ref sig .tc := ⟨.hbm, 702, rfl⟩
abbrev main_call21_v0 : Ref sig .tc := ⟨.hbm, 703, rfl⟩
abbrev main_call21_v1 : Ref sig .tc := ⟨.hbm, 704, rfl⟩
abbrev main_v196 : Ref sig .tc := ⟨.hbm, 705, rfl⟩
abbrev main_c_50 : Ref sig .tc := ⟨.hbm, 706, rfl⟩
abbrev main_v197 : Ref sig .tc := ⟨.hbm, 707, rfl⟩
abbrev main_v198 : Ref sig .tc := ⟨.hbm, 708, rfl⟩
abbrev main_c_51 : Ref sig .tc := ⟨.hbm, 709, rfl⟩
abbrev main_v199 : Ref sig .tc := ⟨.hbm, 710, rfl⟩
abbrev main_v200 : Ref sig .tc := ⟨.hbm, 711, rfl⟩
abbrev main_v201 : Ref sig .tc := ⟨.hbm, 712, rfl⟩
abbrev main_v202 : Ref sig .tc := ⟨.hbm, 713, rfl⟩
abbrev main_v203 : Ref sig .tc := ⟨.hbm, 714, rfl⟩
abbrev main_c_52 : Ref sig .tc := ⟨.hbm, 715, rfl⟩
abbrev main_call22_v0 : Ref sig .tc := ⟨.hbm, 716, rfl⟩
abbrev main_call22_v1 : Ref sig .tc := ⟨.hbm, 717, rfl⟩
abbrev main_call22_v2 : Ref sig .tc := ⟨.hbm, 718, rfl⟩
abbrev main_v204 : Ref sig .tc := ⟨.hbm, 719, rfl⟩
abbrev main_call23_v0 : Ref sig .tc := ⟨.hbm, 720, rfl⟩
abbrev main_call23_v1 : Ref sig .tc := ⟨.hbm, 721, rfl⟩
abbrev main_v205 : Ref sig .tc := ⟨.hbm, 722, rfl⟩
abbrev main_v206 : Ref sig .tc := ⟨.hbm, 723, rfl⟩
abbrev main_call24_c : Ref sig .tc := ⟨.hbm, 724, rfl⟩
abbrev main_call24_v0 : Ref sig .tc := ⟨.hbm, 725, rfl⟩
abbrev main_call24_v1 : Ref sig .tc := ⟨.hbm, 726, rfl⟩
abbrev main_call24_c_0 : Ref sig .tc := ⟨.hbm, 727, rfl⟩
abbrev main_call24_v2 : Ref sig .tc := ⟨.hbm, 728, rfl⟩
abbrev main_call24_v3 : Ref sig .tc := ⟨.hbm, 729, rfl⟩
abbrev main_call24_v4 : Ref sig .tc := ⟨.hbm, 730, rfl⟩
abbrev main_call24_c_1 : Ref sig .tc := ⟨.hbm, 731, rfl⟩
abbrev main_call24_c_2 : Ref sig .tc := ⟨.hbm, 732, rfl⟩
abbrev main_call24_v5 : Ref sig .tc := ⟨.hbm, 733, rfl⟩
abbrev main_call24_v6 : Ref sig .tc := ⟨.hbm, 734, rfl⟩
abbrev main_call24_v7 : Ref sig .tc := ⟨.hbm, 735, rfl⟩
abbrev main_call24_v8 : Ref sig .tc := ⟨.hbm, 736, rfl⟩
abbrev main_call24_v9 : Ref sig .tc := ⟨.hbm, 737, rfl⟩
abbrev main_call24_v10 : Ref sig .tc := ⟨.hbm, 738, rfl⟩
abbrev main_call24_c_3 : Ref sig .tc := ⟨.hbm, 739, rfl⟩
abbrev main_call24_v11 : Ref sig .tc := ⟨.hbm, 740, rfl⟩
abbrev main_call24_v12 : Ref sig .tc := ⟨.hbm, 741, rfl⟩
abbrev main_call24_v13 : Ref sig .tc := ⟨.hbm, 742, rfl⟩
abbrev main_call24_cst : Ref sig .tc := ⟨.hbm, 743, rfl⟩
abbrev main_call24_v14 : Ref sig .tc := ⟨.hbm, 744, rfl⟩
abbrev main_v207 : Ref sig .tc := ⟨.hbm, 745, rfl⟩
abbrev main_v208 : Ref sig .tc := ⟨.hbm, 746, rfl⟩
abbrev main_v209 : Ref sig .tc := ⟨.hbm, 747, rfl⟩
abbrev main_v210 : Ref sig .tc := ⟨.hbm, 748, rfl⟩
abbrev main_v211 : Ref sig .tc := ⟨.hbm, 749, rfl⟩
abbrev main_v212 : Ref sig .tc := ⟨.hbm, 750, rfl⟩
abbrev main_c_53 : Ref sig .tc := ⟨.hbm, 751, rfl⟩
abbrev main_v213 : Ref sig .tc := ⟨.hbm, 752, rfl⟩
abbrev main_v214 : Ref sig .tc := ⟨.hbm, 753, rfl⟩
abbrev main_v215 : Ref sig .tc := ⟨.hbm, 754, rfl⟩
abbrev main_v216 : Ref sig .tc := ⟨.hbm, 755, rfl⟩
abbrev main_v217 : Ref sig .tc := ⟨.hbm, 756, rfl⟩
abbrev main_v218 : Ref sig .tc := ⟨.hbm, 757, rfl⟩
abbrev main_v219 : Ref sig .tc := ⟨.hbm, 758, rfl⟩
abbrev main_call25_v0 : Ref sig .tc := ⟨.hbm, 759, rfl⟩
abbrev main_call25_v1 : Ref sig .tc := ⟨.hbm, 760, rfl⟩
abbrev main_v220 : Ref sig .tc := ⟨.hbm, 761, rfl⟩
abbrev main_c_54 : Ref sig .tc := ⟨.hbm, 762, rfl⟩
abbrev main_v221 : Ref sig .tc := ⟨.hbm, 763, rfl⟩
abbrev main_v222 : Ref sig .tc := ⟨.hbm, 764, rfl⟩
abbrev main_v223 : Ref sig .tc := ⟨.hbm, 765, rfl⟩
abbrev main_v224 : Ref sig .tc := ⟨.hbm, 766, rfl⟩
abbrev main_v225 : Ref sig .tc := ⟨.hbm, 767, rfl⟩
abbrev main_cst_55 : Ref sig .tc := ⟨.hbm, 768, rfl⟩
abbrev main_call26_v0 : Ref sig .tc := ⟨.hbm, 769, rfl⟩
abbrev main_call26_v1 : Ref sig .tc := ⟨.hbm, 770, rfl⟩
abbrev main_call26_v2 : Ref sig .tc := ⟨.hbm, 771, rfl⟩
abbrev main_v226 : Ref sig .tc := ⟨.hbm, 772, rfl⟩
abbrev main_v227 : Ref sig .tc := ⟨.hbm, 773, rfl⟩
abbrev main_cst_56 : Ref sig .tc := ⟨.hbm, 774, rfl⟩
abbrev main_v228 : Ref sig .tc := ⟨.hbm, 775, rfl⟩
abbrev main_v229 : Ref sig .tc := ⟨.hbm, 776, rfl⟩
abbrev main_v230 : Ref sig .tc := ⟨.hbm, 777, rfl⟩
abbrev main_v231 : Ref sig .tc := ⟨.hbm, 778, rfl⟩
abbrev main_c_57 : Ref sig .tc := ⟨.hbm, 779, rfl⟩
abbrev main_call27_v0 : Ref sig .tc := ⟨.hbm, 780, rfl⟩
abbrev main_call27_v1 : Ref sig .tc := ⟨.hbm, 781, rfl⟩
abbrev main_v232 : Ref sig .tc := ⟨.hbm, 782, rfl⟩
abbrev main_c_58 : Ref sig .tc := ⟨.hbm, 783, rfl⟩
abbrev main_v233 : Ref sig .tc := ⟨.hbm, 784, rfl⟩
abbrev main_v234 : Ref sig .tc := ⟨.hbm, 785, rfl⟩
abbrev main_c_59 : Ref sig .tc := ⟨.hbm, 786, rfl⟩
abbrev main_v235 : Ref sig .tc := ⟨.hbm, 787, rfl⟩
abbrev main_v236 : Ref sig .tc := ⟨.hbm, 788, rfl⟩
abbrev main_v237 : Ref sig .tc := ⟨.hbm, 789, rfl⟩
abbrev main_v238 : Ref sig .tc := ⟨.hbm, 790, rfl⟩
abbrev main_v239 : Ref sig .tc := ⟨.hbm, 791, rfl⟩
abbrev main_c_60 : Ref sig .tc := ⟨.hbm, 792, rfl⟩
abbrev main_call28_v0 : Ref sig .tc := ⟨.hbm, 793, rfl⟩
abbrev main_call28_v1 : Ref sig .tc := ⟨.hbm, 794, rfl⟩
abbrev main_call28_v2 : Ref sig .tc := ⟨.hbm, 795, rfl⟩
abbrev main_v240 : Ref sig .tc := ⟨.hbm, 796, rfl⟩
abbrev main_call29_v0 : Ref sig .tc := ⟨.hbm, 797, rfl⟩
abbrev main_call29_v1 : Ref sig .tc := ⟨.hbm, 798, rfl⟩
abbrev main_v241 : Ref sig .tc := ⟨.hbm, 799, rfl⟩
abbrev main_v242 : Ref sig .tc := ⟨.hbm, 800, rfl⟩
abbrev main_call30_c : Ref sig .tc := ⟨.hbm, 801, rfl⟩
abbrev main_call30_v0 : Ref sig .tc := ⟨.hbm, 802, rfl⟩
abbrev main_call30_v1 : Ref sig .tc := ⟨.hbm, 803, rfl⟩
abbrev main_call30_c_0 : Ref sig .tc := ⟨.hbm, 804, rfl⟩
abbrev main_call30_v2 : Ref sig .tc := ⟨.hbm, 805, rfl⟩
abbrev main_call30_v3 : Ref sig .tc := ⟨.hbm, 806, rfl⟩
abbrev main_call30_v4 : Ref sig .tc := ⟨.hbm, 807, rfl⟩
abbrev main_call30_c_1 : Ref sig .tc := ⟨.hbm, 808, rfl⟩
abbrev main_call30_c_2 : Ref sig .tc := ⟨.hbm, 809, rfl⟩
abbrev main_call30_v5 : Ref sig .tc := ⟨.hbm, 810, rfl⟩
abbrev main_call30_v6 : Ref sig .tc := ⟨.hbm, 811, rfl⟩
abbrev main_call30_v7 : Ref sig .tc := ⟨.hbm, 812, rfl⟩
abbrev main_call30_v8 : Ref sig .tc := ⟨.hbm, 813, rfl⟩
abbrev main_call30_v9 : Ref sig .tc := ⟨.hbm, 814, rfl⟩
abbrev main_call30_v10 : Ref sig .tc := ⟨.hbm, 815, rfl⟩
abbrev main_call30_c_3 : Ref sig .tc := ⟨.hbm, 816, rfl⟩
abbrev main_call30_v11 : Ref sig .tc := ⟨.hbm, 817, rfl⟩
abbrev main_call30_v12 : Ref sig .tc := ⟨.hbm, 818, rfl⟩
abbrev main_call30_v13 : Ref sig .tc := ⟨.hbm, 819, rfl⟩
abbrev main_call30_cst : Ref sig .tc := ⟨.hbm, 820, rfl⟩
abbrev main_call30_v14 : Ref sig .tc := ⟨.hbm, 821, rfl⟩
abbrev main_v243 : Ref sig .tc := ⟨.hbm, 822, rfl⟩
abbrev main_v244 : Ref sig .tc := ⟨.hbm, 823, rfl⟩
abbrev main_v245 : Ref sig .tc := ⟨.hbm, 824, rfl⟩
abbrev main_v246 : Ref sig .tc := ⟨.hbm, 825, rfl⟩
abbrev main_v247 : Ref sig .tc := ⟨.hbm, 826, rfl⟩
abbrev main_v248 : Ref sig .tc := ⟨.hbm, 827, rfl⟩
abbrev main_c_61 : Ref sig .tc := ⟨.hbm, 828, rfl⟩
abbrev main_v249 : Ref sig .tc := ⟨.hbm, 829, rfl⟩
abbrev main_v250 : Ref sig .tc := ⟨.hbm, 830, rfl⟩
abbrev main_v251 : Ref sig .tc := ⟨.hbm, 831, rfl⟩
abbrev main_v252 : Ref sig .tc := ⟨.hbm, 832, rfl⟩
abbrev main_v253 : Ref sig .tc := ⟨.hbm, 833, rfl⟩
abbrev main_v254 : Ref sig .tc := ⟨.hbm, 834, rfl⟩
abbrev main_v255 : Ref sig .tc := ⟨.hbm, 835, rfl⟩
abbrev main_call31_v0 : Ref sig .tc := ⟨.hbm, 836, rfl⟩
abbrev main_call31_v1 : Ref sig .tc := ⟨.hbm, 837, rfl⟩
abbrev main_v256 : Ref sig .tc := ⟨.hbm, 838, rfl⟩
abbrev main_v257 : Ref sig .tc := ⟨.hbm, 839, rfl⟩
abbrev main_v258 : Ref sig .tc := ⟨.hbm, 840, rfl⟩
abbrev main_call32_v0 : Ref sig .tc := ⟨.hbm, 841, rfl⟩
abbrev main_call32_cst : Ref sig .tc := ⟨.hbm, 842, rfl⟩
abbrev main_call32_v1 : Ref sig .tc := ⟨.hbm, 843, rfl⟩
abbrev main_call32_v2 : Ref sig .tc := ⟨.hbm, 844, rfl⟩
abbrev main_v259 : Ref sig .tc := ⟨.hbm, 845, rfl⟩
abbrev main_v260 : Ref sig .tc := ⟨.hbm, 846, rfl⟩
abbrev main_v261 : Ref sig .tc := ⟨.hbm, 847, rfl⟩
abbrev main_v262 : Ref sig .tc := ⟨.hbm, 848, rfl⟩
abbrev main_v263 : Ref sig .tc := ⟨.hbm, 849, rfl⟩
abbrev main_v264 : Ref sig .tc := ⟨.hbm, 850, rfl⟩
abbrev main_v265 : Ref sig .tc := ⟨.hbm, 851, rfl⟩
abbrev main_cst_62 : Ref sig .tc := ⟨.hbm, 852, rfl⟩
abbrev main_cst_63 : Ref sig .tc := ⟨.hbm, 853, rfl⟩
abbrev main_call33_v0 : Ref sig .tc := ⟨.hbm, 854, rfl⟩
abbrev main_call33_v1 : Ref sig .tc := ⟨.hbm, 855, rfl⟩
abbrev main_call33_v2 : Ref sig .tc := ⟨.hbm, 856, rfl⟩
abbrev main_call33_cst : Ref sig .tc := ⟨.hbm, 857, rfl⟩
abbrev main_call33_v3 : Ref sig .tc := ⟨.hbm, 858, rfl⟩
abbrev main_call33_v4 : Ref sig .tc := ⟨.hbm, 859, rfl⟩
abbrev main_call33_cst_0 : Ref sig .tc := ⟨.hbm, 860, rfl⟩
abbrev main_call33_v5 : Ref sig .tc := ⟨.hbm, 861, rfl⟩
abbrev main_call33_v6 : Ref sig .tc := ⟨.hbm, 862, rfl⟩
abbrev main_call33_v7 : Ref sig .tc := ⟨.hbm, 863, rfl⟩
abbrev main_call33_cst_1 : Ref sig .tc := ⟨.hbm, 864, rfl⟩
abbrev main_call33_v8 : Ref sig .tc := ⟨.hbm, 865, rfl⟩
abbrev main_call33_v9 : Ref sig .tc := ⟨.hbm, 866, rfl⟩
abbrev main_call33_v10 : Ref sig .tc := ⟨.hbm, 867, rfl⟩
abbrev main_call33_v11 : Ref sig .tc := ⟨.hbm, 868, rfl⟩
abbrev main_call33_v12 : Ref sig .tc := ⟨.hbm, 869, rfl⟩
abbrev main_call33_v13 : Ref sig .tc := ⟨.hbm, 870, rfl⟩
abbrev main_call33_v14 : Ref sig .tc := ⟨.hbm, 871, rfl⟩
abbrev main_call33_v15 : Ref sig .tc := ⟨.hbm, 872, rfl⟩
abbrev main_call33_v16 : Ref sig .tc := ⟨.hbm, 873, rfl⟩
abbrev main_v266 : Ref sig .tc := ⟨.hbm, 874, rfl⟩
abbrev main_v267 : Ref sig .tc := ⟨.hbm, 875, rfl⟩
abbrev main_v268 : Ref sig .tc := ⟨.hbm, 876, rfl⟩
abbrev main_v269 : Ref sig .tc := ⟨.hbm, 877, rfl⟩
abbrev main_c_64 : Ref sig .tc := ⟨.hbm, 878, rfl⟩
abbrev main_v270 : Ref sig .tc := ⟨.hbm, 879, rfl⟩
abbrev main_v271 : Ref sig .tc := ⟨.hbm, 880, rfl⟩
abbrev main_c_65 : Ref sig .tc := ⟨.hbm, 881, rfl⟩
abbrev main_v272 : Ref sig .tc := ⟨.hbm, 882, rfl⟩
abbrev main_v273 : Ref sig .tc := ⟨.hbm, 883, rfl⟩
abbrev main_c_66 : Ref sig .tc := ⟨.hbm, 884, rfl⟩
abbrev main_v274 : Ref sig .tc := ⟨.hbm, 885, rfl⟩
abbrev main_v275 : Ref sig .tc := ⟨.hbm, 886, rfl⟩
abbrev main_v276 : Ref sig .tc := ⟨.hbm, 887, rfl⟩
abbrev main_v277 : Ref sig .tc := ⟨.hbm, 888, rfl⟩
abbrev main_v278 : Ref sig .tc := ⟨.hbm, 889, rfl⟩
abbrev main_c_67 : Ref sig .tc := ⟨.hbm, 890, rfl⟩
abbrev main_v279 : Ref sig .tc := ⟨.hbm, 891, rfl⟩
abbrev main_v280 : Ref sig .tc := ⟨.hbm, 892, rfl⟩
abbrev main_v281 : Ref sig .tc := ⟨.hbm, 893, rfl⟩
abbrev main_v282 : Ref sig .tc := ⟨.hbm, 894, rfl⟩
abbrev main_v283 : Ref sig .tc := ⟨.hbm, 895, rfl⟩
abbrev main_call34_v0 : Ref sig .tc := ⟨.hbm, 896, rfl⟩
abbrev main_call34_c : Ref sig .tc := ⟨.hbm, 897, rfl⟩
abbrev main_call34_v1 : Ref sig .tc := ⟨.hbm, 898, rfl⟩
abbrev main_call34_v2 : Ref sig .tc := ⟨.hbm, 899, rfl⟩
abbrev main_call34_c_0 : Ref sig .tc := ⟨.hbm, 900, rfl⟩
abbrev main_call34_v3 : Ref sig .tc := ⟨.hbm, 901, rfl⟩
abbrev main_call34_v4 : Ref sig .tc := ⟨.hbm, 902, rfl⟩
abbrev main_call34_v5 : Ref sig .tc := ⟨.hbm, 903, rfl⟩
abbrev main_call34_v6 : Ref sig .tc := ⟨.hbm, 904, rfl⟩
abbrev main_call34_v7 : Ref sig .tc := ⟨.hbm, 905, rfl⟩
abbrev main_call34_c_1 : Ref sig .tc := ⟨.hbm, 906, rfl⟩
abbrev main_call34_v8 : Ref sig .tc := ⟨.hbm, 907, rfl⟩
abbrev main_call34_v9 : Ref sig .tc := ⟨.hbm, 908, rfl⟩
abbrev main_call34_c_2 : Ref sig .tc := ⟨.hbm, 909, rfl⟩
abbrev main_call34_v10 : Ref sig .tc := ⟨.hbm, 910, rfl⟩
abbrev main_call34_v11 : Ref sig .tc := ⟨.hbm, 911, rfl⟩
abbrev main_call34_v12 : Ref sig .tc := ⟨.hbm, 912, rfl⟩
abbrev main_call34_v13 : Ref sig .tc := ⟨.hbm, 913, rfl⟩
abbrev main_call34_v14 : Ref sig .tc := ⟨.hbm, 914, rfl⟩
abbrev main_call34_c_3 : Ref sig .tc := ⟨.hbm, 915, rfl⟩
abbrev main_call34_v15 : Ref sig .tc := ⟨.hbm, 916, rfl⟩
abbrev main_call34_v16 : Ref sig .tc := ⟨.hbm, 917, rfl⟩
abbrev main_call34_c_4 : Ref sig .tc := ⟨.hbm, 918, rfl⟩
abbrev main_call34_v17 : Ref sig .tc := ⟨.hbm, 919, rfl⟩
abbrev main_call34_v18 : Ref sig .tc := ⟨.hbm, 920, rfl⟩
abbrev main_call34_v19 : Ref sig .tc := ⟨.hbm, 921, rfl⟩
abbrev main_call34_v20 : Ref sig .tc := ⟨.hbm, 922, rfl⟩
abbrev main_v284_0 : Ref sig .tc := ⟨.hbm, 923, rfl⟩
abbrev main_call34_c_5 : Ref sig .tc := ⟨.hbm, 924, rfl⟩
abbrev main_call34_v22 : Ref sig .tc := ⟨.hbm, 925, rfl⟩
abbrev main_call34_v23 : Ref sig .tc := ⟨.hbm, 926, rfl⟩
abbrev main_call34_c_6 : Ref sig .tc := ⟨.hbm, 927, rfl⟩
abbrev main_call34_v24 : Ref sig .tc := ⟨.hbm, 928, rfl⟩
abbrev main_call34_v25 : Ref sig .tc := ⟨.hbm, 929, rfl⟩
abbrev main_call34_v26 : Ref sig .tc := ⟨.hbm, 930, rfl⟩
abbrev main_v284_1 : Ref sig .tc := ⟨.hbm, 931, rfl⟩
abbrev main_v285 : Ref sig .tc := ⟨.hbm, 932, rfl⟩
abbrev main_v286 : Ref sig .tc := ⟨.hbm, 933, rfl⟩
abbrev main_c_68 : Ref sig .tc := ⟨.hbm, 934, rfl⟩
abbrev main_v287 : Ref sig .tc := ⟨.hbm, 935, rfl⟩
abbrev main_v288 : Ref sig .tc := ⟨.hbm, 936, rfl⟩
abbrev main_v289 : Ref sig .tc := ⟨.hbm, 937, rfl⟩
abbrev main_call35_v0 : Ref sig .tc := ⟨.hbm, 938, rfl⟩
abbrev main_call35_c : Ref sig .tc := ⟨.hbm, 939, rfl⟩
abbrev main_call35_v1 : Ref sig .tc := ⟨.hbm, 940, rfl⟩
abbrev main_call35_v2 : Ref sig .tc := ⟨.hbm, 941, rfl⟩
abbrev main_call35_c_0 : Ref sig .tc := ⟨.hbm, 942, rfl⟩
abbrev main_call35_v3 : Ref sig .tc := ⟨.hbm, 943, rfl⟩
abbrev main_call35_v4 : Ref sig .tc := ⟨.hbm, 944, rfl⟩
abbrev main_call35_v5 : Ref sig .tc := ⟨.hbm, 945, rfl⟩
abbrev main_call35_v6 : Ref sig .tc := ⟨.hbm, 946, rfl⟩
abbrev main_call35_v7 : Ref sig .tc := ⟨.hbm, 947, rfl⟩
abbrev main_call35_c_1 : Ref sig .tc := ⟨.hbm, 948, rfl⟩
abbrev main_call35_v8 : Ref sig .tc := ⟨.hbm, 949, rfl⟩
abbrev main_call35_v9 : Ref sig .tc := ⟨.hbm, 950, rfl⟩
abbrev main_call35_c_2 : Ref sig .tc := ⟨.hbm, 951, rfl⟩
abbrev main_call35_v10 : Ref sig .tc := ⟨.hbm, 952, rfl⟩
abbrev main_call35_v11 : Ref sig .tc := ⟨.hbm, 953, rfl⟩
abbrev main_call35_v12 : Ref sig .tc := ⟨.hbm, 954, rfl⟩
abbrev main_call35_v13 : Ref sig .tc := ⟨.hbm, 955, rfl⟩
abbrev main_call35_v14 : Ref sig .tc := ⟨.hbm, 956, rfl⟩
abbrev main_call35_c_3 : Ref sig .tc := ⟨.hbm, 957, rfl⟩
abbrev main_call35_v15 : Ref sig .tc := ⟨.hbm, 958, rfl⟩
abbrev main_call35_v16 : Ref sig .tc := ⟨.hbm, 959, rfl⟩
abbrev main_call35_c_4 : Ref sig .tc := ⟨.hbm, 960, rfl⟩
abbrev main_call35_v17 : Ref sig .tc := ⟨.hbm, 961, rfl⟩
abbrev main_call35_v18 : Ref sig .tc := ⟨.hbm, 962, rfl⟩
abbrev main_call35_v19 : Ref sig .tc := ⟨.hbm, 963, rfl⟩
abbrev main_call35_v20 : Ref sig .tc := ⟨.hbm, 964, rfl⟩
abbrev main_v290_0 : Ref sig .tc := ⟨.hbm, 965, rfl⟩
abbrev main_call35_c_5 : Ref sig .tc := ⟨.hbm, 966, rfl⟩
abbrev main_call35_v22 : Ref sig .tc := ⟨.hbm, 967, rfl⟩
abbrev main_call35_v23 : Ref sig .tc := ⟨.hbm, 968, rfl⟩
abbrev main_call35_c_6 : Ref sig .tc := ⟨.hbm, 969, rfl⟩
abbrev main_call35_v24 : Ref sig .tc := ⟨.hbm, 970, rfl⟩
abbrev main_call35_v25 : Ref sig .tc := ⟨.hbm, 971, rfl⟩
abbrev main_call35_v26 : Ref sig .tc := ⟨.hbm, 972, rfl⟩
abbrev main_v290_1 : Ref sig .tc := ⟨.hbm, 973, rfl⟩
abbrev main_v291 : Ref sig .tc := ⟨.hbm, 974, rfl⟩
abbrev main_v292 : Ref sig .tc := ⟨.hbm, 975, rfl⟩
abbrev main_c_69 : Ref sig .tc := ⟨.hbm, 976, rfl⟩
abbrev main_v293 : Ref sig .tc := ⟨.hbm, 977, rfl⟩
abbrev main_v294 : Ref sig .tc := ⟨.hbm, 978, rfl⟩
abbrev main_v295 : Ref sig .tc := ⟨.hbm, 979, rfl⟩
abbrev main_call36_v0 : Ref sig .tc := ⟨.hbm, 980, rfl⟩
abbrev main_call36_c : Ref sig .tc := ⟨.hbm, 981, rfl⟩
abbrev main_call36_v1 : Ref sig .tc := ⟨.hbm, 982, rfl⟩
abbrev main_call36_v2 : Ref sig .tc := ⟨.hbm, 983, rfl⟩
abbrev main_call36_c_0 : Ref sig .tc := ⟨.hbm, 984, rfl⟩
abbrev main_call36_v3 : Ref sig .tc := ⟨.hbm, 985, rfl⟩
abbrev main_call36_v4 : Ref sig .tc := ⟨.hbm, 986, rfl⟩
abbrev main_call36_v5 : Ref sig .tc := ⟨.hbm, 987, rfl⟩
abbrev main_call36_v6 : Ref sig .tc := ⟨.hbm, 988, rfl⟩
abbrev main_call36_v7 : Ref sig .tc := ⟨.hbm, 989, rfl⟩
abbrev main_call36_c_1 : Ref sig .tc := ⟨.hbm, 990, rfl⟩
abbrev main_call36_v8 : Ref sig .tc := ⟨.hbm, 991, rfl⟩
abbrev main_call36_v9 : Ref sig .tc := ⟨.hbm, 992, rfl⟩
abbrev main_call36_c_2 : Ref sig .tc := ⟨.hbm, 993, rfl⟩
abbrev main_call36_v10 : Ref sig .tc := ⟨.hbm, 994, rfl⟩
abbrev main_call36_v11 : Ref sig .tc := ⟨.hbm, 995, rfl⟩
abbrev main_call36_v12 : Ref sig .tc := ⟨.hbm, 996, rfl⟩
abbrev main_call36_v13 : Ref sig .tc := ⟨.hbm, 997, rfl⟩
abbrev main_call36_v14 : Ref sig .tc := ⟨.hbm, 998, rfl⟩
abbrev main_call36_c_3 : Ref sig .tc := ⟨.hbm, 999, rfl⟩
abbrev main_call36_v15 : Ref sig .tc := ⟨.hbm, 1000, rfl⟩
abbrev main_call36_v16 : Ref sig .tc := ⟨.hbm, 1001, rfl⟩
abbrev main_call36_c_4 : Ref sig .tc := ⟨.hbm, 1002, rfl⟩
abbrev main_call36_v17 : Ref sig .tc := ⟨.hbm, 1003, rfl⟩
abbrev main_call36_v18 : Ref sig .tc := ⟨.hbm, 1004, rfl⟩
abbrev main_call36_v19 : Ref sig .tc := ⟨.hbm, 1005, rfl⟩
abbrev main_call36_v20 : Ref sig .tc := ⟨.hbm, 1006, rfl⟩
abbrev main_v296_0 : Ref sig .tc := ⟨.hbm, 1007, rfl⟩
abbrev main_call36_c_5 : Ref sig .tc := ⟨.hbm, 1008, rfl⟩
abbrev main_call36_v22 : Ref sig .tc := ⟨.hbm, 1009, rfl⟩
abbrev main_call36_v23 : Ref sig .tc := ⟨.hbm, 1010, rfl⟩
abbrev main_call36_c_6 : Ref sig .tc := ⟨.hbm, 1011, rfl⟩
abbrev main_call36_v24 : Ref sig .tc := ⟨.hbm, 1012, rfl⟩
abbrev main_call36_v25 : Ref sig .tc := ⟨.hbm, 1013, rfl⟩
abbrev main_call36_v26 : Ref sig .tc := ⟨.hbm, 1014, rfl⟩
abbrev main_v296_1 : Ref sig .tc := ⟨.hbm, 1015, rfl⟩
abbrev main_v297 : Ref sig .tc := ⟨.hbm, 1016, rfl⟩
abbrev main_v298 : Ref sig .tc := ⟨.hbm, 1017, rfl⟩
abbrev main_c_70 : Ref sig .tc := ⟨.hbm, 1018, rfl⟩
abbrev main_v299 : Ref sig .tc := ⟨.hbm, 1019, rfl⟩
abbrev main_v300 : Ref sig .tc := ⟨.hbm, 1020, rfl⟩
abbrev main_v301 : Ref sig .tc := ⟨.hbm, 1021, rfl⟩
abbrev main_call37_v0 : Ref sig .tc := ⟨.hbm, 1022, rfl⟩
abbrev main_call37_c : Ref sig .tc := ⟨.hbm, 1023, rfl⟩
abbrev main_call37_v1 : Ref sig .tc := ⟨.hbm, 1024, rfl⟩
abbrev main_call37_v2 : Ref sig .tc := ⟨.hbm, 1025, rfl⟩
abbrev main_call37_c_0 : Ref sig .tc := ⟨.hbm, 1026, rfl⟩
abbrev main_call37_v3 : Ref sig .tc := ⟨.hbm, 1027, rfl⟩
abbrev main_call37_v4 : Ref sig .tc := ⟨.hbm, 1028, rfl⟩
abbrev main_call37_v5 : Ref sig .tc := ⟨.hbm, 1029, rfl⟩
abbrev main_call37_v6 : Ref sig .tc := ⟨.hbm, 1030, rfl⟩
abbrev main_call37_v7 : Ref sig .tc := ⟨.hbm, 1031, rfl⟩
abbrev main_call37_c_1 : Ref sig .tc := ⟨.hbm, 1032, rfl⟩
abbrev main_call37_v8 : Ref sig .tc := ⟨.hbm, 1033, rfl⟩
abbrev main_call37_v9 : Ref sig .tc := ⟨.hbm, 1034, rfl⟩
abbrev main_call37_c_2 : Ref sig .tc := ⟨.hbm, 1035, rfl⟩
abbrev main_call37_v10 : Ref sig .tc := ⟨.hbm, 1036, rfl⟩
abbrev main_call37_v11 : Ref sig .tc := ⟨.hbm, 1037, rfl⟩
abbrev main_call37_v12 : Ref sig .tc := ⟨.hbm, 1038, rfl⟩
abbrev main_call37_v13 : Ref sig .tc := ⟨.hbm, 1039, rfl⟩
abbrev main_call37_v14 : Ref sig .tc := ⟨.hbm, 1040, rfl⟩
abbrev main_call37_c_3 : Ref sig .tc := ⟨.hbm, 1041, rfl⟩
abbrev main_call37_v15 : Ref sig .tc := ⟨.hbm, 1042, rfl⟩
abbrev main_call37_v16 : Ref sig .tc := ⟨.hbm, 1043, rfl⟩
abbrev main_call37_c_4 : Ref sig .tc := ⟨.hbm, 1044, rfl⟩
abbrev main_call37_v17 : Ref sig .tc := ⟨.hbm, 1045, rfl⟩
abbrev main_call37_v18 : Ref sig .tc := ⟨.hbm, 1046, rfl⟩
abbrev main_call37_v19 : Ref sig .tc := ⟨.hbm, 1047, rfl⟩
abbrev main_call37_v20 : Ref sig .tc := ⟨.hbm, 1048, rfl⟩
abbrev main_v302_0 : Ref sig .tc := ⟨.hbm, 1049, rfl⟩
abbrev main_call37_c_5 : Ref sig .tc := ⟨.hbm, 1050, rfl⟩
abbrev main_call37_v22 : Ref sig .tc := ⟨.hbm, 1051, rfl⟩
abbrev main_call37_v23 : Ref sig .tc := ⟨.hbm, 1052, rfl⟩
abbrev main_call37_c_6 : Ref sig .tc := ⟨.hbm, 1053, rfl⟩
abbrev main_call37_v24 : Ref sig .tc := ⟨.hbm, 1054, rfl⟩
abbrev main_call37_v25 : Ref sig .tc := ⟨.hbm, 1055, rfl⟩
abbrev main_call37_v26 : Ref sig .tc := ⟨.hbm, 1056, rfl⟩
abbrev main_v302_1 : Ref sig .tc := ⟨.hbm, 1057, rfl⟩
abbrev main_v303 : Ref sig .tc := ⟨.hbm, 1058, rfl⟩
abbrev main_v304 : Ref sig .tc := ⟨.hbm, 1059, rfl⟩
abbrev main_c_71 : Ref sig .tc := ⟨.hbm, 1060, rfl⟩
abbrev main_v305 : Ref sig .tc := ⟨.hbm, 1061, rfl⟩
abbrev main_v306 : Ref sig .tc := ⟨.hbm, 1062, rfl⟩
abbrev main_v307 : Ref sig .tc := ⟨.hbm, 1063, rfl⟩
abbrev main_call38_v0 : Ref sig .tc := ⟨.hbm, 1064, rfl⟩
abbrev main_call38_c : Ref sig .tc := ⟨.hbm, 1065, rfl⟩
abbrev main_call38_v1 : Ref sig .tc := ⟨.hbm, 1066, rfl⟩
abbrev main_call38_v2 : Ref sig .tc := ⟨.hbm, 1067, rfl⟩
abbrev main_call38_c_0 : Ref sig .tc := ⟨.hbm, 1068, rfl⟩
abbrev main_call38_v3 : Ref sig .tc := ⟨.hbm, 1069, rfl⟩
abbrev main_call38_v4 : Ref sig .tc := ⟨.hbm, 1070, rfl⟩
abbrev main_call38_v5 : Ref sig .tc := ⟨.hbm, 1071, rfl⟩
abbrev main_call38_v6 : Ref sig .tc := ⟨.hbm, 1072, rfl⟩
abbrev main_call38_v7 : Ref sig .tc := ⟨.hbm, 1073, rfl⟩
abbrev main_call38_c_1 : Ref sig .tc := ⟨.hbm, 1074, rfl⟩
abbrev main_call38_v8 : Ref sig .tc := ⟨.hbm, 1075, rfl⟩
abbrev main_call38_v9 : Ref sig .tc := ⟨.hbm, 1076, rfl⟩
abbrev main_call38_c_2 : Ref sig .tc := ⟨.hbm, 1077, rfl⟩
abbrev main_call38_v10 : Ref sig .tc := ⟨.hbm, 1078, rfl⟩
abbrev main_call38_v11 : Ref sig .tc := ⟨.hbm, 1079, rfl⟩
abbrev main_call38_v12 : Ref sig .tc := ⟨.hbm, 1080, rfl⟩
abbrev main_call38_v13 : Ref sig .tc := ⟨.hbm, 1081, rfl⟩
abbrev main_call38_v14 : Ref sig .tc := ⟨.hbm, 1082, rfl⟩
abbrev main_call38_c_3 : Ref sig .tc := ⟨.hbm, 1083, rfl⟩
abbrev main_call38_v15 : Ref sig .tc := ⟨.hbm, 1084, rfl⟩
abbrev main_call38_v16 : Ref sig .tc := ⟨.hbm, 1085, rfl⟩
abbrev main_call38_c_4 : Ref sig .tc := ⟨.hbm, 1086, rfl⟩
abbrev main_call38_v17 : Ref sig .tc := ⟨.hbm, 1087, rfl⟩
abbrev main_call38_v18 : Ref sig .tc := ⟨.hbm, 1088, rfl⟩
abbrev main_call38_v19 : Ref sig .tc := ⟨.hbm, 1089, rfl⟩
abbrev main_call38_v20 : Ref sig .tc := ⟨.hbm, 1090, rfl⟩
abbrev main_v308_0 : Ref sig .tc := ⟨.hbm, 1091, rfl⟩
abbrev main_call38_c_5 : Ref sig .tc := ⟨.hbm, 1092, rfl⟩
abbrev main_call38_v22 : Ref sig .tc := ⟨.hbm, 1093, rfl⟩
abbrev main_call38_v23 : Ref sig .tc := ⟨.hbm, 1094, rfl⟩
abbrev main_call38_c_6 : Ref sig .tc := ⟨.hbm, 1095, rfl⟩
abbrev main_call38_v24 : Ref sig .tc := ⟨.hbm, 1096, rfl⟩
abbrev main_call38_v25 : Ref sig .tc := ⟨.hbm, 1097, rfl⟩
abbrev main_call38_v26 : Ref sig .tc := ⟨.hbm, 1098, rfl⟩
abbrev main_v308_1 : Ref sig .tc := ⟨.hbm, 1099, rfl⟩
abbrev main_v309 : Ref sig .tc := ⟨.hbm, 1100, rfl⟩
abbrev main_v310 : Ref sig .tc := ⟨.hbm, 1101, rfl⟩
abbrev main_c_72 : Ref sig .tc := ⟨.hbm, 1102, rfl⟩
abbrev main_v311 : Ref sig .tc := ⟨.hbm, 1103, rfl⟩
abbrev main_v312 : Ref sig .tc := ⟨.hbm, 1104, rfl⟩
abbrev main_v313 : Ref sig .tc := ⟨.hbm, 1105, rfl⟩
abbrev main_v314 : Ref sig .tc := ⟨.hbm, 1106, rfl⟩
abbrev main_c_73 : Ref sig .tc := ⟨.hbm, 1107, rfl⟩
abbrev main_v315 : Ref sig .tc := ⟨.hbm, 1108, rfl⟩
abbrev main_v316 : Ref sig .tc := ⟨.hbm, 1109, rfl⟩
abbrev main_c_74 : Ref sig .tc := ⟨.hbm, 1110, rfl⟩
abbrev main_v317 : Ref sig .tc := ⟨.hbm, 1111, rfl⟩
abbrev main_v318 : Ref sig .tc := ⟨.hbm, 1112, rfl⟩
abbrev main_v319 : Ref sig .tc := ⟨.hbm, 1113, rfl⟩
abbrev main_cst_75 : Ref sig .tc := ⟨.hbm, 1114, rfl⟩
abbrev main_v320 : Ref sig .tc := ⟨.hbm, 1115, rfl⟩
abbrev main_v321 : Ref sig .tc := ⟨.hbm, 1116, rfl⟩
abbrev main_cst_76 : Ref sig .tc := ⟨.hbm, 1117, rfl⟩
abbrev main_v322 : Ref sig .tc := ⟨.hbm, 1118, rfl⟩
abbrev main_v323 : Ref sig .tc := ⟨.hbm, 1119, rfl⟩
abbrev main_cst_77 : Ref sig .tc := ⟨.hbm, 1120, rfl⟩
abbrev main_v324 : Ref sig .tc := ⟨.hbm, 1121, rfl⟩
abbrev main_v325 : Ref sig .tc := ⟨.hbm, 1122, rfl⟩
abbrev main_v326 : Ref sig .tc := ⟨.hbm, 1123, rfl⟩
abbrev main_v327 : Ref sig .tc := ⟨.hbm, 1124, rfl⟩
abbrev main_v328 : Ref sig .tc := ⟨.hbm, 1125, rfl⟩

abbrev nD : Nat := 1
abbrev τ : Topo := Topo.v7x

variable {F : FTy → Type} [FloatOps F]
-- ==== Proof.Race_KernelIdeal.lean ====
module

public import proofs.«01_k».proof.Proof.Gen.KernelIdeal.Launch
public import proofs.«01_k».proof.Proof.Gen.KernelIdeal.Skeleton
public import proofs.«01_k».proof.Proof.Gen.KernelIdeal.Loops
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.WritesUnit
public import Idealize.ShloMosaic.Lib.VecWindow
public import Idealize.ShloMosaic.Lib.Tactic

@[expose] public section

set_option maxRecDepth 16384

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The resource algebra of the launch: no counters beside the points-tos. -/
local notation "𝕄" => MT nD τ sig Unit (Elt F) ℕ (UR sig nD τ) ℕ

/-! ## What the race computes, as functions -/

/-- One chunk of the race: from the running best score and its position, by the row `row` of reciprocals, at the
    batch word `v10`, the group's counter word `v24` and the chunk `k`. -/
def chunkStep (v10 v24 : BitVec 32) (row : Vec F S1x2048 .f32) (k : Fin k0_t2_loop.trips)
    (acc : FVec F S8x2048 .f32 × IVec S8x2048 32) : FVec F S8x2048 .f32 × IVec S8x2048 32 :=
  let a := k0_pay19 v10 k0_pay2 v24 0#32 1#32 k
  let b := k0_pay20 v10 k0_pay2 v24 0#32 1#32 k
  let a' := k0_pay31 a b 29#32
  let b' := k0_pay32 a b 29#32
  let s := k0_pay44 (k0_pay41 a' b' 6#32) (k0_pay42 a' b' 6#32) (k0_pay43 a' b' 6#32) 19#32 row
  (k0_pay6 acc.1 s, k0_pay7 acc.1 acc.2 (Scf.iv 0#32 1#32 k) s)

/-- What a trip of the inner loop yields is `chunkStep` at the row of the scratch that the trip loads. -/
theorem tripR_eq (𝒱 : Variants) (c : Dev nD) (bd : Option 𝒱.V) (i : grid0.Coords) (arg1 : Memref sig .tc .vmem S1x128x2048 .f32) (harg1 : arg1.IsWhole) (arg2 : Memref sig .tc .vmem S1x128x8 .i32) (harg2 : arg2.IsWhole) (arg3 : Memref sig .tc .vmem S128x2048 .f32) (harg3 : arg3.IsWhole) (v10 : BitVec 32) (v24 : BitVec 32) (X : BufTy.Contents (Elt F) arg3.view.ty) (k : Fin k0_t2_loop.trips) (acc : FVec F S8x2048 .f32 × IVec S8x2048 32) :
    tripR_k0_t2 (F := F) 𝒱 c bd i arg1 harg1 arg2 harg2 arg3 harg3 v10 v24 X k acc
      = chunkStep v10 v24 (View.ld (arg3.view.read (Elt F) X) (Rect.unit (s := S128x2048) (k0_off1 k) S1x2048.size (k0_off1_inb k))) k acc := by
  unfold tripR_k0_t2
  rw [trip_k0_t2]
  rfl

/-- The running best scores and positions before chunk `k` of a group. -/
def raceAcc (v10 v24 : BitVec 32) (inv : Vec F S128x2048 .f32) : ℕ → FVec F S8x2048 .f32 × IVec S8x2048 32
  | 0 => (k0_pay3 (F := F), k0_pay4)
  | k + 1 => if h : k < k0_t2_loop.trips then
      chunkStep v10 v24 (View.ld inv (Rect.unit (s := S128x2048) (k0_off1 ⟨k, h⟩) S1x2048.size (k0_off1_inb ⟨k, h⟩))) ⟨k, h⟩ (raceAcc v10 v24 inv k)
    else raceAcc v10 v24 inv k

/-- The inner loop's carried value is that recursion. -/
theorem st_eq (𝒱 : Variants) (c : Dev nD) (bd : Option 𝒱.V) (i : grid0.Coords) (arg1 : Memref sig .tc .vmem S1x128x2048 .f32) (harg1 : arg1.IsWhole) (arg2 : Memref sig .tc .vmem S1x128x8 .i32) (harg2 : arg2.IsWhole) (arg3 : Memref sig .tc .vmem S128x2048 .f32) (harg3 : arg3.IsWhole) (v10 : BitVec 32) (v24 : BitVec 32) (X : BufTy.Contents (Elt F) arg3.view.ty) (k : ℕ) (hk : k ≤ k0_t2_loop.trips) :
    st_k0_t2 (F := F) 𝒱 c bd i arg1 harg1 arg2 harg2 arg3 harg3 v10 v24 X (k0_pay3 (F := F), k0_pay4) k
      = raceAcc v10 v24 (arg3.view.read (Elt F) X) k := by
  induction k with
  | zero => rfl
  | succ k ih =>
    rw [st_k0_t2_succ (F := F) 𝒱 c bd i arg1 harg1 arg2 harg2 arg3 harg3 v10 v24 X _ ⟨k, hk⟩, tripR_eq, ih (Nat.le_of_succ_le hk), raceAcc, dif_pos (show k < k0_t2_loop.trips from hk)]

/-- The counter word of group `g`, from the batch's word `v13`. -/
def groupWord (v13 : BitVec 32) (g : Fin k0_t1_loop.trips) : BitVec 32 :=
  Scalar.addi (Scalar.addi v13 (Scalar.shli (Scalar.muli (Scf.iv 0#32 1#32 g) 8#32) 18#32)) 1853169794#32

/-- The eight winners of group `g`. -/
def groupRow (v10 v13 : BitVec 32) (inv : Vec F S128x2048 .f32) (g : Fin k0_t1_loop.trips) : IVec S1x1x8 32 :=
  k0_pay8 (raceAcc v10 (groupWord v13 g) inv k0_t2_loop.trips).1 (raceAcc v10 (groupWord v13 g) inv k0_t2_loop.trips).2

/-- The winners at a position of the block: those of its group. -/
def raceOut (v10 v13 : BitVec 32) (inv : Vec F S128x2048 .f32) : Vec F S1x128x8 .i32 := fun y =>
  groupRow v10 v13 inv ⟨(y 1).val, (y 1).isLt⟩ (fun a => match a with | ⟨0, _⟩ => ⟨0, Nat.one_pos⟩ | ⟨1, _⟩ => ⟨0, Nat.one_pos⟩ | ⟨2, _⟩ => y 2)

/-- The outer loop's invariant before trip `k`: the scratch at `X`; the groups before `k` written. -/
abbrev outerInv (c : Dev nD) (arg2 : Memref sig .tc .vmem S1x128x8 .i32) (arg3 : Memref sig .tc .vmem S128x2048 .f32) (v10 v13 : BitVec 32) (X : BufTy.Contents (Elt F) arg3.view.ty) (k : ℕ) : sProp 𝕄 :=
  iprop((arg3.view.loc (c : Thread nD τ) ↦[arg3.view.set]{fullShare} X)
    ∗ ∃ f, (arg2.view.loc (c : Thread nD τ) ↦[arg2.view.set]{fullShare} f)
      ∗ ⌜∀ y : S1x128x8.Idx, (y 1).val < k → arg2.view.read (Elt F) f y = raceOut v10 v13 (arg3.view.read (Elt F) X) y⌝)

/-- A row stored by trip `g` leaves the groups before `g + 1` written. -/
theorem row_written (arg2 : Memref sig .tc .vmem S1x128x8 .i32) (v10 v13 : BitVec 32) (inv : Vec F S128x2048 .f32) (g : Fin k0_t1_loop.trips)
    (f : BufTy.Contents (Elt F) arg2.view.ty) (w : IVec S1x1x8 32) (hw : w = groupRow v10 v13 inv g)
    (hf : ∀ y : S1x128x8.Idx, (y 1).val < g.val → arg2.view.read (Elt F) f y = raceOut v10 v13 inv y)
    (y : S1x128x8.Idx) (hy : (y 1).val < g.val + 1) :
    arg2.view.read (Elt F) (arg2.view.writes (Elt F) f
      [⟨Rect.unit (s := S1x128x8) (k0_off2 g) S1x1x8.size (k0_off2_inb g), w⟩]) y = raceOut v10 v13 inv y := by
  subst hw
  rcases Nat.lt_succ_iff_lt_or_eq.mp hy with h | h
  · rw [View.read_writes_cons_unit_of_not_mem arg2.view f (off' := ![0, g.val, 0]) _ _ _ y (k0_off2_eq g) 1 (.inl h)]
    exact hf y h
  · rw [View.read_writes_cons_unit_of_mem arg2.view f (off' := ![0, g.val, 0]) (k0_off2_inb g) (groupRow v10 v13 inv g) _ y
      (fun a => match a with | ⟨0, _⟩ => ⟨0, Nat.one_pos⟩ | ⟨1, _⟩ => ⟨0, Nat.one_pos⟩ | ⟨2, _⟩ => y 2) (k0_off2_eq g) (fun a => by
        match a with
        | ⟨0, _⟩ => have := (y 0).isLt; show (y 0).val = 0 + 0; simp at this; exact this
        | ⟨1, _⟩ => exact h
        | ⟨2, _⟩ => exact (Nat.zero_add _).symm)]
    unfold raceOut
    have e : g = ⟨(y 1).val, (y 1).isLt⟩ := Fin.ext h.symm
    subst e
    rfl

set_option maxHeartbeats 1000000 in
set_option warn.classDefReducibility false in
/-- The outer loop by that invariant. -/
@[sl_loop] def outerLoop (c : Dev nD) (i : grid0.Coords) (arg1 : Memref sig .tc .vmem S1x128x2048 .f32) (harg1 : arg1.IsWhole) (arg2 : Memref sig .tc .vmem S1x128x8 .i32) (harg2 : arg2.IsWhole) (arg3 : Memref sig .tc .vmem S128x2048 .f32) (harg3 : arg3.IsWhole) (v10 : BitVec 32) (v13 : BitVec 32) (E : Set ℕ) (X : BufTy.Contents (Elt F) arg3.view.ty) :
    LoopInvTy_k0_t1 (F := F) Unit ℕ (UR sig nD τ) ℕ Variants.none c none E i arg1 harg1 arg2 harg2 arg3 harg3 v10 v13 where
  inv k _ := outerInv (F := F) c arg2 arg3 v10 v13 X k
  step k acc := by
    iintro ⟨H3, ⟨%f, H2, %hf⟩⟩
    unfold k0_t1_body
    sl_exec
    sl_step
    isplitl [H3]; · iexact H3
    iexists _; isplitl [H2]; · iexact H2
    ipureintro
    exact row_written arg2 v10 v13 _ k f _ (by
      unfold groupRow; rw [← st_eq (F := F) Variants.none c none i arg1 harg1 arg2 harg2 arg3 harg3 v10 (groupWord v13 k) X k0_t2_loop.trips le_rfl]; rfl) hf

/-- The reciprocals of the clamped masses, chunk by chunk. -/
abbrev raceInv (x0 : Vec F S1x128x2048 .f32) : Vec F S128x2048 .f32 := k0_pay1 x0

/-- The winners' block at grid point `i` from the mask's block. -/
def out0 (i : grid0.Coords) (x0 : Vec F S1x128x2048 .f32) : Vec F S1x128x8 .i32 :=
  raceOut (Scalar.addi (Scalar.shrui (BitVec.ofNat 32 (i 0).val) 4#32) 507451445#32)
    (Scalar.shli (Scalar.muli (Scalar.andi (BitVec.ofNat 32 (i 0).val) 15#32) 1024#32) 18#32) (raceInv x0)

set_option maxHeartbeats 1000000 in
/-- The race's body on whole staging memrefs: the mask's block kept, the winners' block at `out0`. -/
theorem sound_kernel0 (c : Dev nD) (E : Set ℕ) (i : grid0.Coords) (arg1 : Memref sig .tc .vmem S1x128x2048 .f32) (harg1 : arg1.IsWhole) (arg2 : Memref sig .tc .vmem S1x128x8 .i32) (harg2 : arg2.IsWhole) (arg3 : Memref sig .tc .vmem S128x2048 .f32) (harg3 : arg3.IsWhole)
    (x0 : Vec F S1x128x2048 .f32) (K : PUnit → sProp 𝕄) :
    iprop(owns (c : Thread nD τ) arg1 fullShare x0 ∗ (∃ d, owns (c : Thread nD τ) arg2 fullShare d) ∗ (∃ d, owns (c : Thread nD τ) arg3 fullShare d)
        ∗ (iprop(owns (c : Thread nD τ) arg1 fullShare x0 ∗ owns (c : Thread nD τ) arg2 fullShare (out0 i x0) ∗ (∃ d, owns (c : Thread nD τ) arg3 fullShare d)) -∗ K ⟨⟩))
      ⊢ wp frame (wpE (defs₀ (F := F)) Variants.none c none) E (cc0__race_body i arg1 harg1 arg2 harg2 arg3 harg3) K := by
  simp only [cc0__race_body_eq_skeleton]; unfold cc0__race_body_skel
  unfold owns
  iintro ⟨⟨%f0, %hf0, H0⟩, ⟨%d1, %f1, -, H1⟩, ⟨%ds0, %fs0, -, HS0⟩, Hk⟩
  subst hf0
  sl_exec
  sl_step
  iapply Hk
  isplitl [H0]
  · iexists _; isplitr; · ipureintro; rfl
    iexact H0
  isplitl [H1]
  · iexists _; isplitr; swap; · iexact H1
    ipureintro
    funext y
    rw [hL2 y (y 1).isLt]
    have e : View.read (Elt F) arg3.view (arg3.view.writes (Elt F) arg3.view.junk (sound_kernel0.sl.HS0_1 c arg1 f0)) = raceInv (View.read (Elt F) arg1.view f0) := by
      unfold sound_kernel0.sl.HS0_1
      exact (View.read_writes_full arg3.view _ inb_S128x2048_S128x2048_0_0 _ []).trans
        (congrArg k0_pay1 (View.readAt_full arg1.view _ _))
    rw [e]
    rfl
  iexists _, _; isplitr; swap; · iexact HS0
  ipureintro; rfl

/-! ## The windows' blocks -/

-- the buffers' contents when the region is entered
variable (V : (c : Dev nD) → (b : Ref sig .tc) → Buf (Elt F) ((c : Thread nD τ).loc b))

/-- Window `w`'s block at grid point `t` of the contents at entry. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Window 0's staging buffer holds its block at every point, for proof data whose arrays are the entry contents and
    whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-! ## The proof data and the body's obligation -/

abbrev ms0_0 (t : Fin cfg0.N) : Memref sig .tc .vmem S1x128x2048 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x128x8 .i32 := win0_1.stage (cfg0.slots t 1)
abbrev hs0_1 (t : Fin cfg0.N) : (ms0_1 t).IsWhole := hstage0_1 ((cfg0.slots t 1).cast nbuf0_1)
/-- The scratch operand. -/
abbrev scM0_0 : Memref sig .tc .vmem S128x2048 .f32 := Memref.whole cc0_scratch0

/-- The invariant with the scratch operand as an owned memref. -/
theorem PhiA0_eq (c : Dev nD) :
    (Pipeline.ΦA spec0 c : sProp 𝕄)
      = iprop(iprop((∃ d, owns (c : Thread nD τ) scM0_0 fullShare d) ∗ (∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg5_0), ((c : Thread nD τ).loc cc1_stg5_0) ↦{fullShare} f) ∗ (∃ f : Buf (Elt F) ((c : Thread nD τ).loc cc1_stg5_1), ((c : Thread nD τ).loc cc1_stg5_1) ↦{fullShare} f) ∗ (∃ f : Buf (Elt F) ((c : Thread nD τ).loc cc1_stg6_0), ((c : Thread nD τ).loc cc1_stg6_0) ↦{fullShare} f) ∗ (∃ f : Buf (Elt F) ((c : Thread nD τ).loc cc1_stg6_1), ((c : Thread nD τ).loc cc1_stg6_1) ↦{fullShare} f) ∗ (∃ f : Buf (Elt F) ((c : Thread nD τ).loc cc1_stg7_0), ((c : Thread nD τ).loc cc1_stg7_0) ↦{fullShare} f) ∗ (∃ f : Buf (Elt F) ((c : Thread nD τ).loc cc1_stg7_1), ((c : Thread nD τ).loc cc1_stg7_1) ↦{fullShare} f) ∗ (∃ f : Buf (Elt F) ((c : Thread nD τ).loc cc2_stg0_0), ((c : Thread nD τ).loc cc2_stg0_0) ↦{fullShare} f) ∗ (∃ f : Buf (Elt F) ((c : Thread nD τ).loc cc2_stg1_0), ((c : Thread nD τ).loc cc2_stg1_0) ↦{fullShare} f) ∗ (∃ f : Buf (Elt F) ((c : Thread nD τ).loc cc2_stg1_1), ((c : Thread nD τ).loc cc2_stg1_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg4_1), ((c : Thread nD τ).loc cc1_stg4_1) ↦{fullShare} f)) ∗ (∃ r, prngReg c r)) := by
  unfold Pipeline.ΦA; rw [scopedRest0_eq]; simp only [scM0_0, owns_whole]; try rfl

/-- The proof data of the race: inputs at their blocks, the winners' block at `out0`, the scratch and the staging
    buffers of the other calls at anything. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => out0 (grid0.coords t) (iblk0 V c 0 t)
  Φ _ := Pipeline.ΦA spec0 c
  q _ := fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = out0 (grid0.coords t) (iblk0 V c 0 t) := by dsimp only [dat0]
theorem before0_0 (c : Dev nD) (t : Fin cfg0.N) (d) : (dat0 V c).before 0 t d = iblk0 V c 0 t :=
  before0_0_of V (dat0 V c) (A_eq0 V c 0) (after0_0 V c) t d

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d)))

def bodyPost0 (c : Dev nD) (t : Fin cfg0.N) : sProp 𝕄 :=
  iprop((dat0 V c).Φ t.succ ∗ (dat0 V c).owesAt () t.succ
    ∗ owns (c : Thread nD τ) (ms0_0 t) fullShare ((dat0 V c).after 0 t)
    ∗ owns (c : Thread nD τ) (ms0_1 t) fullShare ((dat0 V c).after 1 t))

/-- The body at any point. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0]
  rw [show (dat0 V c).Φ t.succ = (dat0 V c).Φ t.castSucc from rfl,
    show (dat0 V c).owesAt () t.succ = (dat0 V c).owesAt () t.castSucc from rfl,
    after0_0, after0_1]
  rw [show (dat0 V c).Φ t.castSucc = Pipeline.ΦA spec0 c from rfl, PhiA0_eq]
  iintro ⟨⟨⟨HS0, HR1, HR2, HR3, HR4, HR5, HR6, HR7, HR8, HR9, HR10, HR11, HR12, HR13, HR14, HR15, HR16, HR17, HR18, HR19⟩, Hg⟩, Ho, ⟨%d0, H0⟩, ⟨%d1, H1⟩⟩
  iapply (sound_kernel0 c Set.univ (grid0.coords t) _ _ _ _ _ (Memref.isWhole_whole _) (iblk0 V c 0 t) _)
  isplitl [H0]; · iexact H0
  isplitl [H1]; · iexists _; iexact H1
  isplitl [HS0]; · iexact HS0
  iintro ⟨H0, H1, HS0⟩
  isplitl [HS0 HR1 HR2 HR3 HR4 HR5 HR6 HR7 HR8 HR9 HR10 HR11 HR12 HR13 HR14 HR15 HR16 HR17 HR18 HR19 Hg]
  · isplitl [HS0 HR1 HR2 HR3 HR4 HR5 HR6 HR7 HR8 HR9 HR10 HR11 HR12 HR13 HR14 HR15 HR16 HR17 HR18 HR19]
    · isplitl [HS0]
      · iexact HS0
      isplitl [HR1]
      · iexact HR1
      isplitl [HR2]
      · iexact HR2
      isplitl [HR3]
      · iexact HR3
      isplitl [HR4]
      · iexact HR4
      isplitl [HR5]
      · iexact HR5
      isplitl [HR6]
      · iexact HR6
      isplitl [HR7]
      · iexact HR7
      isplitl [HR8]
      · iexact HR8
      isplitl [HR9]
      · iexact HR9
      isplitl [HR10]
      · iexact HR10
      isplitl [HR11]
      · iexact HR11
      isplitl [HR12]
      · iexact HR12
      isplitl [HR13]
      · iexact HR13
      isplitl [HR14]
      · iexact HR14
      isplitl [HR15]
      · iexact HR15
      isplitl [HR16]
      · iexact HR16
      isplitl [HR17]
      · iexact HR17
      isplitl [HR18]
      · iexact HR18
      iexact HR19
    iexact Hg
  isplitl [Ho]; · iexact Ho
  isplitl [H0]; · iexact H0
  iexact H1

theorem defs₀_row0 (t : Fin cfg0.N) :
    defs₀ (F := F) .tc cfg0.body (cfg0.bodyArgs t (cfg0.slots t)) = bodyAt0 t := by
  unfold defs₀; rw [Defs.onTc_tc]

theorem body_obligation0 (c : Dev nD) : BodyObligation (dat0 (F := F) V c) (defs₀ (F := F)) Variants.none () Set.univ := fun t => by
  rw [bigSep_W0, bigSep_W0, defs₀_row0]
  exact triple_restated (sound_body0 V c t) rfl .rfl fun _ => .rfl

end Cert.Proof.KernelIdeal

end
-- ==== Proof.Post_KernelIdeal.lean ====
module

public import proofs.«01_k».proof.Proof.Gen.KernelIdeal.Launch
public import proofs.«01_k».proof.Proof.Gen.KernelIdeal.Skeleton
public import proofs.«01_k».proof.Proof.Gen.KernelIdeal.Loops
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.WritesUnit
public import Idealize.ShloMosaic.Lib.VecWindow
public import Idealize.ShloMosaic.Lib.Tactic

@[expose] public section

set_option maxRecDepth 16384

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The resource algebra of the launch: no counters beside the points-tos. -/
local notation "𝕄" => MT nD τ sig Unit (Elt F) ℕ (UR sig nD τ) ℕ

/-! # The call that turns positions into rays -/

abbrev at9 (j : Fin 9) : S1x1x9.Idx := fun a => match a with | ⟨0, _⟩ => ⟨0, Nat.one_pos⟩ | ⟨1, _⟩ => ⟨0, Nat.one_pos⟩ | ⟨2, _⟩ => j
abbrev at3 (j : Fin 3) : S1x1x3.Idx := fun a => match a with | ⟨0, _⟩ => ⟨0, Nat.one_pos⟩ | ⟨1, _⟩ => ⟨0, Nat.one_pos⟩ | ⟨2, _⟩ => j
abbrev at2 (j : Fin 2) : S1x1x2.Idx := fun a => match a with | ⟨0, _⟩ => ⟨0, Nat.one_pos⟩ | ⟨1, _⟩ => ⟨0, Nat.one_pos⟩ | ⟨2, _⟩ => j

/-- A load of one word of 9 reads it. -/
theorem word9 {κ : Kind} {sp : Space} (v : View sig κ sp S1x1x9 .f32) (f : v.ty.Contents (Elt F)) (j : Fin 9)
    (inb : ∀ a, (![0, 0, j.val] : Fin 3 → ℕ) a + S1x1x1.size a ≤ S1x1x9.size a) (y : S1x1x1.Idx) :
    v.readAt (Elt F) (Rect.unit (s := S1x1x9) ![0, 0, j.val] S1x1x1.size inb).toLoadRect f y = v.read (Elt F) f (at9 j) :=
  congrArg (v.read (Elt F) f) (funext fun a => Fin.ext (by
    match a with
    | ⟨0, _⟩ => have h : (y 0).val < 1 := (y 0).isLt; show 0 + 1 * (y 0).val = 0; omega
    | ⟨1, _⟩ => have h : (y 1).val < 1 := (y 1).isLt; show 0 + 1 * (y 1).val = 0; omega
    | ⟨2, _⟩ => have h : (y 2).val < 1 := (y 2).isLt; show j.val + 1 * (y 2).val = j.val; omega))

/-- A load of one word of 3 reads it. -/
theorem word3 {κ : Kind} {sp : Space} (v : View sig κ sp S1x1x3 .f32) (f : v.ty.Contents (Elt F)) (j : Fin 3)
    (inb : ∀ a, (![0, 0, j.val] : Fin 3 → ℕ) a + S1x1x1.size a ≤ S1x1x3.size a) (y : S1x1x1.Idx) :
    v.readAt (Elt F) (Rect.unit (s := S1x1x3) ![0, 0, j.val] S1x1x1.size inb).toLoadRect f y = v.read (Elt F) f (at3 j) :=
  congrArg (v.read (Elt F) f) (funext fun a => Fin.ext (by
    match a with
    | ⟨0, _⟩ => have h : (y 0).val < 1 := (y 0).isLt; show 0 + 1 * (y 0).val = 0; omega
    | ⟨1, _⟩ => have h : (y 1).val < 1 := (y 1).isLt; show 0 + 1 * (y 1).val = 0; omega
    | ⟨2, _⟩ => have h : (y 2).val < 1 := (y 2).isLt; show j.val + 1 * (y 2).val = j.val; omega))

/-- A load of one word of 2 reads it. -/
theorem word2 {κ : Kind} {sp : Space} (v : View sig κ sp S1x1x2 .f32) (f : v.ty.Contents (Elt F)) (j : Fin 2)
    (inb : ∀ a, (![0, 0, j.val] : Fin 3 → ℕ) a + S1x1x1.size a ≤ S1x1x2.size a) (y : S1x1x1.Idx) :
    v.readAt (Elt F) (Rect.unit (s := S1x1x2) ![0, 0, j.val] S1x1x1.size inb).toLoadRect f y = v.read (Elt F) f (at2 j) :=
  congrArg (v.read (Elt F) f) (funext fun a => Fin.ext (by
    match a with
    | ⟨0, _⟩ => have h : (y 0).val < 1 := (y 0).isLt; show 0 + 1 * (y 0).val = 0; omega
    | ⟨1, _⟩ => have h : (y 1).val < 1 := (y 1).isLt; show 0 + 1 * (y 1).val = 0; omega
    | ⟨2, _⟩ => have h : (y 2).val < 1 := (y 2).isLt; show j.val + 1 * (y 2).val = j.val; omega))

/-- Entry (0, 0) of the inverse. -/
def inv0 (x1 : Vec F S1x1x9 .f32) : F .f32 := k1_pay9 (x1 (at9 0)) (x1 (at9 1)) (x1 (at9 2)) (x1 (at9 3)) (x1 (at9 4)) (x1 (at9 5)) (x1 (at9 6)) (x1 (at9 7)) (x1 (at9 8))
/-- Entry (0, 1) of the inverse. -/
def inv1 (x1 : Vec F S1x1x9 .f32) : F .f32 := k1_pay10 (x1 (at9 0)) (x1 (at9 1)) (x1 (at9 2)) (x1 (at9 3)) (x1 (at9 4)) (x1 (at9 5)) (x1 (at9 6)) (x1 (at9 7)) (x1 (at9 8))
/-- Entry (0, 2) of the inverse. -/
def inv2 (x1 : Vec F S1x1x9 .f32) : F .f32 := k1_pay11 (x1 (at9 0)) (x1 (at9 1)) (x1 (at9 2)) (x1 (at9 3)) (x1 (at9 4)) (x1 (at9 5)) (x1 (at9 6)) (x1 (at9 7)) (x1 (at9 8))
/-- Entry (1, 0) of the inverse. -/
def inv3 (x1 : Vec F S1x1x9 .f32) : F .f32 := k1_pay12 (x1 (at9 0)) (x1 (at9 1)) (x1 (at9 2)) (x1 (at9 3)) (x1 (at9 4)) (x1 (at9 5)) (x1 (at9 6)) (x1 (at9 7)) (x1 (at9 8))
/-- Entry (1, 1) of the inverse. -/
def inv4 (x1 : Vec F S1x1x9 .f32) : F .f32 := k1_pay13 (x1 (at9 0)) (x1 (at9 1)) (x1 (at9 2)) (x1 (at9 3)) (x1 (at9 4)) (x1 (at9 5)) (x1 (at9 6)) (x1 (at9 7)) (x1 (at9 8))
/-- Entry (1, 2) of the inverse. -/
def inv5 (x1 : Vec F S1x1x9 .f32) : F .f32 := k1_pay14 (x1 (at9 0)) (x1 (at9 1)) (x1 (at9 2)) (x1 (at9 3)) (x1 (at9 4)) (x1 (at9 5)) (x1 (at9 6)) (x1 (at9 7)) (x1 (at9 8))
/-- Entry (2, 0) of the inverse. -/
def inv6 (x1 : Vec F S1x1x9 .f32) : F .f32 := k1_pay15 (x1 (at9 0)) (x1 (at9 1)) (x1 (at9 2)) (x1 (at9 3)) (x1 (at9 4)) (x1 (at9 5)) (x1 (at9 6)) (x1 (at9 7)) (x1 (at9 8))
/-- Entry (2, 1) of the inverse. -/
def inv7 (x1 : Vec F S1x1x9 .f32) : F .f32 := k1_pay16 (x1 (at9 0)) (x1 (at9 1)) (x1 (at9 2)) (x1 (at9 3)) (x1 (at9 4)) (x1 (at9 5)) (x1 (at9 6)) (x1 (at9 7)) (x1 (at9 8))
/-- Entry (2, 2) of the inverse. -/
def inv8 (x1 : Vec F S1x1x9 .f32) : F .f32 := k1_pay17 (x1 (at9 0)) (x1 (at9 1)) (x1 (at9 2)) (x1 (at9 3)) (x1 (at9 4)) (x1 (at9 5)) (x1 (at9 6)) (x1 (at9 7)) (x1 (at9 8))

/-- The sampled positions' block. -/
def out1_5 (x0 : Vec F S1x1x1024 .i32) : Vec F S1x2x1x1024 .f32 :=
  View.canon [⟨Rect.unit (s := S1x2x1x1024) ![0, 1, 0, 0] S1x1x1x1024.size inb_S1x2x1x1024_S1x1x1x1024_0_1_0_0, k1_pay4 (k1_pay7 (F := F) x0)⟩, ⟨Rect.unit (s := S1x2x1x1024) ![0, 0, 0, 0] S1x1x1x1024.size inb_S1x2x1x1024_S1x1x1x1024_0_0_0_0, k1_pay3 (k1_pay6 (F := F) x0)⟩]

/-- The directions' block. -/
def out1_6 (x0 : Vec F S1x1x1024 .i32) (x1 : Vec F S1x1x9 .f32) (x3 : Vec F S1x1x2 .f32) (x4 : Vec F S1x1x2 .f32) : Vec F S1x3x1x1024 .f32 :=
  View.canon [⟨Rect.unit (s := S1x3x1x1024) ![0, 2, 0, 0] S1x1x1x1024.size inb_S1x3x1x1024_S1x1x1x1024_0_2_0_0, k1_pay27 (k1_pay22 (k1_pay6 x0) (k1_pay7 x0) (inv2 x1) (inv5 x1) (inv8 x1) (x4 (at2 0)) (x4 (at2 1)) (x3 (at2 0)) (x3 (at2 1))) (k1_pay23 (k1_pay6 x0) (k1_pay7 x0) (inv0 x1) (inv1 x1) (inv2 x1) (inv3 x1) (inv4 x1) (inv5 x1) (inv6 x1) (inv7 x1) (inv8 x1) (x4 (at2 0)) (x4 (at2 1)) (x3 (at2 0)) (x3 (at2 1)))⟩,
    ⟨Rect.unit (s := S1x3x1x1024) ![0, 1, 0, 0] S1x1x1x1024.size inb_S1x3x1x1024_S1x1x1x1024_0_1_0_0, k1_pay26 (k1_pay25 (k1_pay6 x0) (k1_pay7 x0) (inv0 x1) (inv1 x1) (inv2 x1) (inv3 x1) (inv4 x1) (inv5 x1) (inv6 x1) (inv7 x1) (inv8 x1) (x4 (at2 0)) (x4 (at2 1)) (x3 (at2 0)) (x3 (at2 1)))⟩,
    ⟨Rect.unit (s := S1x3x1x1024) ![0, 0, 0, 0] S1x1x1x1024.size inb_S1x3x1x1024_S1x1x1x1024_0_0_0_0, k1_pay24 (k1_pay6 x0) (k1_pay7 x0) (inv0 x1) (inv1 x1) (inv2 x1) (inv3 x1) (inv4 x1) (inv5 x1) (inv6 x1) (inv7 x1) (inv8 x1) (x4 (at2 0)) (x4 (at2 1)) (x3 (at2 0)) (x3 (at2 1))⟩]

/-- The origins' block. -/
def out1_7 (x1 : Vec F S1x1x9 .f32) (x2 : Vec F S1x1x3 .f32) : Vec F S1x3x1x1024 .f32 :=
  View.canon [⟨Rect.unit (s := S1x3x1x1024) ![0, 2, 0, 0] S1x1x1x1024.size inb_S1x3x1x1024_S1x1x1x1024_0_2_0_0, k1_pay2 (k1_pay28 (inv2 x1) (inv5 x1) (inv8 x1) (x2 (at3 0)) (x2 (at3 1)) (x2 (at3 2)))⟩,
    ⟨Rect.unit (s := S1x3x1x1024) ![0, 1, 0, 0] S1x1x1x1024.size inb_S1x3x1x1024_S1x1x1x1024_0_1_0_0, k1_pay1 (k1_pay30 (inv1 x1) (inv4 x1) (inv7 x1) (x2 (at3 0)) (x2 (at3 1)) (x2 (at3 2)))⟩,
    ⟨Rect.unit (s := S1x3x1x1024) ![0, 0, 0, 0] S1x1x1x1024.size inb_S1x3x1x1024_S1x1x1x1024_0_0_0_0, k1_pay29 (inv0 x1) (inv3 x1) (inv6 x1) (x2 (at3 0)) (x2 (at3 1)) (x2 (at3 2))⟩]

/-- The two stores of positions cover their block. -/
theorem cover1_5 (p q : Vec F S1x1x1x1024 .f32) (y : S1x2x1x1024.Idx) :
    ∃ pc ∈ ([⟨Rect.unit (s := S1x2x1x1024) ![0, 1, 0, 0] S1x1x1x1024.size inb_S1x2x1x1024_S1x1x1x1024_0_1_0_0, p⟩, ⟨Rect.unit (s := S1x2x1x1024) ![0, 0, 0, 0] S1x1x1x1024.size inb_S1x2x1x1024_S1x1x1x1024_0_0_0_0, q⟩] : List (View.Piece (Elt F) S1x2x1x1024 .f32)), y ∈ pc.1.set :=
  View.cover_of_tiledL [⟨Rect.unit (s := S1x2x1x1024) ![0, 1, 0, 0] S1x1x1x1024.size inb_S1x2x1x1024_S1x1x1x1024_0_1_0_0, p⟩, ⟨Rect.unit (s := S1x2x1x1024) ![0, 0, 0, 0] S1x1x1x1024.size inb_S1x2x1x1024_S1x1x1x1024_0_0_0_0, q⟩] S1x1x1x1024.size (by sl_kernel_rfl) y

/-- Three stores of rows cover a block of three rows. -/
theorem cover1_6 (p q r : Vec F S1x1x1x1024 .f32) (y : S1x3x1x1024.Idx) :
    ∃ pc ∈ ([⟨Rect.unit (s := S1x3x1x1024) ![0, 2, 0, 0] S1x1x1x1024.size inb_S1x3x1x1024_S1x1x1x1024_0_2_0_0, p⟩, ⟨Rect.unit (s := S1x3x1x1024) ![0, 1, 0, 0] S1x1x1x1024.size inb_S1x3x1x1024_S1x1x1x1024_0_1_0_0, q⟩, ⟨Rect.unit (s := S1x3x1x1024) ![0, 0, 0, 0] S1x1x1x1024.size inb_S1x3x1x1024_S1x1x1x1024_0_0_0_0, r⟩] : List (View.Piece (Elt F) S1x3x1x1024 .f32)), y ∈ pc.1.set :=
  View.cover_of_tiledL [⟨Rect.unit (s := S1x3x1x1024) ![0, 2, 0, 0] S1x1x1x1024.size inb_S1x3x1x1024_S1x1x1x1024_0_2_0_0, p⟩, ⟨Rect.unit (s := S1x3x1x1024) ![0, 1, 0, 0] S1x1x1x1024.size inb_S1x3x1x1024_S1x1x1x1024_0_1_0_0, q⟩, ⟨Rect.unit (s := S1x3x1x1024) ![0, 0, 0, 0] S1x1x1x1024.size inb_S1x3x1x1024_S1x1x1x1024_0_0_0_0, r⟩] S1x1x1x1024.size (by sl_kernel_rfl) y

set_option maxHeartbeats 1000000 in
/-- The body on whole staging memrefs: the inputs kept, the outputs at `out1_5`, `out1_6` and `out1_7`. -/
theorem sound_kernel1 (E : Set ℕ) (c : Dev nD) (i : grid1.Coords) (arg1 : Memref sig .tc .vmem S1x1x1024 .i32) (harg1 : arg1.IsWhole) (arg2 : Memref sig .tc .smem S1x1x9 .f32) (harg2 : arg2.IsWhole) (arg3 : Memref sig .tc .smem S1x1x3 .f32) (harg3 : arg3.IsWhole) (arg4 : Memref sig .tc .smem S1x1x2 .f32) (harg4 : arg4.IsWhole) (arg5 : Memref sig .tc .smem S1x1x2 .f32) (harg5 : arg5.IsWhole) (arg6 : Memref sig .tc .vmem S1x2x1x1024 .f32) (harg6 : arg6.IsWhole) (arg7 : Memref sig .tc .vmem S1x3x1x1024 .f32) (harg7 : arg7.IsWhole) (arg8 : Memref sig .tc .vmem S1x3x1x1024 .f32) (harg8 : arg8.IsWhole)
    (x0 : Vec F S1x1x1024 .i32) (x1 : Vec F S1x1x9 .f32) (x2 : Vec F S1x1x3 .f32) (x3 : Vec F S1x1x2 .f32) (x4 : Vec F S1x1x2 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ (∃ d, owns (c : Thread nD τ) arg7 fullShare d) ∗ (∃ d, owns (c : Thread nD τ) arg8 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (out1_5 x0) ∗ owns (c : Thread nD τ) arg7 fullShare (out1_6 x0 x1 x3 x4) ∗ owns (c : Thread nD τ) arg8 fullShare (out1_7 x1 x2)) -∗ K ⟨⟩))
      ⊢ wp frame (wpE (defs₀ (F := F)) Variants.none c none) E (cc1__post_body i arg1 harg1 arg2 harg2 arg3 harg3 arg4 harg4 arg5 harg5 arg6 harg6 arg7 harg7 arg8 harg8) K := by
  simp only [cc1__post_body_eq_skeleton]; unfold cc1__post_body_skel
  simp only [k1_part1_eq_skeleton, k1_part2_eq_skeleton, k1_part3_eq_skeleton, k1_part4_eq_skeleton]
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, Hk⟩
  subst hf0 hf1 hf2 hf3 hf4
  sl_exec
  sl_step
  have e8 : sound_kernel1.sl.r_8 c arg1 f0 = k1_pay6 (View.read (Elt F) arg1.view f0) := congrArg k1_pay6 (View.readAt_full arg1.view f0 _)
  have e9 : sound_kernel1.sl.r_9 c arg1 f0 = k1_pay7 (View.read (Elt F) arg1.view f0) := congrArg k1_pay7 (View.readAt_full arg1.view f0 _)
  have i0 : sound_kernel1.sl.r c arg2 f1 = View.read (Elt F) arg2.view f1 (at9 0) := word9 _ _ 0 _ _
  have i1 : sound_kernel1.sl.r_1 c arg2 f1 = View.read (Elt F) arg2.view f1 (at9 1) := word9 _ _ 1 _ _
  have i2 : sound_kernel1.sl.r_2 c arg2 f1 = View.read (Elt F) arg2.view f1 (at9 2) := word9 _ _ 2 _ _
  have i3 : sound_kernel1.sl.r_3 c arg2 f1 = View.read (Elt F) arg2.view f1 (at9 3) := word9 _ _ 3 _ _
  have i4 : sound_kernel1.sl.r_4 c arg2 f1 = View.read (Elt F) arg2.view f1 (at9 4) := word9 _ _ 4 _ _
  have i5 : sound_kernel1.sl.r_5 c arg2 f1 = View.read (Elt F) arg2.view f1 (at9 5) := word9 _ _ 5 _ _
  have i6 : sound_kernel1.sl.r_6 c arg2 f1 = View.read (Elt F) arg2.view f1 (at9 6) := word9 _ _ 6 _ _
  have i7 : sound_kernel1.sl.r_7 c arg2 f1 = View.read (Elt F) arg2.view f1 (at9 7) := word9 _ _ 7 _ _
  have i8 : sound_kernel1.sl.r_10 c arg2 f1 = View.read (Elt F) arg2.view f1 (at9 8) := word9 _ _ 8 _ _
  have e12 : sound_kernel1.sl.r_12 c arg2 f1 = inv0 (View.read (Elt F) arg2.view f1) := by
    unfold sound_kernel1.sl.r_12 inv0; rw [i0, i1, i2, i3, i4, i5, i6, i7, i8]
  have e13 : sound_kernel1.sl.r_13 c arg2 f1 = inv1 (View.read (Elt F) arg2.view f1) := by
    unfold sound_kernel1.sl.r_13 inv1; rw [i0, i1, i2, i3, i4, i5, i6, i7, i8]
  have e14 : sound_kernel1.sl.r_14 c arg2 f1 = inv2 (View.read (Elt F) arg2.view f1) := by
    unfold sound_kernel1.sl.r_14 inv2; rw [i0, i1, i2, i3, i4, i5, i6, i7, i8]
  have e15 : sound_kernel1.sl.r_15 c arg2 f1 = inv3 (View.read (Elt F) arg2.view f1) := by
    unfold sound_kernel1.sl.r_15 inv3; rw [i0, i1, i2, i3, i4, i5, i6, i7, i8]
  have e16 : sound_kernel1.sl.r_16 c arg2 f1 = inv4 (View.read (Elt F) arg2.view f1) := by
    unfold sound_kernel1.sl.r_16 inv4; rw [i0, i1, i2, i3, i4, i5, i6, i7, i8]
  have e17 : sound_kernel1.sl.r_17 c arg2 f1 = inv5 (View.read (Elt F) arg2.view f1) := by
    unfold sound_kernel1.sl.r_17 inv5; rw [i0, i1, i2, i3, i4, i5, i6, i7, i8]
  have e18 : sound_kernel1.sl.r_18 c arg2 f1 = inv6 (View.read (Elt F) arg2.view f1) := by
    unfold sound_kernel1.sl.r_18 inv6; rw [i0, i1, i2, i3, i4, i5, i6, i7, i8]
  have e19 : sound_kernel1.sl.r_19 c arg2 f1 = inv7 (View.read (Elt F) arg2.view f1) := by
    unfold sound_kernel1.sl.r_19 inv7; rw [i0, i1, i2, i3, i4, i5, i6, i7, i8]
  have e20 : sound_kernel1.sl.r_20 c arg2 f1 = inv8 (View.read (Elt F) arg2.view f1) := by
    unfold sound_kernel1.sl.r_20 inv8; rw [i0, i1, i2, i3, i4, i5, i6, i7, i8]
  have e11 : sound_kernel1.sl.r_11 c arg5 f4 = View.read (Elt F) arg5.view f4 (at2 0) := word2 _ _ 0 _ _
  have e21 : sound_kernel1.sl.r_21 c arg5 f4 = View.read (Elt F) arg5.view f4 (at2 1) := word2 _ _ 1 _ _
  have e22 : sound_kernel1.sl.r_22 c arg4 f3 = View.read (Elt F) arg4.view f3 (at2 0) := word2 _ _ 0 _ _
  have e23 : sound_kernel1.sl.r_23 c arg4 f3 = View.read (Elt F) arg4.view f3 (at2 1) := word2 _ _ 1 _ _
  have e27 : sound_kernel1.sl.r_27 c arg3 f2 = View.read (Elt F) arg3.view f2 (at3 0) := word3 _ _ 0 _ _
  have e28 : sound_kernel1.sl.r_28 c arg3 f2 = View.read (Elt F) arg3.view f2 (at3 1) := word3 _ _ 1 _ _
  have e29 : sound_kernel1.sl.r_29 c arg3 f2 = View.read (Elt F) arg3.view f2 (at3 2) := word3 _ _ 2 _ _
  iapply Hk
  isplitl [H0]
  · iexists _; isplitr; · ipureintro; rfl
    iexact H0
  isplitl [H1]
  · iexists _; isplitr; · ipureintro; rfl
    iexact H1
  isplitl [H2]
  · iexists _; isplitr; · ipureintro; rfl
    iexact H2
  isplitl [H3]
  · iexists _; isplitr; · ipureintro; rfl
    iexact H3
  isplitl [H4]
  · iexists _; isplitr; · ipureintro; rfl
    iexact H4
  isplitl [H5]
  · iexists _; isplitr; swap; · iexact H5
    ipureintro
    refine (View.read_writes_eq_canon _ _ _ (cover1_5 _ _)).trans ?_
    rw [e8, e9]
    rfl
  isplitl [H6]
  · iexists _; isplitr; swap; · iexact H6
    ipureintro
    refine (View.read_writes_eq_canon _ _ _ (cover1_6 _ _ _)).trans ?_
    unfold out1_6 sound_kernel1.sl.r_24 sound_kernel1.sl.r_25 sound_kernel1.sl.r_26
    rw [e8, e9, e12, e13, e14, e15, e16, e17, e18, e19, e20, e11, e21, e22, e23]
  iexists _; isplitr; swap; · iexact H7
  ipureintro
  refine (View.read_writes_eq_canon _ _ _ (cover1_6 _ _ _)).trans ?_
  unfold out1_7 sound_kernel1.sl.r_30 sound_kernel1.sl.r_31
  rw [e12, e13, e14, e15, e16, e17, e18, e19, e20, e27, e28, e29]

/-! ## The windows' blocks -/

-- the buffers' contents when the region is entered
variable (V : (c : Dev nD) → (b : Ref sig .tc) → Buf (Elt F) ((c : Thread nD τ).loc b))

/-- Window `w`'s block at grid point `t` of the contents at entry. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Window 0's staging buffer holds its block at every point, for proof data whose arrays are the entry contents and
    whose body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Window 1's staging buffer holds its block at every point, for proof data whose arrays are the entry contents and
    whose body leaves the block in place. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Window 2's staging buffer holds its block at every point, for proof data whose arrays are the entry contents and
    whose body leaves the block in place. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Window 3's staging buffer holds its block at every point, for proof data whose arrays are the entry contents and
    whose body leaves the block in place. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- Window 4's staging buffer holds its block at every point, for proof data whose arrays are the entry contents and
    whose body leaves the block in place. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

abbrev ms1_0 (t : Fin cfg1.N) : Memref sig .tc .vmem S1x1x1024 .i32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .smem S1x1x9 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .smem S1x1x3 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .smem S1x1x2 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .smem S1x1x2 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S1x2x1x1024 .f32 := win1_5.stage (cfg1.slots t 5)
abbrev hs1_5 (t : Fin cfg1.N) : (ms1_5 t).IsWhole := hstage1_5 ((cfg1.slots t 5).cast nbuf1_5)
abbrev ms1_6 (t : Fin cfg1.N) : Memref sig .tc .vmem S1x3x1x1024 .f32 := win1_6.stage (cfg1.slots t 6)
abbrev hs1_6 (t : Fin cfg1.N) : (ms1_6 t).IsWhole := hstage1_6 ((cfg1.slots t 6).cast nbuf1_6)
abbrev ms1_7 (t : Fin cfg1.N) : Memref sig .tc .vmem S1x3x1x1024 .f32 := win1_7.stage (cfg1.slots t 7)
abbrev hs1_7 (t : Fin cfg1.N) : (ms1_7 t).IsWhole := hstage1_7 ((cfg1.slots t 7).cast nbuf1_7)

/-! ## The pipeline's proof data -/

/-- The proof data of the call. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => out1_5 (iblk1 V c 0 t)
    | ⟨6, _⟩ => out1_6 (iblk1 V c 0 t) (iblk1 V c 1 t) (iblk1 V c 3 t) (iblk1 V c 4 t)
    | ⟨7, _⟩ => out1_7 (iblk1 V c 1 t) (iblk1 V c 2 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = out1_5 (iblk1 V c 0 t) := by dsimp only [dat1]
theorem after1_6 (c : Dev nD) (t : Fin cfg1.N) : (dat1 V c).after 6 t = out1_6 (iblk1 V c 0 t) (iblk1 V c 1 t) (iblk1 V c 3 t) (iblk1 V c 4 t) := by dsimp only [dat1]
theorem after1_7 (c : Dev nD) (t : Fin cfg1.N) : (dat1 V c).after 7 t = out1_7 (iblk1 V c 1 t) (iblk1 V c 2 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d

/-! ## The body obligation, at a generic point -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d))
    ∗ (∃ d, owns (c : Thread nD τ) (ms1_6 t) fullShare ((dat1 V c).before 6 t d))
    ∗ (∃ d, owns (c : Thread nD τ) (ms1_7 t) fullShare ((dat1 V c).before 7 t d)))

def bodyPost1 (c : Dev nD) (t : Fin cfg1.N) : sProp 𝕄 :=
  iprop((dat1 V c).Φ t.succ ∗ (dat1 V c).owesAt () t.succ
    ∗ owns (c : Thread nD τ) (ms1_0 t) fullShare ((dat1 V c).after 0 t)
    ∗ owns (c : Thread nD τ) (ms1_1 t) fullShare ((dat1 V c).after 1 t)
    ∗ owns (c : Thread nD τ) (ms1_2 t) fullShare ((dat1 V c).after 2 t)
    ∗ owns (c : Thread nD τ) (ms1_3 t) fullShare ((dat1 V c).after 3 t)
    ∗ owns (c : Thread nD τ) (ms1_4 t) fullShare ((dat1 V c).after 4 t)
    ∗ owns (c : Thread nD τ) (ms1_5 t) fullShare ((dat1 V c).after 5 t)
    ∗ owns (c : Thread nD τ) (ms1_6 t) fullShare ((dat1 V c).after 6 t)
    ∗ owns (c : Thread nD τ) (ms1_7 t) fullShare ((dat1 V c).after 7 t))

set_option maxHeartbeats 800000 in
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6, after1_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel1 Set.univ c (grid1.coords t) _ _ _ _ _ _ _ _ _ _ _ _ _ _ _ _ (iblk1 V c 0 t) (iblk1 V c 1 t) (iblk1 V c 2 t) (iblk1 V c 3 t) (iblk1 V c 4 t) _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

theorem defs₀_row1 (t : Fin cfg1.N) :
    defs₀ (F := F) .tc cfg1.body (cfg1.bodyArgs t (cfg1.slots t)) = bodyAt1 t := by
  unfold defs₀; rw [Defs.onTc_tc]

theorem body_obligation1 (c : Dev nD) : BodyObligation (dat1 (F := F) V c) (defs₀ (F := F)) Variants.none () Set.univ := fun t => by
  rw [bigSep_W1, bigSep_W1, defs₀_row1]
  exact triple_restated (sound_body1 V c t) rfl .rfl fun _ => .rfl

end Cert.Proof.KernelIdeal

end
-- ==== Proof.Lengths_KernelIdeal.lean ====
module

public import proofs.«01_k».proof.Proof.Gen.KernelIdeal.Launch
public import proofs.«01_k».proof.Proof.Gen.KernelIdeal.Skeleton
public import proofs.«01_k».proof.Proof.Gen.KernelIdeal.Loops
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.WritesUnit
public import Idealize.ShloMosaic.Lib.VecWindow
public import Idealize.ShloMosaic.Lib.Tactic

@[expose] public section

set_option maxRecDepth 16384

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The resource algebra of the launch: no counters beside the points-tos. -/
local notation "𝕄" => MT nD τ sig Unit (Elt F) ℕ (UR sig nD τ) ℕ

/-! # The lengths call -/

abbrev r2_0 : Rect S1x64 := Rect.unit (s := S1x64) ![0, 0] S1x64.size inb_S1x64_S1x64_0_0
abbrev r2_1 : Rect S1x1024x64 := Rect.unit (s := S1x1024x64) ![0, 0, 0] S1x1024x64.size inb_S1x1024x64_S1x1024x64_0_0_0

def mixA (i : grid2.Coords) (x0 : Vec F S1x64 .f32) : IVec S1024x64 32 :=
  k2_pay10 i -- `v42`
def mixB (i : grid2.Coords) (x0 : Vec F S1x64 .f32) : IVec S1024x64 32 :=
  k2_pay11 i -- `v43`
def mixC (i : grid2.Coords) (x0 : Vec F S1x64 .f32) : IVec S1024x64 32 :=
  k2_pay22 (mixA i x0) (mixB i x0) 17#32 -- `v88`
def mixD (i : grid2.Coords) (x0 : Vec F S1x64 .f32) : IVec S1024x64 32 :=
  k2_pay23 (mixA i x0) (mixB i x0) 17#32 -- `v89`

/-- The lengths block from the base row. -/
def out2_1 (i : grid2.Coords) (x0 : Vec F S1x64 .f32) : Vec F S1x1024x64 .f32 :=
  View.canon [⟨r2_1, k2_pay1 (k2_pay36 (F := F) (k2_pay33 (mixC i x0) (mixD i x0) 26#32) (k2_pay34 (mixC i x0) (mixD i x0) 26#32) k2_pay35) (View.ld x0 r2_0)⟩]

/-- The store covers the block. -/
theorem cover2_1 (p0 : Vec F S1x1024x64 .f32) (y : S1x1024x64.Idx) :
    ∃ pc ∈ ([⟨r2_1, p0⟩] : List (View.Piece (Elt F) S1x1024x64 .f32)), y ∈ pc.1.set :=
  View.cover_of_tiled [⟨r2_1, p0⟩] S1x1024x64.size (by rfl) y

set_option maxHeartbeats 1000000 in
/-- The body on whole staging memrefs. -/
theorem sound_kernel2 (c : Dev nD) (E : Set ℕ) (i : grid2.Coords) (arg1 : Memref sig .tc .vmem S1x64 .f32) (harg1 : arg1.IsWhole) (arg2 : Memref sig .tc .vmem S1x1024x64 .f32) (harg2 : arg2.IsWhole)
    (x0 : Vec F S1x64 .f32) (K : PUnit → sProp 𝕄) :
    iprop(owns (c : Thread nD τ) arg1 fullShare x0 ∗ (∃ d, owns (c : Thread nD τ) arg2 fullShare d)
        ∗ (iprop(owns (c : Thread nD τ) arg1 fullShare x0 ∗ owns (c : Thread nD τ) arg2 fullShare (out2_1 i x0)) -∗ K ⟨⟩))
      ⊢ wp frame (wpE (defs₀ (F := F)) Variants.none c none) E (cc2__lengths_body i arg1 harg1 arg2 harg2) K := by
  simp only [cc2__lengths_body_eq_skeleton]; unfold cc2__lengths_body_skel
  simp only [k2_part1_eq_skeleton, k2_part2_eq_skeleton, k2_part3_eq_skeleton, k2_part4_eq_skeleton]
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  refine (View.read_writes_eq_canon _ _ _ (cover2_1 _)).trans ?_
  rfl

/-! ## The windows' blocks -/

-- the buffers' contents when the region is entered
variable (V : (c : Dev nD) → (b : Ref sig .tc) → Buf (Elt F) ((c : Thread nD τ).loc b))

/-- Window `w`'s block at grid point `t` of the contents at entry. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Window 0's staging buffer holds its block at every point, for proof data whose arrays are the entry contents and
    whose body leaves the block in place. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-! ## The pipeline's proof data -/

/-- The proof data of the lengths call. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => out2_1 (grid2.coords t) (iblk2 V c 0 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = out2_1 (grid2.coords t) (iblk2 V c 0 t) := by dsimp only [dat2]

theorem before2_0 (c : Dev nD) (t : Fin cfg2.N) (d) : (dat2 V c).before 0 t d = iblk2 V c 0 t :=
  before2_0_of V (dat2 V c) (A_eq2 V c 0) (after2_0 V c) t d

/-! ## The body obligation, at a generic point -/

def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d)))

def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t))

theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0]
  rw [show (dat2 V c).Φ t.succ = (dat2 V c).Φ t.castSucc from rfl,
    show (dat2 V c).owesAt () t.succ = (dat2 V c).owesAt () t.castSucc from rfl,
    after2_0, after2_1]
  iintro ⟨HΦ, Ho, ⟨%d0, H0⟩, ⟨%d1, H1⟩⟩
  iapply (sound_kernel2 c Set.univ (grid2.coords t) _ _ _ _ (iblk2 V c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

theorem defs₀_row2 (t : Fin cfg2.N) :
    defs₀ (F := F) .tc cfg2.body (cfg2.bodyArgs t (cfg2.slots t)) = bodyAt2 t := by
  unfold defs₀; rw [Defs.onTc_tc]

theorem body_obligation2 (c : Dev nD) : BodyObligation (dat2 (F := F) V c) (defs₀ (F := F)) Variants.none () Set.univ := fun t => by
  rw [bigSep_W2, bigSep_W2, defs₀_row2]
  exact triple_restated (sound_body2 V c t) rfl .rfl fun _ => .rfl

end Cert.Proof.KernelIdeal

end
-- ==== Proof.Run_KernelIdeal.lean ====
module

public import proofs.«01_k».proof.Proof.Race_KernelIdeal
public import proofs.«01_k».proof.Proof.Post_KernelIdeal
public import proofs.«01_k».proof.Proof.Lengths_KernelIdeal

@[expose] public section

set_option maxRecDepth 16384

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The resource algebra of the launch: no counters beside the points-tos. -/
local notation "𝕄" => MT nD τ sig Unit (Elt F) ℕ (UR sig nD τ) ℕ

/-! # The whole run: the buffers' contents after each stretch of host operations and each call -/

variable (m : (ℓ : Loc nD τ sig) → Buf (Elt F) ℓ) (ρ : Dev nD → PrngReg)

abbrev argRefs : List (Ref sig .tc) := [main_arg0, main_arg1, main_arg2, main_arg3, main_arg4]

theorem hostOps0_fresh : (hostOps0 : List (HloOp τ sig (Elt F))).Forall fun op => op.fresh = ∅ := by
  simp only [List.Forall]; repeat' constructor
abbrev hostOps0_W : List (Ref sig .tc) := [main_v0]
theorem hostOps0_writes : (hostOps0 : List (HloOp τ sig (Elt F))).Forall fun op => op.writes ⊆ (hostOps0_W.map (Proc.devRef (τ := τ) .tc)).toFinset :=
  StableHlo.forall_writes_sub_of_map rfl
theorem hostOps0_args : ∀ a ∈ argRefs, a ∉ hostOps0_W := ListAll.forall_mem_of_all_decide (by decide +kernel)

theorem hostOps1_fresh : (hostOps1 : List (HloOp τ sig (Elt F))).Forall fun op => op.fresh = ∅ := by
  simp only [List.Forall]; repeat' constructor
abbrev hostOps1_W : List (Ref sig .tc) := [main_v2, main_v3, main_v4, main_v5, main_v6]
theorem hostOps1_writes : (hostOps1 : List (HloOp τ sig (Elt F))).Forall fun op => op.writes ⊆ (hostOps1_W.map (Proc.devRef (τ := τ) .tc)).toFinset :=
  StableHlo.forall_writes_sub_of_map rfl
theorem hostOps1_args : ∀ a ∈ argRefs, a ∉ hostOps1_W := ListAll.forall_mem_of_all_decide (by decide +kernel)

theorem hostOps2_fresh : (hostOps2 : List (HloOp τ sig (Elt F))).Forall fun op => op.fresh = ∅ := by
  simp only [List.Forall]; repeat' constructor
abbrev hostOps2_W : List (Ref sig .tc) := [main_cst, main_cst_0]
theorem hostOps2_writes : (hostOps2 : List (HloOp τ sig (Elt F))).Forall fun op => op.writes ⊆ (hostOps2_W.map (Proc.devRef (τ := τ) .tc)).toFinset :=
  StableHlo.forall_writes_sub_of_map rfl
theorem hostOps2_args : ∀ a ∈ argRefs, a ∉ hostOps2_W := ListAll.forall_mem_of_all_decide (by decide +kernel)

theorem hostOps2_1_fresh : (hostOps2_1 : List (HloOp τ sig (Elt F))).Forall fun op => op.fresh = ∅ := by
  simp only [List.Forall]; repeat' constructor
abbrev hostOps2_1_W : List (Ref sig .tc) := [main_call0_v0, main_call0_v1, main_call0_v2, main_call0_cst, main_call0_v3, main_call0_v4, main_call0_cst_0, main_call0_v5, main_call0_v6, main_call0_v7, main_call0_cst_1, main_call0_v8, main_call0_v9, main_call0_v10, main_call0_v11, main_call0_v12, main_call0_v13, main_call0_v14, main_call0_v15, main_call0_v16, main_v8]
theorem hostOps2_1_writes : (hostOps2_1 : List (HloOp τ sig (Elt F))).Forall fun op => op.writes ⊆ (hostOps2_1_W.map (Proc.devRef (τ := τ) .tc)).toFinset :=
  StableHlo.forall_writes_sub_of_map rfl
theorem hostOps2_1_args : ∀ a ∈ argRefs, a ∉ hostOps2_1_W := ListAll.forall_mem_of_all_decide (by decide +kernel)

theorem hostOps2_2_fresh : (hostOps2_2 : List (HloOp τ sig (Elt F))).Forall fun op => op.fresh = ∅ := by
  simp only [List.Forall]; repeat' constructor
abbrev hostOps2_2_W : List (Ref sig .tc) := [main_v9]
theorem hostOps2_2_writes : (hostOps2_2 : List (HloOp τ sig (Elt F))).Forall fun op => op.writes ⊆ (hostOps2_2_W.map (Proc.devRef (τ := τ) .tc)).toFinset :=
  StableHlo.forall_writes_sub_of_map rfl
theorem hostOps2_2_args : ∀ a ∈ argRefs, a ∉ hostOps2_2_W := ListAll.forall_mem_of_all_decide (by decide +kernel)

theorem hostOps3_fresh : (hostOps3 : List (HloOp τ sig (Elt F))).Forall fun op => op.fresh = ∅ := by
  simp only [List.Forall]; repeat' constructor
abbrev hostOps3_W : List (Ref sig .tc) := [main_v11, main_v12, main_v13, main_v14, main_v15, main_v16]
theorem hostOps3_writes : (hostOps3 : List (HloOp τ sig (Elt F))).Forall fun op => op.writes ⊆ (hostOps3_W.map (Proc.devRef (τ := τ) .tc)).toFinset :=
  StableHlo.forall_writes_sub_of_map rfl
theorem hostOps3_args : ∀ a ∈ argRefs, a ∉ hostOps3_W := ListAll.forall_mem_of_all_decide (by decide +kernel)

abbrev W0 : Dev nD → Valuation τ sig (Elt F) := fun c b => (s₀ m ρ).mem ((c : Dev nD), b)
theorem W0_args (c : Dev nD) : ∀ a ∈ argRefs, W0 m ρ c (Proc.devRef .tc a) = m ((c : Thread nD τ).loc a) := fun _ _ => rfl
/-- The buffers after the host operations `hostOps0`. -/
abbrev W1 : Dev nD → Valuation τ sig (Elt F) := fun c => StableHlo.after hostOps0 (W0 m ρ c)
/-- A buffer `hostOps0` does not write is as before it. -/
theorem W1_of (c : Dev nD) (r : Ref sig .tc) (h : r ∉ hostOps0_W) : W1 m ρ c (Proc.devRef .tc r) = W0 m ρ c (Proc.devRef .tc r) :=
  StableHlo.after_of_writes_sub hostOps0 _ hostOps0_writes h
/-- The arguments are as launched at boundary 1. -/
theorem W1_args (c : Dev nD) : ∀ a ∈ argRefs, W1 m ρ c (Proc.devRef .tc a) = m ((c : Thread nD τ).loc a) :=
  fun a ha => (W1_of m ρ c a (hostOps0_args a ha)).trans (W0_args m ρ c a ha)
abbrev V1 : (c : Dev nD) → (b : Ref sig .tc) → Buf (Elt F) ((c : Thread nD τ).loc b) := fun c b => W1 m ρ c b
/-- The buffers after call 0: its arrays as its write-backs leave them, the others as before. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- A buffer that is no output of call 0 is as before it. -/
theorem W2_of (c : Dev nD) (r : Ref sig .tc) (h : ∀ w : Fin cfg0.W, Pipeline.arrRef spec0 w = r → (cfg0.win w).isOut = false) :
    W2 m ρ c (Proc.devRef .tc r) = W1 m ρ c (Proc.devRef .tc r) := by
  by_cases hw : ∃ w : Fin cfg0.W, Pipeline.arrRef spec0 w = r
  · obtain ⟨w, rfl⟩ := hw
    exact (W2_arr m ρ c w).trans (((dat0 (V1 m ρ) c).arrAt_in w (h w rfl) _).trans (A_eq0 (V1 m ρ) c w))
  · exact W2_of_ne m ρ c r fun w e => hw ⟨w, e⟩
theorem argsIn0 : ∀ a ∈ argRefs, ∀ w : Fin cfg0.W, Pipeline.arrRef spec0 w = a → (cfg0.win w).isOut = false :=
  ListAll.forall_mem_of_all_decide (by decide +kernel)
/-- The arguments are as launched at boundary 2. -/
theorem W2_args (c : Dev nD) : ∀ a ∈ argRefs, W2 m ρ c (Proc.devRef .tc a) = m ((c : Thread nD τ).loc a) :=
  fun a ha => (W2_of m ρ c a (argsIn0 a ha)).trans (W1_args m ρ c a ha)
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- The buffers after the host operations `hostOps1`. -/
abbrev W3 : Dev nD → Valuation τ sig (Elt F) := fun c => StableHlo.after hostOps1 (W2 m ρ c)
/-- A buffer `hostOps1` does not write is as before it. -/
theorem W3_of (c : Dev nD) (r : Ref sig .tc) (h : r ∉ hostOps1_W) : W3 m ρ c (Proc.devRef .tc r) = W2 m ρ c (Proc.devRef .tc r) :=
  StableHlo.after_of_writes_sub hostOps1 _ hostOps1_writes h
/-- The arguments are as launched at boundary 3. -/
theorem W3_args (c : Dev nD) : ∀ a ∈ argRefs, W3 m ρ c (Proc.devRef .tc a) = m ((c : Thread nD τ).loc a) :=
  fun a ha => (W3_of m ρ c a (hostOps1_args a ha)).trans (W2_args m ρ c a ha)
abbrev V3 : (c : Dev nD) → (b : Ref sig .tc) → Buf (Elt F) ((c : Thread nD τ).loc b) := fun c b => W3 m ρ c b
/-- The buffers after call 1: its arrays as its write-backs leave them, the others as before. -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
/-- A buffer that is no output of call 1 is as before it. -/
theorem W4_of (c : Dev nD) (r : Ref sig .tc) (h : ∀ w : Fin cfg1.W, Pipeline.arrRef spec1 w = r → (cfg1.win w).isOut = false) :
    W4 m ρ c (Proc.devRef .tc r) = W3 m ρ c (Proc.devRef .tc r) := by
  by_cases hw : ∃ w : Fin cfg1.W, Pipeline.arrRef spec1 w = r
  · obtain ⟨w, rfl⟩ := hw
    exact (W4_arr m ρ c w).trans (((dat1 (V3 m ρ) c).arrAt_in w (h w rfl) _).trans (A_eq1 (V3 m ρ) c w))
  · exact W4_of_ne m ρ c r fun w e => hw ⟨w, e⟩
theorem argsIn1 : ∀ a ∈ argRefs, ∀ w : Fin cfg1.W, Pipeline.arrRef spec1 w = a → (cfg1.win w).isOut = false :=
  ListAll.forall_mem_of_all_decide (by decide +kernel)
/-- The arguments are as launched at boundary 4. -/
theorem W4_args (c : Dev nD) : ∀ a ∈ argRefs, W4 m ρ c (Proc.devRef .tc a) = m ((c : Thread nD τ).loc a) :=
  fun a ha => (W4_of m ρ c a (argsIn1 a ha)).trans (W3_args m ρ c a ha)
abbrev V4 : (c : Dev nD) → (b : Ref sig .tc) → Buf (Elt F) ((c : Thread nD τ).loc b) := fun c b => W4 m ρ c b
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-- The buffers after the host operations `hostOps2`. -/
abbrev W5 : Dev nD → Valuation τ sig (Elt F) := fun c => StableHlo.after hostOps2 (W4 m ρ c)
/-- A buffer `hostOps2` does not write is as before it. -/
theorem W5_of (c : Dev nD) (r : Ref sig .tc) (h : r ∉ hostOps2_W) : W5 m ρ c (Proc.devRef .tc r) = W4 m ρ c (Proc.devRef .tc r) :=
  StableHlo.after_of_writes_sub hostOps2 _ hostOps2_writes h
/-- The arguments are as launched at boundary 5. -/
theorem W5_args (c : Dev nD) : ∀ a ∈ argRefs, W5 m ρ c (Proc.devRef .tc a) = m ((c : Thread nD τ).loc a) :=
  fun a ha => (W5_of m ρ c a (hostOps2_args a ha)).trans (W4_args m ρ c a ha)
/-- The buffers after the host operations `hostOps2_1`. -/
abbrev W6 : Dev nD → Valuation τ sig (Elt F) := fun c => StableHlo.after hostOps2_1 (W5 m ρ c)
/-- A buffer `hostOps2_1` does not write is as before it. -/
theorem W6_of (c : Dev nD) (r : Ref sig .tc) (h : r ∉ hostOps2_1_W) : W6 m ρ c (Proc.devRef .tc r) = W5 m ρ c (Proc.devRef .tc r) :=
  StableHlo.after_of_writes_sub hostOps2_1 _ hostOps2_1_writes h
/-- The arguments are as launched at boundary 6. -/
theorem W6_args (c : Dev nD) : ∀ a ∈ argRefs, W6 m ρ c (Proc.devRef .tc a) = m ((c : Thread nD τ).loc a) :=
  fun a ha => (W6_of m ρ c a (hostOps2_1_args a ha)).trans (W5_args m ρ c a ha)
/-- The buffers after the host operations `hostOps2_2`. -/
abbrev W7 : Dev nD → Valuation τ sig (Elt F) := fun c => StableHlo.after hostOps2_2 (W6 m ρ c)
/-- A buffer `hostOps2_2` does not write is as before it. -/
theorem W7_of (c : Dev nD) (r : Ref sig .tc) (h : r ∉ hostOps2_2_W) : W7 m ρ c (Proc.devRef .tc r) = W6 m ρ c (Proc.devRef .tc r) :=
  StableHlo.after_of_writes_sub hostOps2_2 _ hostOps2_2_writes h
/-- The arguments are as launched at boundary 7. -/
theorem W7_args (c : Dev nD) : ∀ a ∈ argRefs, W7 m ρ c (Proc.devRef .tc a) = m ((c : Thread nD τ).loc a) :=
  fun a ha => (W7_of m ρ c a (hostOps2_2_args a ha)).trans (W6_args m ρ c a ha)
abbrev V7 : (c : Dev nD) → (b : Ref sig .tc) → Buf (Elt F) ((c : Thread nD τ).loc b) := fun c b => W7 m ρ c b
/-- The buffers after call 2: its arrays as its write-backs leave them, the others as before. -/
def W8 (c : Dev nD) : Valuation τ sig (Elt F) :=
  Pipeline.withArrays spec2 c (W7 m ρ c) fun w => (dat2 (V7 m ρ) c).arrAt w cfg2.N
theorem W8_arr (c : Dev nD) (w : Fin cfg2.W) :
    W8 m ρ c (Proc.devRef .tc (Pipeline.arrRef spec2 w)) = (dat2 (V7 m ρ) c).arrAt w cfg2.N := by
  unfold W8; exact Pipeline.withArrays_arr spec2 launch2.win.arr_inj c _ _ w
theorem W8_of_ne (c : Dev nD) (b : Ref sig .tc) (hb : ∀ w, Pipeline.arrRef spec2 w ≠ b) :
    W8 m ρ c (Proc.devRef .tc b) = W7 m ρ c (Proc.devRef .tc b) := by
  unfold W8; exact Pipeline.withArrays_of_ne spec2 c _ _ b hb
/-- A buffer that is no output of call 2 is as before it. -/
theorem W8_of (c : Dev nD) (r : Ref sig .tc) (h : ∀ w : Fin cfg2.W, Pipeline.arrRef spec2 w = r → (cfg2.win w).isOut = false) :
    W8 m ρ c (Proc.devRef .tc r) = W7 m ρ c (Proc.devRef .tc r) := by
  by_cases hw : ∃ w : Fin cfg2.W, Pipeline.arrRef spec2 w = r
  · obtain ⟨w, rfl⟩ := hw
    exact (W8_arr m ρ c w).trans (((dat2 (V7 m ρ) c).arrAt_in w (h w rfl) _).trans (A_eq2 (V7 m ρ) c w))
  · exact W8_of_ne m ρ c r fun w e => hw ⟨w, e⟩
theorem argsIn2 : ∀ a ∈ argRefs, ∀ w : Fin cfg2.W, Pipeline.arrRef spec2 w = a → (cfg2.win w).isOut = false :=
  ListAll.forall_mem_of_all_decide (by decide +kernel)
/-- The arguments are as launched at boundary 8. -/
theorem W8_args (c : Dev nD) : ∀ a ∈ argRefs, W8 m ρ c (Proc.devRef .tc a) = m ((c : Thread nD τ).loc a) :=
  fun a ha => (W8_of m ρ c a (argsIn2 a ha)).trans (W7_args m ρ c a ha)
abbrev V8 : (c : Dev nD) → (b : Ref sig .tc) → Buf (Elt F) ((c : Thread nD τ).loc b) := fun c b => W8 m ρ c b
theorem hF2 (c : Dev nD) (w : Fin cfg2.W) : (dat2 (V7 m ρ) c).arrAt w cfg2.N = V8 m ρ c (Pipeline.arrRef spec2 w) :=
  (W8_arr m ρ c w).symm
theorem hrest2 (c : Dev nD) : ∀ b, b ∉ Finset.univ.image (Pipeline.arrRef spec2) → V8 m ρ c b = V7 m ρ c b :=
  fun b hb => W8_of_ne m ρ c b fun w e => hb (Finset.mem_image.mpr ⟨w, Finset.mem_univ _, e⟩)

/-- The buffers after the host operations `hostOps3`. -/
abbrev W9 : Dev nD → Valuation τ sig (Elt F) := fun c => StableHlo.after hostOps3 (W8 m ρ c)
/-- A buffer `hostOps3` does not write is as before it. -/
theorem W9_of (c : Dev nD) (r : Ref sig .tc) (h : r ∉ hostOps3_W) : W9 m ρ c (Proc.devRef .tc r) = W8 m ρ c (Proc.devRef .tc r) :=
  StableHlo.after_of_writes_sub hostOps3 _ hostOps3_writes h
/-- The arguments are as launched at boundary 9. -/
theorem W9_args (c : Dev nD) : ∀ a ∈ argRefs, W9 m ρ c (Proc.devRef .tc a) = m ((c : Thread nD τ).loc a) :=
  fun a ha => (W9_of m ρ c a (hostOps3_args a ha)).trans (W8_args m ρ c a ha)

theorem W9_main_arg0 (c : Dev nD) : W9 m ρ c (Proc.devRef .tc main_arg0) = m ((c : Thread nD τ).loc main_arg0) :=
  W9_args m ρ c main_arg0 (by decide)
theorem W9_main_arg1 (c : Dev nD) : W9 m ρ c (Proc.devRef .tc main_arg1) = m ((c : Thread nD τ).loc main_arg1) :=
  W9_args m ρ c main_arg1 (by decide)
theorem W9_main_arg2 (c : Dev nD) : W9 m ρ c (Proc.devRef .tc main_arg2) = m ((c : Thread nD τ).loc main_arg2) :=
  W9_args m ρ c main_arg2 (by decide)
theorem W9_main_arg3 (c : Dev nD) : W9 m ρ c (Proc.devRef .tc main_arg3) = m ((c : Thread nD τ).loc main_arg3) :=
  W9_args m ρ c main_arg3 (by decide)
theorem W9_main_arg4 (c : Dev nD) : W9 m ρ c (Proc.devRef .tc main_arg4) = m ((c : Thread nD τ).loc main_arg4) :=
  W9_args m ρ c main_arg4 (by decide)

abbrev adm : (p : Fin 3) → (pcfgs (F := F) p).Adm := fun p => (cfgs p).toPCfg_adm
def pdats : (p : Fin 3) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
  | ⟨2, _⟩ => fun c => dat2 (V7 m ρ) c
abbrev 𝒱₀ : Variants := Variants.none
abbrev L : GSem nD τ sig → Finset Unit := fun _ => ∅
abbrev lv : GSem nD τ sig → Unit → ℕ := fun _ _ => 0
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W9 m ρ c) ∗ ∃ r, prngReg c r)

set_option backward.isDefEq.respectTransparency.types false in
/-- Call 0 as a segment between the boundaries' contents. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) (A_eq0 (V1 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Call 1 as a segment between the boundaries' contents. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) (A_eq1 (V3 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Call 2 as a segment between the boundaries' contents. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V7 m ρ) c).loose
  hwaits := Pipeline.hwaits_of_owed_zero _ _ _ _ L lv 2 fun _ _ => rfl
  pre c := iprop(StableHlo.held (c : Thread nD τ) (Pipeline.ucRefs τ sig) (W7 m ρ c) ∗ R c)
  post c := iprop(StableHlo.held (c : Thread nD τ) (Pipeline.ucRefs τ sig) (W8 m ρ c) ∗ R c)
  X c := iprop(∃ r, prngReg c r)
  Y c := iprop(∃ r, prngReg c r)
  Z c := Pipeline.unscopedRest (Ix := Unit) (Name := ℕ) (U := UR sig nD τ) (Lvl := ℕ) spec2 c (V7 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V7 m ρ c) (A_eq2 (V7 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V7 m ρ c) (V8 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)),
    .host (hseg hostOps2_1 hostOps2_1_sub hostOps2_1_fresh (W5 m ρ)),
    .host (hseg hostOps2_2 hostOps2_2_sub hostOps2_2_fresh (W6 m ρ)),
    .region (reg2 m ρ),
    .host (hseg hostOps3 hostOps3_sub hostOps3_fresh (W8 m ρ)) ]
/-- The program is its segments in order. -/
theorem main_run (c : Dev nD) : main (F := F) c = Pipeline.Seg.run (segs m ρ) := (main_chain c).trans (by chain_rfl)

theorem no_unscoped : ∀ sm : SemLoc sig, sm.isScoped .tc = true := by decide

set_option backward.isDefEq.respectTransparency.types false in
/-- Every execution ends, with every buffer of the program at the last boundary's contents and every counter at zero. -/
theorem runs : θ_run defs (onTc (τ := τ) (main (F := F))) ⟨m, fun _ => 0, ρ⟩ (fun r =>
      (∀ c : Dev nD, ∀ b ∈ Pipeline.ucRefs τ sig, r.2.mem (((c : Thread nD τ)).1, b) = W9 m ρ c b) ∧ r.2.sem = fun _ => 0) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m ρ c b)
    (hfin := fun c s' => by
      iintro ⟨⟨Hh, -⟩, HSI⟩
      unfold StableHlo.held
      imodintro
      iapply (pointsTo_read_all (Pipeline.ucRefs τ sig) (fun b => (((c : Thread nD τ)).1, b)) (W9 m ρ c) s')
      isplitl [Hh] <;> iassumption)
    (hQ := fun s h hz => ⟨h, funext fun g => hz g (.inr (no_unscoped g.2))⟩)

/-- Every execution ends with the arguments as launched and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) := by
  refine (θ_run defs _ _).mono (fun s h => ⟨fun c => ?_, h.2⟩) (runs m ρ)
  exact ⟨(h.1 c _ (mem_uc main_arg0 (by decide))).trans (W9_main_arg0 m ρ c),
    (h.1 c _ (mem_uc main_arg1 (by decide))).trans (W9_main_arg1 m ρ c),
    (h.1 c _ (mem_uc main_arg2 (by decide))).trans (W9_main_arg2 m ρ c),
    (h.1 c _ (mem_uc main_arg3 (by decide))).trans (W9_main_arg3 m ρ c),
    (h.1 c _ (mem_uc main_arg4 (by decide))).trans (W9_main_arg4 m ρ c)⟩

end Cert.Proof.KernelIdeal

end
-- ==== Proof.RunBits.lean ====
module

public import proofs.«01_k».proof.Proof.Run_KernelIdeal
public import proofs.«01_k».proof.Proof.Gen.Kernel.Launch
public import proofs.«01_k».proof.Defs
public import Idealize.ShloMosaic.Lib.Tactic

@[expose] public section

set_option maxRecDepth 65536
noncomputable section

namespace Cert.Proof

open Idealize.ShloMosaic Idealize.ShloMosaic.TcCoe Idealize.SL.Sem

/-- The statement that every execution of the idealized program's text ends with its arguments as launched and every
    counter at zero, at floats that are bits. -/
def framed : Prop :=
  ∀ (m : (ℓ : Loc Cert.KernelIdeal.nD Cert.KernelIdeal.τ Cert.KernelIdeal.sig) → Buf (Elt Bits) ℓ) (g : Dev Cert.KernelIdeal.nD → PrngReg), True →
    θ_run (Cert.KernelIdeal.defs (F := Bits)) (onTc (τ := Cert.KernelIdeal.τ) (Cert.KernelIdeal.main (F := Bits))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

/-- The kernel's text and the idealized program's are one text, so the two statements are one statement. -/
theorem framed_eq : framed = Cert.quiescent_Kernel := by sl_kernel_rfl

/-- The kernel as printed runs, leaves its arguments and ends quiescent. -/
theorem frame_kernel : Cert.quiescent_Kernel :=
  framed_eq.mp fun m g _ => Cert.Proof.KernelIdeal.frame (F := Bits) m g

end Cert.Proof

end
-- ==== Proof.RunHost.lean ====
module

public import proofs.«01_k».proof.Proof.Gen.ReferenceIdeal
public import proofs.«01_k».proof.Proof.Gen.ReferenceIdeal.Run
public import proofs.«01_k».proof.Defs
public import Idealize.ShloMosaic.Lib.Quiescent

@[expose] public section

noncomputable section

namespace Cert.Proof

open Idealize.ShloMosaic Idealize.ShloMosaic.TcCoe Idealize.SL.Sem

/-- The reference runs, leaves its arguments and ends quiescent: it has no counter at all. -/
theorem frame_reference : Cert.quiescent_ReferenceIdeal := fun m g _ =>
  (θ_run Cert.ReferenceIdeal.defs _ _).mono
    (fun r h => ⟨fun c => ⟨(h c).2.2.2.2.1, (h c).2.2.2.2.2.1, (h c).2.2.2.2.2.2.1, (h c).2.2.2.2.2.2.2.1, (h c).2.2.2.2.2.2.2.2⟩,
      sem_eq_zero_of_no_sems (by decide) r.2⟩)
    (Cert.ReferenceIdeal.Value.run (F := Ideal) m g)

end Cert.Proof

end
-- ==== Proof.Arrays_KernelIdeal.lean ====
module

public import proofs.«01_k».proof.Proof.Run_KernelIdeal
public import Idealize.ShloMosaic.Lib.Pipeline.ValueKit

@[expose] public section

set_option maxRecDepth 16384
noncomputable section

namespace Cert.Proof.KernelIdeal

open Cert.KernelIdeal Cert.KernelIdeal.Gen
open Idealize.ShloMosaic Idealize.ShloMosaic.TcCoe Idealize.ShloMosaic.Tactic
open Idealize.ShloMosaic.Pipeline (Dat Cfg Window BodyObligation cellOf)

variable {F : FTy → Type} [FloatOps F]
variable (V : (c : Dev nD) → (b : Ref sig .tc) → Buf (Elt F) ((c : Thread nD τ).loc b))

/-! # Where the blocks lie in their arrays -/

/-- A block of one batch begins at its batch. -/
theorem first_axis {n y t : ℕ} (h : n = t) (hy : y < 1) : n * 1 + 1 * y = t := by omega

/-- Along the other axes a block is whole. -/
theorem whole_axis {n s y : ℕ} (h : n = 0) : n * s + 1 * y = y := by rw [h]; omega

theorem N64_0 : cfg0.N = 64 := by decide
theorem N64_1 : cfg1.N = 64 := by decide
theorem N64_2 : cfg2.N = 64 := by decide

theorem coords0 (t : Fin cfg0.N) : (grid0.coords t 0).val = t.val := by
  revert t; decide +kernel
theorem coords2 (t : Fin cfg2.N) : (grid2.coords t 0).val = t.val := by
  revert t; decide +kernel

/-- Batch `b`, chunk `q`, lane `l` of the mask. -/
abbrev inChunks (b : Fin 64) (q : Fin 128) (l : Fin 2048) : S64x128x2048.Idx := fun a => match a with | ⟨0, _⟩ => b | ⟨1, _⟩ => q | ⟨2, _⟩ => l
/-- Batch `b`, group `g`, row `r` of the winners. -/
abbrev inGroups (b : Fin 64) (g : Fin 128) (r : Fin 8) : S64x128x8.Idx := fun a => match a with | ⟨0, _⟩ => b | ⟨1, _⟩ => g | ⟨2, _⟩ => r
/-- Batch `b`, ray `n` of the flat winners. -/
abbrev inFlat (b : Fin 64) (n : Fin 1024) : S64x1x1024.Idx := fun a => match a with | ⟨0, _⟩ => b | ⟨1, _⟩ => ⟨0, Nat.one_pos⟩ | ⟨2, _⟩ => n
/-- Batch `b`, entry `j` of the flat rotations. -/
abbrev inNine (b : Fin 64) (j : Fin 9) : S64x1x9.Idx := fun a => match a with | ⟨0, _⟩ => b | ⟨1, _⟩ => ⟨0, Nat.one_pos⟩ | ⟨2, _⟩ => j
/-- Batch `b`, entry `j` of the flat translations. -/
abbrev inThree (b : Fin 64) (j : Fin 3) : S64x1x3.Idx := fun a => match a with | ⟨0, _⟩ => b | ⟨1, _⟩ => ⟨0, Nat.one_pos⟩ | ⟨2, _⟩ => j
/-- Batch `b`, entry `j` of a flat pair. -/
abbrev inTwo (b : Fin 64) (j : Fin 2) : S64x1x2.Idx := fun a => match a with | ⟨0, _⟩ => b | ⟨1, _⟩ => ⟨0, Nat.one_pos⟩ | ⟨2, _⟩ => j
/-- Batch `b`, axis `e`, ray `n` of the positions. -/
abbrev inPair (b : Fin 64) (e : Fin 2) (n : Fin 1024) : S64x2x1x1024.Idx := fun a => match a with | ⟨0, _⟩ => b | ⟨1, _⟩ => e | ⟨2, _⟩ => ⟨0, Nat.one_pos⟩ | ⟨3, _⟩ => n
/-- Batch `b`, axis `e`, ray `n` of the directions or origins. -/
abbrev inTriple (b : Fin 64) (e : Fin 3) (n : Fin 1024) : S64x3x1x1024.Idx := fun a => match a with | ⟨0, _⟩ => b | ⟨1, _⟩ => e | ⟨2, _⟩ => ⟨0, Nat.one_pos⟩ | ⟨3, _⟩ => n
/-- Batch `b`, ray `n`, sample `s` of the lengths. -/
abbrev inLengths (b : Fin 64) (n : Fin 1024) (s : Fin 64) : S64x1024x64.Idx := fun a => match a with | ⟨0, _⟩ => b | ⟨1, _⟩ => n | ⟨2, _⟩ => s
/-- Sample `s` of the base row. -/
abbrev inBase (s : Fin 64) : S1x64.Idx := fun a => match a with | ⟨0, _⟩ => ⟨0, Nat.one_pos⟩ | ⟨1, _⟩ => s

theorem index0_0 (t : Fin cfg0.N) : (cfg0.win 0).index t = ![t.val, 0, 0] := by
  revert t; decide +kernel
/-- Window 0 of call 0 lies at its batch. -/
theorem emb0_0 (t : Fin cfg0.N) (y : S1x128x2048.Idx) :
    (((cfg0.win 0).blk t).view.emb y : S64x128x2048.Idx) = inChunks (t.cast N64_0) (y 1) (y 2) := by
  funext a
  apply Fin.ext
  have h := congrFun (index0_0 t) a
  match a with
  | ⟨0, _⟩ => exact first_axis h (y 0).isLt
  | ⟨1, _⟩ => exact whole_axis h
  | ⟨2, _⟩ => exact whole_axis h
theorem iblk0_0_at (c : Dev nD) (t : Fin cfg0.N) (y : S1x128x2048.Idx) :
    iblk0 V c 0 t y = V c main_v0 (inChunks (t.cast N64_0) (y 1) (y 2)) :=
  congrArg (V c main_v0) (emb0_0 t y)

theorem index0_1 (t : Fin cfg0.N) : (cfg0.win 1).index t = ![t.val, 0, 0] := by
  revert t; decide +kernel
/-- Window 1 of call 0 lies at its batch. -/
theorem emb0_1 (t : Fin cfg0.N) (y : S1x128x8.Idx) :
    (((cfg0.win 1).blk t).view.emb y : S64x128x8.Idx) = inGroups (t.cast N64_0) (y 1) (y 2) := by
  funext a
  apply Fin.ext
  have h := congrFun (index0_1 t) a
  match a with
  | ⟨0, _⟩ => exact first_axis h (y 0).isLt
  | ⟨1, _⟩ => exact whole_axis h
  | ⟨2, _⟩ => exact whole_axis h

theorem index1_0 (t : Fin cfg1.N) : (cfg1.win 0).index t = ![t.val, 0, 0] := by
  revert t; decide +kernel
/-- Window 0 of call 1 lies at its batch. -/
theorem emb1_0 (t : Fin cfg1.N) (y : S1x1x1024.Idx) :
    (((cfg1.win 0).blk t).view.emb y : S64x1x1024.Idx) = inFlat (t.cast N64_1) (y 2) := by
  funext a
  apply Fin.ext
  have h := congrFun (index1_0 t) a
  match a with
  | ⟨0, _⟩ => exact first_axis h (y 0).isLt
  | ⟨1, _⟩ => exact (first_axis h (y 1).isLt)
  | ⟨2, _⟩ => exact whole_axis h
theorem iblk1_0_at (c : Dev nD) (t : Fin cfg1.N) (y : S1x1x1024.Idx) :
    iblk1 V c 0 t y = V c main_v2 (inFlat (t.cast N64_1) (y 2)) :=
  congrArg (V c main_v2) (emb1_0 t y)

theorem index1_1 (t : Fin cfg1.N) : (cfg1.win 1).index t = ![t.val, 0, 0] := by
  revert t; decide +kernel
/-- Window 1 of call 1 lies at its batch. -/
theorem emb1_1 (t : Fin cfg1.N) (y : S1x1x9.Idx) :
    (((cfg1.win 1).blk t).view.emb y : S64x1x9.Idx) = inNine (t.cast N64_1) (y 2) := by
  funext a
  apply Fin.ext
  have h := congrFun (index1_1 t) a
  match a with
  | ⟨0, _⟩ => exact first_axis h (y 0).isLt
  | ⟨1, _⟩ => exact (first_axis h (y 1).isLt)
  | ⟨2, _⟩ => exact whole_axis h
theorem iblk1_1_at (c : Dev nD) (t : Fin cfg1.N) (y : S1x1x9.Idx) :
    iblk1 V c 1 t y = V c main_v3 (inNine (t.cast N64_1) (y 2)) :=
  congrArg (V c main_v3) (emb1_1 t y)

theorem index1_2 (t : Fin cfg1.N) : (cfg1.win 2).index t = ![t.val, 0, 0] := by
  revert t; decide +kernel
/-- Window 2 of call 1 lies at its batch. -/
theorem emb1_2 (t : Fin cfg1.N) (y : S1x1x3.Idx) :
    (((cfg1.win 2).blk t).view.emb y : S64x1x3.Idx) = inThree (t.cast N64_1) (y 2) := by
  funext a
  apply Fin.ext
  have h := congrFun (index1_2 t) a
  match a with
  | ⟨0, _⟩ => exact first_axis h (y 0).isLt
  | ⟨1, _⟩ => exact (first_axis h (y 1).isLt)
  | ⟨2, _⟩ => exact whole_axis h
theorem iblk1_2_at (c : Dev nD) (t : Fin cfg1.N) (y : S1x1x3.Idx) :
    iblk1 V c 2 t y = V c main_v4 (inThree (t.cast N64_1) (y 2)) :=
  congrArg (V c main_v4) (emb1_2 t y)

theorem index1_3 (t : Fin cfg1.N) : (cfg1.win 3).index t = ![t.val, 0, 0] := by
  revert t; decide +kernel
/-- Window 3 of call 1 lies at its batch. -/
theorem emb1_3 (t : Fin cfg1.N) (y : S1x1x2.Idx) :
    (((cfg1.win 3).blk t).view.emb y : S64x1x2.Idx) = inTwo (t.cast N64_1) (y 2) := by
  funext a
  apply Fin.ext
  have h := congrFun (index1_3 t) a
  match a with
  | ⟨0, _⟩ => exact first_axis h (y 0).isLt
  | ⟨1, _⟩ => exact (first_axis h (y 1).isLt)
  | ⟨2, _⟩ => exact whole_axis h
theorem iblk1_3_at (c : Dev nD) (t : Fin cfg1.N) (y : S1x1x2.Idx) :
    iblk1 V c 3 t y = V c main_v5 (inTwo (t.cast N64_1) (y 2)) :=
  congrArg (V c main_v5) (emb1_3 t y)

theorem index1_4 (t : Fin cfg1.N) : (cfg1.win 4).index t = ![t.val, 0, 0] := by
  revert t; decide +kernel
/-- Window 4 of call 1 lies at its batch. -/
theorem emb1_4 (t : Fin cfg1.N) (y : S1x1x2.Idx) :
    (((cfg1.win 4).blk t).view.emb y : S64x1x2.Idx) = inTwo (t.cast N64_1) (y 2) := by
  funext a
  apply Fin.ext
  have h := congrFun (index1_4 t) a
  match a with
  | ⟨0, _⟩ => exact first_axis h (y 0).isLt
  | ⟨1, _⟩ => exact (first_axis h (y 1).isLt)
  | ⟨2, _⟩ => exact whole_axis h
theorem iblk1_4_at (c : Dev nD) (t : Fin cfg1.N) (y : S1x1x2.Idx) :
    iblk1 V c 4 t y = V c main_v6 (inTwo (t.cast N64_1) (y 2)) :=
  congrArg (V c main_v6) (emb1_4 t y)

theorem index1_5 (t : Fin cfg1.N) : (cfg1.win 5).index t = ![t.val, 0, 0, 0] := by
  revert t; decide +kernel
/-- Window 5 of call 1 lies at its batch. -/
theorem emb1_5 (t : Fin cfg1.N) (y : S1x2x1x1024.Idx) :
    (((cfg1.win 5).blk t).view.emb y : S64x2x1x1024.Idx) = inPair (t.cast N64_1) (y 1) (y 3) := by
  funext a
  apply Fin.ext
  have h := congrFun (index1_5 t) a
  match a with
  | ⟨0, _⟩ => exact first_axis h (y 0).isLt
  | ⟨1, _⟩ => exact whole_axis h
  | ⟨2, _⟩ => exact (first_axis h (y 2).isLt)
  | ⟨3, _⟩ => exact whole_axis h

theorem index1_6 (t : Fin cfg1.N) : (cfg1.win 6).index t = ![t.val, 0, 0, 0] := by
  revert t; decide +kernel
/-- Window 6 of call 1 lies at its batch. -/
theorem emb1_6 (t : Fin cfg1.N) (y : S1x3x1x1024.Idx) :
    (((cfg1.win 6).blk t).view.emb y : S64x3x1x1024.Idx) = inTriple (t.cast N64_1) (y 1) (y 3) := by
  funext a
  apply Fin.ext
  have h := congrFun (index1_6 t) a
  match a with
  | ⟨0, _⟩ => exact first_axis h (y 0).isLt
  | ⟨1, _⟩ => exact whole_axis h
  | ⟨2, _⟩ => exact (first_axis h (y 2).isLt)
  | ⟨3, _⟩ => exact whole_axis h

theorem index1_7 (t : Fin cfg1.N) : (cfg1.win 7).index t = ![t.val, 0, 0, 0] := by
  revert t; decide +kernel
/-- Window 7 of call 1 lies at its batch. -/
theorem emb1_7 (t : Fin cfg1.N) (y : S1x3x1x1024.Idx) :
    (((cfg1.win 7).blk t).view.emb y : S64x3x1x1024.Idx) = inTriple (t.cast N64_1) (y 1) (y 3) := by
  funext a
  apply Fin.ext
  have h := congrFun (index1_7 t) a
  match a with
  | ⟨0, _⟩ => exact first_axis h (y 0).isLt
  | ⟨1, _⟩ => exact whole_axis h
  | ⟨2, _⟩ => exact (first_axis h (y 2).isLt)
  | ⟨3, _⟩ => exact whole_axis h

theorem index2_1 (t : Fin cfg2.N) : (cfg2.win 1).index t = ![t.val, 0, 0] := by
  revert t; decide +kernel
/-- Window 1 of call 2 lies at its batch. -/
theorem emb2_1 (t : Fin cfg2.N) (y : S1x1024x64.Idx) :
    (((cfg2.win 1).blk t).view.emb y : S64x1024x64.Idx) = inLengths (t.cast N64_2) (y 1) (y 2) := by
  funext a
  apply Fin.ext
  have h := congrFun (index2_1 t) a
  match a with
  | ⟨0, _⟩ => exact first_axis h (y 0).isLt
  | ⟨1, _⟩ => exact whole_axis h
  | ⟨2, _⟩ => exact whole_axis h

theorem index2_0 (t : Fin cfg2.N) : (cfg2.win 0).index t = ![0, 0] := by
  revert t; decide +kernel
/-- The base row is one block. -/
theorem emb2_0 (t : Fin cfg2.N) (y : S1x64.Idx) : (((cfg2.win 0).blk t).view.emb y : S1x64.Idx) = inBase (y 1) := by
  funext a
  apply Fin.ext
  have h := congrFun (index2_0 t) a
  match a with
  | ⟨0, _⟩ => exact first_axis h (y 0).isLt
  | ⟨1, _⟩ => exact whole_axis h
theorem iblk2_0_at (c : Dev nD) (t : Fin cfg2.N) (y : S1x64.Idx) : iblk2 V c 0 t y = V c main_v9 (inBase (y 1)) :=
  congrArg (V c main_v9) (emb2_0 t y)

/-! # What the calls leave in their result arrays -/

theorem covers0_1 : (cfg0.win 1).Covers := by decide +kernel
/-- The index within its block. -/
abbrev local0_1 (i : S64x128x8.Idx) : S1x128x8.Idx := fun a => match a with | ⟨0, _⟩ => ⟨0, Nat.one_pos⟩ | ⟨1, _⟩ => i 1 | ⟨2, _⟩ => i 2
/-- Window 1 of call 0, for any function each point leaves: every batch at what its own point leaves. -/
theorem arr0_1_of (c : Dev nD) (f : Fin cfg0.N → S1x128x8.Idx → Elt F .i32) (hf : ∀ t, (dat0 V c).after 1 t = f t) (i : S64x128x8.Idx) :
    (dat0 V c).arrAt 1 cfg0.N i = f ((i 0).cast N64_0.symm) (local0_1 i) := by
  refine congrFun ((dat0 V c).arrAt_eq_of_covers 1 (fun i : S64x128x8.Idx => f ((i 0).cast N64_0.symm) (local0_1 i)) covers0_1 (fun t _ y => ?_)) i
  refine (congrFun (hf t) _).trans ?_
  refine Eq.trans ?_ (congrArg (fun i : S64x128x8.Idx => f ((i 0).cast N64_0.symm) (local0_1 i)) (emb0_1 t y)).symm
  refine congrArg (f t) (funext fun a => ?_)
  match a with
  | ⟨0, _⟩ => exact Subsingleton.elim (α := Fin 1) _ _
  | ⟨1, _⟩ => rfl
  | ⟨2, _⟩ => rfl
theorem arr0_1 (c : Dev nD) (i : S64x128x8.Idx) :
    (dat0 V c).arrAt 1 cfg0.N i = out0 (grid0.coords ((i 0).cast N64_0.symm)) (iblk0 V c 0 ((i 0).cast N64_0.symm)) (local0_1 i) :=
  arr0_1_of V c (fun t => out0 (grid0.coords t) (iblk0 V c 0 t)) (after0_1 V c) i

theorem covers1_5 : (cfg1.win 5).Covers := by decide +kernel
/-- The index within its block. -/
abbrev local1_5 (i : S64x2x1x1024.Idx) : S1x2x1x1024.Idx := fun a => match a with | ⟨0, _⟩ => ⟨0, Nat.one_pos⟩ | ⟨1, _⟩ => i 1 | ⟨2, _⟩ => ⟨0, Nat.one_pos⟩ | ⟨3, _⟩ => i 3
/-- Window 5 of call 1, for any function each point leaves: every batch at what its own point leaves. -/
theorem arr1_5_of (c : Dev nD) (f : Fin cfg1.N → S1x2x1x1024.Idx → Elt F .f32) (hf : ∀ t, (dat1 V c).after 5 t = f t) (i : S64x2x1x1024.Idx) :
    (dat1 V c).arrAt 5 cfg1.N i = f ((i 0).cast N64_1.symm) (local1_5 i) := by
  refine congrFun ((dat1 V c).arrAt_eq_of_covers 5 (fun i : S64x2x1x1024.Idx => f ((i 0).cast N64_1.symm) (local1_5 i)) covers1_5 (fun t _ y => ?_)) i
  refine (congrFun (hf t) _).trans ?_
  refine Eq.trans ?_ (congrArg (fun i : S64x2x1x1024.Idx => f ((i 0).cast N64_1.symm) (local1_5 i)) (emb1_5 t y)).symm
  refine congrArg (f t) (funext fun a => ?_)
  match a with
  | ⟨0, _⟩ => exact Subsingleton.elim (α := Fin 1) _ _
  | ⟨1, _⟩ => rfl
  | ⟨2, _⟩ => exact Subsingleton.elim (α := Fin 1) _ _
  | ⟨3, _⟩ => rfl
theorem arr1_5 (c : Dev nD) (i : S64x2x1x1024.Idx) :
    (dat1 V c).arrAt 5 cfg1.N i = out1_5 (iblk1 V c 0 ((i 0).cast N64_1.symm)) (local1_5 i) :=
  arr1_5_of V c (fun t => out1_5 (iblk1 V c 0 t)) (after1_5 V c) i

theorem covers1_6 : (cfg1.win 6).Covers := by decide +kernel
/-- The index within its block. -/
abbrev local1_6 (i : S64x3x1x1024.Idx) : S1x3x1x1024.Idx := fun a => match a with | ⟨0, _⟩ => ⟨0, Nat.one_pos⟩ | ⟨1, _⟩ => i 1 | ⟨2, _⟩ => ⟨0, Nat.one_pos⟩ | ⟨3, _⟩ => i 3
/-- Window 6 of call 1, for any function each point leaves: every batch at what its own point leaves. -/
theorem arr1_6_of (c : Dev nD) (f : Fin cfg1.N → S1x3x1x1024.Idx → Elt F .f32) (hf : ∀ t, (dat1 V c).after 6 t = f t) (i : S64x3x1x1024.Idx) :
    (dat1 V c).arrAt 6 cfg1.N i = f ((i 0).cast N64_1.symm) (local1_6 i) := by
  refine congrFun ((dat1 V c).arrAt_eq_of_covers 6 (fun i : S64x3x1x1024.Idx => f ((i 0).cast N64_1.symm) (local1_6 i)) covers1_6 (fun t _ y => ?_)) i
  refine (congrFun (hf t) _).trans ?_
  refine Eq.trans ?_ (congrArg (fun i : S64x3x1x1024.Idx => f ((i 0).cast N64_1.symm) (local1_6 i)) (emb1_6 t y)).symm
  refine congrArg (f t) (funext fun a => ?_)
  match a with
  | ⟨0, _⟩ => exact Subsingleton.elim (α := Fin 1) _ _
  | ⟨1, _⟩ => rfl
  | ⟨2, _⟩ => exact Subsingleton.elim (α := Fin 1) _ _
  | ⟨3, _⟩ => rfl
theorem arr1_6 (c : Dev nD) (i : S64x3x1x1024.Idx) :
    (dat1 V c).arrAt 6 cfg1.N i = out1_6 (iblk1 V c 0 ((i 0).cast N64_1.symm)) (iblk1 V c 1 ((i 0).cast N64_1.symm)) (iblk1 V c 3 ((i 0).cast N64_1.symm)) (iblk1 V c 4 ((i 0).cast N64_1.symm)) (local1_6 i) :=
  arr1_6_of V c (fun t => out1_6 (iblk1 V c 0 t) (iblk1 V c 1 t) (iblk1 V c 3 t) (iblk1 V c 4 t)) (after1_6 V c) i

theorem covers1_7 : (cfg1.win 7).Covers := by decide +kernel
/-- The index within its block. -/
abbrev local1_7 (i : S64x3x1x1024.Idx) : S1x3x1x1024.Idx := fun a => match a with | ⟨0, _⟩ => ⟨0, Nat.one_pos⟩ | ⟨1, _⟩ => i 1 | ⟨2, _⟩ => ⟨0, Nat.one_pos⟩ | ⟨3, _⟩ => i 3
/-- Window 7 of call 1, for any function each point leaves: every batch at what its own point leaves. -/
theorem arr1_7_of (c : Dev nD) (f : Fin cfg1.N → S1x3x1x1024.Idx → Elt F .f32) (hf : ∀ t, (dat1 V c).after 7 t = f t) (i : S64x3x1x1024.Idx) :
    (dat1 V c).arrAt 7 cfg1.N i = f ((i 0).cast N64_1.symm) (local1_7 i) := by
  refine congrFun ((dat1 V c).arrAt_eq_of_covers 7 (fun i : S64x3x1x1024.Idx => f ((i 0).cast N64_1.symm) (local1_7 i)) covers1_7 (fun t _ y => ?_)) i
  refine (congrFun (hf t) _).trans ?_
  refine Eq.trans ?_ (congrArg (fun i : S64x3x1x1024.Idx => f ((i 0).cast N64_1.symm) (local1_7 i)) (emb1_7 t y)).symm
  refine congrArg (f t) (funext fun a => ?_)
  match a with
  | ⟨0, _⟩ => exact Subsingleton.elim (α := Fin 1) _ _
  | ⟨1, _⟩ => rfl
  | ⟨2, _⟩ => exact Subsingleton.elim (α := Fin 1) _ _
  | ⟨3, _⟩ => rfl
theorem arr1_7 (c : Dev nD) (i : S64x3x1x1024.Idx) :
    (dat1 V c).arrAt 7 cfg1.N i = out1_7 (iblk1 V c 1 ((i 0).cast N64_1.symm)) (iblk1 V c 2 ((i 0).cast N64_1.symm)) (local1_7 i) :=
  arr1_7_of V c (fun t => out1_7 (iblk1 V c 1 t) (iblk1 V c 2 t)) (after1_7 V c) i

theorem covers2_1 : (cfg2.win 1).Covers := by decide +kernel
/-- The index within its block. -/
abbrev local2_1 (i : S64x1024x64.Idx) : S1x1024x64.Idx := fun a => match a with | ⟨0, _⟩ => ⟨0, Nat.one_pos⟩ | ⟨1, _⟩ => i 1 | ⟨2, _⟩ => i 2
/-- Window 1 of call 2, for any function each point leaves: every batch at what its own point leaves. -/
theorem arr2_1_of (c : Dev nD) (f : Fin cfg2.N → S1x1024x64.Idx → Elt F .f32) (hf : ∀ t, (dat2 V c).after 1 t = f t) (i : S64x1024x64.Idx) :
    (dat2 V c).arrAt 1 cfg2.N i = f ((i 0).cast N64_2.symm) (local2_1 i) := by
  refine congrFun ((dat2 V c).arrAt_eq_of_covers 1 (fun i : S64x1024x64.Idx => f ((i 0).cast N64_2.symm) (local2_1 i)) covers2_1 (fun t _ y => ?_)) i
  refine (congrFun (hf t) _).trans ?_
  refine Eq.trans ?_ (congrArg (fun i : S64x1024x64.Idx => f ((i 0).cast N64_2.symm) (local2_1 i)) (emb2_1 t y)).symm
  refine congrArg (f t) (funext fun a => ?_)
  match a with
  | ⟨0, _⟩ => exact Subsingleton.elim (α := Fin 1) _ _
  | ⟨1, _⟩ => rfl
  | ⟨2, _⟩ => rfl
theorem arr2_1 (c : Dev nD) (i : S64x1024x64.Idx) :
    (dat2 V c).arrAt 1 cfg2.N i = out2_1 (grid2.coords ((i 0).cast N64_2.symm)) (iblk2 V c 0 ((i 0).cast N64_2.symm)) (local2_1 i) :=
  arr2_1_of V c (fun t => out2_1 (grid2.coords t) (iblk2 V c 0 t)) (after2_1 V c) i

end Cert.Proof.KernelIdeal
-- ==== Proof.Host_KernelIdeal.lean ====
module

public import proofs.«01_k».proof.Proof.Run_KernelIdeal
public import proofs.«01_k».proof.Proof.Gen.ReferenceIdeal.Read
public import Idealize.ShloMosaic.Lib.StableHlo.Run

@[expose] public section

set_option maxRecDepth 16384
noncomputable section

namespace Cert.Proof.KernelIdeal

open Cert.KernelIdeal Cert.KernelIdeal.Gen
open Idealize.ShloMosaic Idealize.ShloMosaic.TcCoe Idealize.ShloMosaic.Tactic

variable {F : FTy → Type} [FloatOps F]
variable (m : (ℓ : Loc nD τ sig) → Buf (Elt F) ℓ) (ρ : Dev nD → PrngReg)

/-! # What the host operations between the calls leave -/

/-- The masks as chunks of lanes. -/
theorem W1_v0 (c : Dev nD) : W1 m ρ c (Proc.devRef .tc main_v0) = shapeCast S64x128x2048 (m ((c : Thread nD τ).loc main_arg0)) shapeCasts_S64x1x512x512_S64x128x2048 := by
  after_results; rfl
/-- The winners, flat. -/
theorem W3_v2 (c : Dev nD) : W3 m ρ c (Proc.devRef .tc main_v2) = shapeCast S64x1x1024 (W2 m ρ c (Proc.devRef .tc main_v1)) shapeCasts_S64x128x8_S64x1x1024 := by
  after_results; rfl
/-- The rotations, flat. -/
theorem W3_v3 (c : Dev nD) : W3 m ρ c (Proc.devRef .tc main_v3) = shapeCast S64x1x9 (m ((c : Thread nD τ).loc main_arg1)) shapeCasts_S64x3x3_S64x1x9 := by
  rw [← W2_args m ρ c main_arg1 (by decide)]; after_results; rfl
/-- The translations, flat. -/
theorem W3_v4 (c : Dev nD) : W3 m ρ c (Proc.devRef .tc main_v4) = shapeCast S64x1x3 (m ((c : Thread nD τ).loc main_arg2)) shapeCasts_S64x3_S64x1x3 := by
  rw [← W2_args m ρ c main_arg2 (by decide)]; after_results; rfl
/-- The focal lengths, flat. -/
theorem W3_v5 (c : Dev nD) : W3 m ρ c (Proc.devRef .tc main_v5) = shapeCast S64x1x2 (m ((c : Thread nD τ).loc main_arg3)) shapeCasts_S64x2_S64x1x2 := by
  rw [← W2_args m ρ c main_arg3 (by decide)]; after_results; rfl
/-- The principal points, flat. -/
theorem W3_v6 (c : Dev nD) : W3 m ρ c (Proc.devRef .tc main_v6) = shapeCast S64x1x2 (m ((c : Thread nD τ).loc main_arg4)) shapeCasts_S64x2_S64x1x2 := by
  rw [← W2_args m ρ c main_arg4 (by decide)]; after_results; rfl
/-- The base row. -/
theorem W7_v9 (c : Dev nD) : W7 m ρ c (Proc.devRef .tc main_v9) = shapeCast S1x64 (Cert.ReferenceIdeal.Read.val_main_v266 (F := F)) shapeCasts_S64_S1x64 := by
  after_results; rfl
/-- Result array 0 of the second call with its axis last. -/
theorem W9_v12 (c : Dev nD) : W9 m ρ c (Proc.devRef .tc main_v12)
    = transpose S64x1024x2 [0, 2, 1] (shapeCast S64x2x1024 (W8 m ρ c (Proc.devRef .tc main_v7_0)) shapeCasts_S64x2x1x1024_S64x2x1024) transposes_S64x2x1024_S64x1024x2_0_2_1 := by
  after_results; rfl
/-- Nothing between writes it. -/
theorem W8_v7_0 (c : Dev nD) : W8 m ρ c (Proc.devRef .tc main_v7_0) = W4 m ρ c (Proc.devRef .tc main_v7_0) :=
  (W8_of m ρ c _ (by decide)).trans ((W7_of m ρ c _ (by decide)).trans ((W6_of m ρ c _ (by decide)).trans (W5_of m ρ c _ (by decide))))
/-- Result array 1 of the second call with its axis last. -/
theorem W9_v14 (c : Dev nD) : W9 m ρ c (Proc.devRef .tc main_v14)
    = transpose S64x1024x3 [0, 2, 1] (shapeCast S64x3x1024 (W8 m ρ c (Proc.devRef .tc main_v7_1)) shapeCasts_S64x3x1x1024_S64x3x1024) transposes_S64x3x1024_S64x1024x3_0_2_1 := by
  after_results; rfl
/-- Nothing between writes it. -/
theorem W8_v7_1 (c : Dev nD) : W8 m ρ c (Proc.devRef .tc main_v7_1) = W4 m ρ c (Proc.devRef .tc main_v7_1) :=
  (W8_of m ρ c _ (by decide)).trans ((W7_of m ρ c _ (by decide)).trans ((W6_of m ρ c _ (by decide)).trans (W5_of m ρ c _ (by decide))))
/-- Result array 2 of the second call with its axis last. -/
theorem W9_v16 (c : Dev nD) : W9 m ρ c (Proc.devRef .tc main_v16)
    = transpose S64x1024x3 [0, 2, 1] (shapeCast S64x3x1024 (W8 m ρ c (Proc.devRef .tc main_v7_2)) shapeCasts_S64x3x1x1024_S64x3x1024) transposes_S64x3x1024_S64x1024x3_0_2_1 := by
  after_results; rfl
/-- Nothing between writes it. -/
theorem W8_v7_2 (c : Dev nD) : W8 m ρ c (Proc.devRef .tc main_v7_2) = W4 m ρ c (Proc.devRef .tc main_v7_2) :=
  (W8_of m ρ c _ (by decide)).trans ((W7_of m ρ c _ (by decide)).trans ((W6_of m ρ c _ (by decide)).trans (W5_of m ρ c _ (by decide))))
/-- The lengths are as the third call leaves them. -/
theorem W9_v10 (c : Dev nD) : W9 m ρ c (Proc.devRef .tc main_v10) = W8 m ρ c (Proc.devRef .tc main_v10) :=
  W9_of m ρ c _ (by decide)

end Cert.Proof.KernelIdeal
-- ==== Proof.Words.lean ====
module

public import Idealize.ShloMosaic.Lib.IdealHost
public import Idealize.ShloMosaic.PureOps.Ideal.Laws
public import Idealize.ShloMosaic.Lib.Tactic

@[expose] public section

noncomputable section

namespace Cert.Proof

open Idealize.ShloMosaic

/-! # The hash of a counter, and the number it draws -/

/-- A word rotated left by `r` bits, `s` being 32 − `r`. -/
def rot (r s y : BitVec 32) : BitVec 32 := (y <<< r) ||| (y >>> s)

/-- One round: add, rotate, exclusive or. -/
def rnd (r s : BitVec 32) (p : BitVec 32 × BitVec 32) : BitVec 32 × BitVec 32 :=
  (p.1 + p.2, rot r s p.2 ^^^ (p.1 + p.2))

/-- Four rounds by the first set of rotations. -/
def fourA (p : BitVec 32 × BitVec 32) : BitVec 32 × BitVec 32 :=
  rnd 6#32 26#32 (rnd 26#32 6#32 (rnd 15#32 17#32 (rnd 13#32 19#32 p)))

/-- Four rounds by the second set of rotations. -/
def fourB (p : BitVec 32 × BitVec 32) : BitVec 32 × BitVec 32 :=
  rnd 24#32 8#32 (rnd 16#32 16#32 (rnd 29#32 3#32 (rnd 17#32 15#32 p)))

/-- A round with the exclusive or written the other way. -/
theorem rnd_comm (r s x y : BitVec 32) : rnd r s (x, y) = (x + y, (x + y) ^^^ rot r s y) := by
  rw [rnd, BitVec.xor_comm]

/-- A key's words added to the state. -/
def inject (a b : BitVec 32) (p : BitVec 32 × BitVec 32) : BitVec 32 × BitVec 32 := (p.1 + a, p.2 + b)

/-- The twenty rounds from a state to which the key `k0, k1` has been added already. -/
def rounds (k0 k1 : BitVec 32) (p : BitVec 32 × BitVec 32) : BitVec 32 × BitVec 32 :=
  inject (k0 ^^^ k1 ^^^ 0x1BD11BDA#32) (k0 + 5#32) (fourA
    (inject k1 ((k0 ^^^ k1 ^^^ 0x1BD11BDA#32) + 4#32) (fourB
      (inject k0 (k1 + 3#32) (fourA
        (inject (k0 ^^^ k1 ^^^ 0x1BD11BDA#32) (k0 + 2#32) (fourB
          (inject k1 ((k0 ^^^ k1 ^^^ 0x1BD11BDA#32) + 1#32) (fourA p)))))))))

/-- The two words of a hash combined. -/
def mixed (p : BitVec 32 × BitVec 32) : BitVec 32 := p.1 ^^^ p.2

/-- The number of [0, 1) a word draws: its upper 23 bits after the point. -/
def unitOf (w : BitVec 32) : EReal := Ideal.ofBits .f32 ((w >>> 9#32) ||| 0x3F800000#32) - Ideal.ofBits .f32 0x3F800000#32

/-- That number, as a fraction. -/
theorem unitOf_eq (w : BitVec 32) : ∃ n : ℕ, n < 8388608 ∧ unitOf w = (((n : ℝ) / 8388608 : ℝ) : EReal) := by
  refine ⟨((w >>> 9#32).extractLsb' 0 23).toNat, (BitVec.isLt _).trans_eq (by norm_num), ?_⟩
  have e1 : ((w >>> 9#32) ||| 0x3F800000#32).extractLsb' 31 1 = 0#1 := by
    apply BitVec.eq_of_getLsbD_eq; intro i hi
    have : i = 0 := by omega
    subst this; simp [BitVec.getLsbD_extractLsb']
  have e2 : ((w >>> 9#32) ||| 0x3F800000#32).extractLsb' 23 8 = 127#8 := by
    apply BitVec.eq_of_getLsbD_eq; intro i hi
    rw [BitVec.getLsbD_extractLsb', BitVec.getLsbD_or]
    simp only [hi, decide_true, Bool.true_and, BitVec.ushiftRight_eq', BitVec.getLsbD_ushiftRight]
    rw [BitVec.getLsbD_of_ge w _ (by simp; omega), Bool.false_or]
    interval_cases i <;> rfl
  have e3 : ((w >>> 9#32) ||| 0x3F800000#32).extractLsb' 0 23 = (w >>> 9#32).extractLsb' 0 23 := by
    apply BitVec.eq_of_getLsbD_eq; intro i hi
    rw [BitVec.getLsbD_extractLsb', BitVec.getLsbD_extractLsb', BitVec.getLsbD_or]
    have : (0x3F800000#32).getLsbD (0 + i) = false := by interval_cases i <;> rfl
    rw [this, Bool.or_false]
  generalize hn : ((w >>> 9#32).extractLsb' 0 23).toNat = n at *
  unfold unitOf
  rw [Ideal.ofBits_one_f32]
  unfold Ideal.ofBits Ideal.ieee
  simp only [e1, e2, e3, hn]
  rw [if_neg (by decide), if_neg (by decide), ← EReal.coe_one, ← EReal.coe_sub]
  congr 1
  push_cast
  norm_num
  ring

/-- The larger of two reals. -/
theorem coe_max' (x y : ℝ) : max (x : EReal) (y : EReal) = ((max x y : ℝ) : EReal) :=
  (EReal.coe_strictMono.monotone.map_max).symm

/-- The smallest positive normal number. -/
def tiny : EReal := Ideal.ofBits .f32 0x00800000#32

theorem tiny_eq : ∃ t : ℝ, 0 < t ∧ t < 1 ∧ tiny = (t : EReal) := by
  refine ⟨(2:ℝ) ^ (-126 : ℤ), by positivity, by norm_num, ?_⟩
  have e1 : BitVec.extractLsb' 31 1 0x00800000#32 = 0#1 := by decide
  have e2 : BitVec.extractLsb' 23 8 0x00800000#32 = 1#8 := by decide
  have e3 : BitVec.extractLsb' 0 23 0x00800000#32 = 0#23 := by decide
  unfold tiny Ideal.ofBits Ideal.ieee
  simp only [e1, e2, e3]
  norm_num

/-- The number drawn, kept off zero: strictly between 0 and 1. -/
theorem draw_mem (w : BitVec 32) : ∃ r : ℝ, 0 < r ∧ r < 1 ∧ max (unitOf w) tiny = (r : EReal) := by
  obtain ⟨n, hn, e⟩ := unitOf_eq w
  obtain ⟨t, h0, h1, et⟩ := tiny_eq
  refine ⟨max ((n : ℝ) / 8388608) t, lt_max_of_lt_right h0, max_lt ?_ h1, by rw [e, et, coe_max']⟩
  rw [div_lt_one (by norm_num)]; exact_mod_cast hn

/-- The clamp of the masses, strictly positive. -/
theorem clamp_eq : ∃ t : ℝ, 0 < t ∧ Ideal.ofBits .f32 0x2B8CBCCC#32 = (t : EReal) := by
  have e1 : BitVec.extractLsb' 31 1 0x2B8CBCCC#32 = 0#1 := by decide
  have e2 : BitVec.extractLsb' 23 8 0x2B8CBCCC#32 = 87#8 := by decide
  have e3 : BitVec.extractLsb' 0 23 0x2B8CBCCC#32 = 834764#23 := by decide
  refine ⟨(9223372 : ℝ) * 2 ^ (-63 : ℤ), by positivity, ?_⟩
  unfold Ideal.ofBits Ideal.ieee
  simp only [e1, e2, e3]
  norm_num

/-! # The race and the draw by logits choose alike -/

/-- A draw `u` and a clamped mass `p`: the draw's logarithm over the mass. -/
def raced (u p : EReal) : EReal := Ideal.log u * Ideal.div 1 p
/-- The logit perturbed by the Gumbel number of the draw. -/
def gumbled (u p : EReal) : EReal := Ideal.log p + -Ideal.log (-Ideal.log u)

/-- The clamped mass is a positive real or infinite. -/
theorem clamped (x : EReal) {t : ℝ} (ht : 0 < t) : max x (t : EReal) = ⊤ ∨ ∃ p : ℝ, 0 < p ∧ max x (t : EReal) = (p : EReal) := by
  induction x with
  | bot => exact .inr ⟨t, ht, by simp⟩
  | top => exact .inl (by simp)
  | coe x => exact .inr ⟨max x t, lt_max_of_lt_right ht, by rw [coe_max']⟩

/-- One is the exponential of the other, up to signs; so the race's score is a real number at most zero. -/
theorem raced_eq {u p : EReal} (hu : ∃ r : ℝ, 0 < r ∧ r < 1 ∧ u = (r : EReal))
    (hp : p = ⊤ ∨ ∃ q : ℝ, 0 < q ∧ p = (q : EReal)) :
    (gumbled u p = ⊤ ∧ raced u p = 0) ∨ ∃ g : ℝ, gumbled u p = (g : EReal) ∧ raced u p = ((-Real.exp (-g) : ℝ) : EReal) := by
  obtain ⟨r, h0, h1, rfl⟩ := hu
  have hl : Real.log r < 0 := Real.log_neg h0 h1
  have e1 : Ideal.log (r : EReal) = (Real.log r : EReal) := by rw [Ideal.log_coe, if_neg (not_le.mpr h0)]
  have e2 : Ideal.log (-(Real.log r : EReal)) = (Real.log (-Real.log r) : EReal) := by
    rw [← EReal.coe_neg, Ideal.log_coe, if_neg (by linarith)]
  unfold gumbled raced
  rw [e1, e2]
  rcases hp with rfl | ⟨q, hq, rfl⟩
  · left
    constructor
    · rw [Ideal.log_top, ← EReal.coe_neg, EReal.top_add_coe]
    · simp [Ideal.div]
  · right
    refine ⟨Real.log q + -Real.log (-Real.log r), ?_, ?_⟩
    · rw [Ideal.log_coe, if_neg (not_le.mpr hq), ← EReal.coe_neg, ← EReal.coe_add]
    · rw [Ideal.div_coe hq.ne', one_mul, ← EReal.coe_mul]
      congr 1
      rw [neg_add, neg_neg, Real.exp_add, Real.exp_neg, Real.exp_log hq, Real.exp_log (by linarith)]
      field_simp

/-- The two orders agree. -/
theorem raced_lt {u p u' p' : EReal} (hu : ∃ r : ℝ, 0 < r ∧ r < 1 ∧ u = (r : EReal))
    (hp : p = ⊤ ∨ ∃ q : ℝ, 0 < q ∧ p = (q : EReal)) (hu' : ∃ r : ℝ, 0 < r ∧ r < 1 ∧ u' = (r : EReal))
    (hp' : p' = ⊤ ∨ ∃ q : ℝ, 0 < q ∧ p' = (q : EReal)) :
    raced u p < raced u' p' ↔ gumbled u p < gumbled u' p' := by
  rcases raced_eq hu hp with ⟨a, b⟩ | ⟨g, a, b⟩ <;> rcases raced_eq hu' hp' with ⟨a', b'⟩ | ⟨g', a', b'⟩ <;>
    rw [a, b, a', b']
  · simp
  · have := Real.exp_pos (-g')
    simp only [not_top_lt, iff_false, not_lt]
    exact_mod_cast (neg_neg_of_pos this).le
  · have := Real.exp_pos (-g)
    simp only [EReal.coe_lt_top, iff_true]
    exact_mod_cast (neg_neg_of_pos this)
  · rw [EReal.coe_lt_coe_iff, EReal.coe_lt_coe_iff, neg_lt_neg_iff, Real.exp_lt_exp, neg_lt_neg_iff]

/-- The race's score is above −∞. -/
theorem raced_pos {u p : EReal} (hu : ∃ r : ℝ, 0 < r ∧ r < 1 ∧ u = (r : EReal))
    (hp : p = ⊤ ∨ ∃ q : ℝ, 0 < q ∧ p = (q : EReal)) : ⊥ < raced u p := by
  rcases raced_eq hu hp with ⟨a, b⟩ | ⟨g, a, b⟩ <;> rw [b]
  · exact EReal.bot_lt_zero
  · exact EReal.bot_lt_coe _

/-- The word of −∞ is the bottom. -/
theorem minus_inf : Ideal.ofBits .f32 0xFF800000#32 = ⊥ := by
  unfold Ideal.ofBits Ideal.ieee
  simp

/-- The counter of batch `b`, ray `n`, pixel `p`. -/
def raceLo (b n p : ℕ) : BitVec 32 := BitVec.ofNat 32 b * 268435456#32 + BitVec.ofNat 32 n * 262144#32 + BitVec.ofNat 32 p

/-- The random word of batch `b`, ray `n`, pixel `p`. -/
def raceWord (b n p : ℕ) : BitVec 32 :=
  mixed (rounds 507451445#32 1853169794#32 (BitVec.ofNat 32 b >>> 4 + 507451445#32, raceLo b n p + 1853169794#32))

/-- The draw from it, kept off zero. -/
def raceDraw (b n p : ℕ) : EReal := max (unitOf (raceWord b n p)) tiny

/-- The counter of batch `b`, ray `n`, sample `s`, and the random word from it. -/
def strataWord (b n s : ℕ) : BitVec 32 :=
  mixed (rounds 1948878966#32 4237131848#32 (1948878966#32, BitVec.ofNat 32 b * 65536#32 + BitVec.ofNat 32 n * 64#32 + BitVec.ofNat 32 s + 4237131848#32))

end Cert.Proof

end
-- ==== Proof.Draws_KernelIdeal.lean ====
module

public import proofs.«01_k».proof.Proof.Race_KernelIdeal
public import proofs.«01_k».proof.Proof.Lengths_KernelIdeal
public import proofs.«01_k».proof.Proof.Words
public import Idealize.ShloMosaic.Lib.Pipeline.Value
public import Idealize.ShloMosaic.Lib.ValueIdx

@[expose] public section

set_option maxRecDepth 16384

noncomputable section

namespace Cert.Proof.KernelIdeal

open Cert.KernelIdeal Cert.KernelIdeal.Gen
open Idealize.ShloMosaic Idealize.ShloMosaic.TcCoe Idealize.ShloMosaic.Tactic

variable {F : FTy → Type} [FloatOps F]

/-! # The kernel's hashes, word by word -/

/-- A state with the next round's addition made. -/
def added (p : BitVec 32 × BitVec 32) : BitVec 32 × BitVec 32 := (p.1 + p.2, p.2)
/-- A round whose addition has been made. -/
def turned (r s : BitVec 32) (p : BitVec 32 × BitVec 32) : BitVec 32 × BitVec 32 := (p.1, rot r s p.2 ^^^ p.1)

theorem turned_added (r s : BitVec 32) (p : BitVec 32 × BitVec 32) : turned r s (added p) = rnd r s p := rfl

/-- The race's state after five rounds. -/
theorem race_5 (v10 : BitVec 32) (v18 : IVec S8x2048 32) (v24 : BitVec 32) (k : Fin k0_t2_loop.trips) (j : S8x2048.Idx) :
    (k0_pay20 v10 v18 v24 0#32 1#32 k j, k0_pay19 v10 v18 v24 0#32 1#32 k j)
      = added (rnd 17#32 15#32 (inject 1853169794#32 1805329262#32 (fourA (v10, k0_pay9 v18 v24 0#32 1#32 k j)))) := rfl

/-- … from there to the eleventh. -/
theorem race_11 (a b : IVec S8x2048 32) (j : S8x2048.Idx) :
    (k0_pay32 a b 29#32 j, k0_pay31 a b 29#32 j)
      = added (rnd 26#32 6#32 (rnd 15#32 17#32 (rnd 13#32 19#32 (inject 1805329261#32 507451447#32
          (rnd 24#32 8#32 (rnd 16#32 16#32 (turned 29#32 3#32 (b j, a j)))))))) := rfl

/-- … to the sixteenth, a shift of the next made. -/
theorem race_16 (a b : IVec S8x2048 32) (j : S8x2048.Idx) :
    (k0_pay42 a b 6#32 j, k0_pay41 a b 6#32 j)
      = added (inject 1853169794#32 1805329265#32 (fourB (inject 507451445#32 1853169797#32 (turned 6#32 26#32 (b j, a j))))) := rfl

/-- The index of a row's entry. -/
abbrev inRow (l : Fin 2048) : S1x2048.Idx := fun a => match a with | ⟨0, _⟩ => ⟨0, Nat.one_pos⟩ | ⟨1, _⟩ => l

/-- The index of a lane. -/
abbrev lane (l : Fin 2048) : S2048.Idx := fun a => match a with | ⟨0, _⟩ => l

/-- A round's second word, as an operation on arrays. -/
abbrev vturn {s : Shape} (r t : BitVec 32) (y x : IVec s 32) : IVec s 32 :=
  xori (ori (shli y (broadcast s r)) (shrui y (broadcast s t))) x

/-- The word drawn from the state after sixteen rounds, the first shift and the first addition made. -/
def lastWord {s : Shape} (y x z : IVec s 32) (k l : BitVec 32) : IVec s 32 :=
  have y1 : IVec s 32 := xori (ori z (shrui y (broadcast s 19#32))) x
  have x1 : IVec s 32 := addi x y1
  have y2 : IVec s 32 := vturn 15#32 17#32 y1 x1
  have x2 : IVec s 32 := addi x1 y2
  have y3 : IVec s 32 := vturn 26#32 6#32 y2 x2
  have x3 : IVec s 32 := addi x2 y3
  have y4 : IVec s 32 := vturn 6#32 26#32 y3 x3
  xori (addi x3 (broadcast s k)) (addi y4 (broadcast s l))

theorem lastWord_at {s : Shape} (y x : IVec s 32) (k l : BitVec 32) (j : s.Idx) :
    lastWord y x (shli y (broadcast s 13#32)) k l j = mixed (inject k l (rnd 6#32 26#32 (rnd 26#32 6#32 (rnd 15#32 17#32
          (turned 13#32 19#32 (x j, y j)))))) := rfl

/-- The number drawn by a word, as an operation on arrays. -/
abbrev vunit {s : Shape} (w : IVec s 32) : FVec Ideal s .f32 :=
  subf (bitcastToFloat .f32 (ori (shrui w (broadcast s 9#32)) (broadcast s 1065353216#32))) (broadcast s (Scalar.ofBits .f32 0x3F800000#32))

theorem vunit_at {s : Shape} (w : IVec s 32) (j : s.Idx) : vunit w j = unitOf (w j) := rfl

/-- The last stretch, by these operations. -/
theorem pay44_eq (y x z : IVec S8x2048 32) (row : Vec Ideal S1x2048 .f32) :
    k0_pay44 (F := Ideal) y x z 19#32 row
      = mulf (log (maximumf (vunit (lastWord y x z 1805329261#32 507451450#32)) (broadcast S8x2048 (Scalar.ofBits .f32 0x00800000#32))))
          (broadcastTo S8x2048 (shapeCast S1x2048 (shapeCast S1x2048 (shapeCast S2048 row shapeCasts_S1x2048_S2048) shapeCasts_S2048_S1x2048) shapeCasts_S1x2048_S1x2048) broadcasts_S1x2048_S8x2048) := rfl

/-- The score drawn by a word, over a row. -/
theorem score_at (w : IVec S8x2048 32) (v : FVec Ideal S8x2048 .f32) (j : S8x2048.Idx) :
    mulf (log (maximumf (vunit w) (broadcast S8x2048 (Scalar.ofBits .f32 0x00800000#32)))) v j = Ideal.log (max (unitOf (w j)) tiny) * v j := rfl

/-- A row, reshaped and spread over eight, at an index. -/
theorem row_at (row : Vec Ideal S1x2048 .f32) (j : S8x2048.Idx) :
    broadcastTo S8x2048 (shapeCast S1x2048 (shapeCast S1x2048 (shapeCast S2048 row shapeCasts_S1x2048_S2048) shapeCasts_S2048_S1x2048) shapeCasts_S1x2048_S1x2048) broadcasts_S1x2048_S8x2048 j
      = row (inRow (j 1)) := by
  refine (broadcastTo_apply _ _ j (inRow (j 1)) (fun a => by match a with | ⟨0, _⟩ => rfl | ⟨1, _⟩ => rfl)).trans ?_
  refine (shapeCast_apply _ _ (inRow (j 1)) (inRow (j 1)) rfl).trans ?_
  have e : (S2048.rowMajor (lane (j 1))).val = (S1x2048.rowMajor (inRow (j 1))).val := by
    rw [Shape.rowMajor_val_one, Shape.rowMajor_val_two]; simp [inRow]
  refine (shapeCast_apply _ _ (inRow (j 1)) (lane (j 1)) e).trans ?_
  exact shapeCast_apply _ _ (lane (j 1)) (inRow (j 1)) e.symm

/-- … to the last, and the score drawn. -/
theorem race_20 (x y z : IVec S8x2048 32) (row : Vec Ideal S1x2048 .f32) (j : S8x2048.Idx) :
    k0_pay44 (F := Ideal) y x z 19#32 row j
      = Ideal.log (max (unitOf (lastWord y x z 1805329261#32 507451450#32 j)) tiny) * row (inRow (j 1)) := by
  rw [pay44_eq, score_at, row_at]

/-- The scores of a chunk. -/
def chunkScore (v10 v24 : BitVec 32) (row : Vec Ideal S1x2048 .f32) (k : Fin k0_t2_loop.trips) : FVec Ideal S8x2048 .f32 :=
  let a := k0_pay19 v10 k0_pay2 v24 0#32 1#32 k
  let b := k0_pay20 v10 k0_pay2 v24 0#32 1#32 k
  let a' := k0_pay31 a b 29#32
  let b' := k0_pay32 a b 29#32
  k0_pay44 (k0_pay41 a' b' 6#32) (k0_pay42 a' b' 6#32) (k0_pay43 a' b' 6#32) 19#32 row

theorem chunkStep_eq (v10 v24 : BitVec 32) (row : Vec Ideal S1x2048 .f32) (k : Fin k0_t2_loop.trips) (acc : FVec Ideal S8x2048 .f32 × IVec S8x2048 32) :
    chunkStep v10 v24 row k acc = (k0_pay6 acc.1 (chunkScore v10 v24 row k), k0_pay7 acc.1 acc.2 (Scf.iv 0#32 1#32 k) (chunkScore v10 v24 row k)) := rfl

/-- A chunk's score at an index: the draw of the counter there, over the row. -/
theorem chunkScore_at (v10 v24 : BitVec 32) (row : Vec Ideal S1x2048 .f32) (k : Fin k0_t2_loop.trips) (j : S8x2048.Idx) :
    chunkScore v10 v24 row k j
      = Ideal.log (max (unitOf (mixed (rounds 507451445#32 1853169794#32 (v10, k0_pay9 k0_pay2 v24 0#32 1#32 k j)))) tiny) * row (inRow (j 1)) := by
  unfold chunkScore
  rw [race_20]
  have e : ∀ a b : IVec S8x2048 32, k0_pay43 a b 6#32 = shli (k0_pay41 a b 6#32) (broadcast S8x2048 13#32) := fun _ _ => rfl
  rw [e, lastWord_at, race_16, race_11, race_5]
  simp only [turned_added, rounds, fourA, fourB, BitVec.reduceXOr, BitVec.reduceAdd]

/-! # The lengths' words -/

/-- The state after four rounds. -/
theorem strat_4 (i : grid2.Coords) (x0 : Vec F S1x64 .f32) (j : S1024x64.Idx) :
    (mixB i x0 j, mixA i x0 j) = added (inject 4237131848#32 2473923557#32 (fourA (1948878966#32, k2_pay2 i j))) := rfl

/-- … from there to the tenth. -/
theorem strat_10 (i : grid2.Coords) (x0 : Vec F S1x64 .f32) (j : S1024x64.Idx) :
    (mixD i x0 j, mixC i x0 j) = added (rnd 15#32 17#32 (rnd 13#32 19#32 (inject 2473923556#32 1948878968#32
      (rnd 24#32 8#32 (rnd 16#32 16#32 (rnd 29#32 3#32 (turned 17#32 15#32 (mixB i x0 j, mixA i x0 j)))))))) := rfl

/-- … to the sixteenth. -/
theorem strat_16 (a b : IVec S1024x64 32) (j : S1024x64.Idx) :
    (k2_pay33 a b 26#32 j, k2_pay34 a b 26#32 j) = fourB (inject 1948878966#32 4237131851#32 (rnd 6#32 26#32 (turned 26#32 6#32 (b j, a j)))) := rfl

/-- … to the last. -/
theorem pay36_eq (x y : IVec S1024x64 32) :
    k2_pay36 (F := Ideal) x y k2_pay35
      = subf (vunit (lastWord (addi y (broadcast S1024x64 2473923560#32)) (addi (addi x k2_pay35) (addi y (broadcast S1024x64 2473923560#32)))
          (shli (addi y (broadcast S1024x64 2473923560#32)) (broadcast S1024x64 13#32)) 2473923556#32 1948878971#32))
        (broadcast S1024x64 (Scalar.ofBits .f32 0x3F000000#32)) := rfl

/-- A number drawn, less a half. -/
theorem half_at (w : IVec S1024x64 32) (j : S1024x64.Idx) :
    subf (vunit w) (broadcast S1024x64 (Scalar.ofBits .f32 0x3F000000#32)) j = unitOf (w j) - Ideal.ofBits .f32 0x3F000000#32 := rfl

/-- The jitter at an index, before its scale. -/
theorem jitter_at (i : grid2.Coords) (x0 : Vec Ideal S1x64 .f32) (j : S1024x64.Idx) :
    k2_pay36 (F := Ideal) (k2_pay33 (mixC i x0) (mixD i x0) 26#32) (k2_pay34 (mixC i x0) (mixD i x0) 26#32) k2_pay35 j
      = unitOf (mixed (rounds 1948878966#32 4237131848#32 (1948878966#32, k2_pay2 i j))) - Ideal.ofBits .f32 0x3F000000#32 := by
  rw [pay36_eq, half_at, lastWord_at]
  have e : ∀ x y : IVec S1024x64 32, ((addi (addi x k2_pay35) (addi y (broadcast S1024x64 2473923560#32))) j, (addi y (broadcast S1024x64 2473923560#32)) j)
    = added (inject 4237131848#32 2473923560#32 (x j, y j)) := fun _ _ => rfl
  rw [e, strat_16, strat_10, strat_4]
  simp only [turned_added, rounds, fourA, fourB, BitVec.reduceXOr, BitVec.reduceAdd]

end Cert.Proof.KernelIdeal

end
-- ==== Proof.Argmax.lean ====
module
public import Idealize.ShloMosaic.Lib.WordArith
public import Idealize.ShloMosaic.PureOps.Reduce
public import Idealize.ShloMosaic.PureOps.Ideal
@[expose] public section

/-! The first maximum of a finite family, and how folds of maxima and of smallest words find it. -/

namespace Cert.Proof

open Idealize.ShloMosaic

/-- `k` is where `f` is largest, and the first such place. -/
def IsFirstMax {n : ℕ} (f : Fin n → EReal) (k : Fin n) : Prop :=
  (∀ j, f j ≤ f k) ∧ ∀ j, j < k → f j < f k

/-- A family has one first maximum only. -/
theorem IsFirstMax.unique {n : ℕ} {f : Fin n → EReal} {k k' : Fin n} (h : IsFirstMax f k) (h' : IsFirstMax f k') :
    k = k' := by
  rcases lt_trichotomy k k' with lt | eq | gt
  · exact absurd (h.1 k') (not_le.2 (h'.2 k lt))
  · exact eq
  · exact absurd (h'.1 k) (not_le.2 (h.2 k' gt))

/-- Families that order the places alike have the same first maximum. -/
theorem IsFirstMax.transfer {n : ℕ} {f g : Fin n → EReal} (hfg : ∀ i j, f i < f j ↔ g i < g j) {k : Fin n}
    (h : IsFirstMax f k) : IsFirstMax g k :=
  ⟨fun j => not_lt.1 fun hj => absurd (h.1 j) (not_le.2 ((hfg k j).2 hj)), fun j hj => (hfg j k).1 (h.2 j hj)⟩

/-- Every member is at most the fold of maxima from the bottom. -/
theorem le_fold_max {ι : Type} (s : Finset ι) (f : ι → EReal) (i : ι) (hi : i ∈ s) : f i ≤ s.fold max ⊥ f := by
  rw [Finset.le_fold_max]
  exact Or.inr ⟨i, hi, le_rfl⟩

/-- The fold of maxima over a family with a member is one of the members. -/
theorem exists_fold_max {ι : Type} [Fintype ι] [Nonempty ι] (f : ι → EReal) :
    ∃ k, Finset.univ.fold max ⊥ f = f k := by
  obtain ⟨k, -, hk⟩ := Finset.exists_max_image Finset.univ f Finset.univ_nonempty
  refine ⟨k, le_antisymm ?_ (le_fold_max _ f k (Finset.mem_univ k))⟩
  rw [Finset.fold_max_le]
  exact ⟨bot_le, hk⟩

/-- A fold of smallest words over words below half the range: a lower bound, and one of them or the start. -/
theorem fold_minsi {ι : Type} [DecidableEq ι] (s : Finset ι) (w : ι → BitVec 32) (b : BitVec 32)
    (hb : b.toNat < 2 ^ 31) (hw : ∀ i, (w i).toNat < 2 ^ 31) :
    (s.fold IntOp.minsi b w).toNat ≤ b.toNat ∧ (∀ i ∈ s, (s.fold IntOp.minsi b w).toNat ≤ (w i).toNat)
      ∧ (s.fold IntOp.minsi b w = b ∨ ∃ i ∈ s, s.fold IntOp.minsi b w = w i) := by
  induction s using Finset.induction_on with
  | empty => exact ⟨le_rfl, fun i hi => absurd hi (Finset.notMem_empty i), Or.inl rfl⟩
  | insert a s ha ih =>
    obtain ⟨hle, hall, hone⟩ := ih
    have hfold : (s.fold IntOp.minsi b w).toNat < 2 ^ 31 := lt_of_le_of_lt hle hb
    have hmin := WordArith.toNat_minsi_of_lt (w a) _ (hw a) hfold
    rw [Finset.fold_insert ha]
    refine ⟨?_, fun i hi => ?_, ?_⟩
    · rw [hmin]; exact le_trans (min_le_right _ _) hle
    · rw [hmin]
      rcases Finset.mem_insert.1 hi with rfl | hi
      · exact min_le_left _ _
      · exact le_trans (min_le_right _ _) (hall i hi)
    · rcases le_total (w a).toNat (s.fold IntOp.minsi b w).toNat with h | h
      · exact Or.inr ⟨a, Finset.mem_insert_self a s, BitVec.eq_of_toNat_eq (hmin.trans (min_eq_left h))⟩
      · have he : IntOp.minsi (w a) (s.fold IntOp.minsi b w) = s.fold IntOp.minsi b w :=
          BitVec.eq_of_toNat_eq (hmin.trans (min_eq_right h))
        rw [he]
        rcases hone with h1 | ⟨i, hi, h1⟩
        · exact Or.inl h1
        · exact Or.inr ⟨i, Finset.mem_insert_of_mem hi, h1⟩

/-- The smallest position word among the members equal to the largest: the position of a largest member, at most
    that of every other. -/
theorem smallest_of_largest {ι : Type} [Fintype ι] [Nonempty ι] [DecidableEq ι] (v : ι → EReal) (w : ι → BitVec 32)
    (other b : BitVec 32) (hb : b.toNat < 2 ^ 31) (ho : other.toNat ≤ b.toNat)
    (hw : ∀ i, (w i).toNat < other.toNat) :
    ∃ k, (∀ i, v i ≤ v k) ∧ (∀ i, v i = v k → (w k).toNat ≤ (w i).toNat)
      ∧ Finset.univ.fold IntOp.minsi b
          (fun i => Scalar.select (Ideal.cmp .oeq (v i) (Finset.univ.fold max ⊥ v)) (w i) other) = w k := by
  obtain ⟨k0, hk0⟩ := exists_fold_max v
  have hmax : ∀ i, v i ≤ v k0 := fun i => hk0 ▸ le_fold_max _ v i (Finset.mem_univ i)
  rw [hk0]
  have sel : ∀ i, Scalar.select (Ideal.cmp .oeq (v i) (v k0)) (w i) other = if v i = v k0 then w i else other := by
    intro i
    by_cases h : v i = v k0 <;> simp [Scalar.select, Ideal.cmp, h]
  simp only [sel]
  have small : ∀ i, (if v i = v k0 then w i else other).toNat < 2 ^ 31 := by
    intro i; split
    · exact lt_trans (hw i) (lt_of_le_of_lt ho hb)
    · exact lt_of_le_of_lt ho hb
  obtain ⟨-, hall, hone⟩ := fold_minsi Finset.univ (fun i => if v i = v k0 then w i else other) b hb small
  generalize Finset.univ.fold IntOp.minsi b (fun i => if v i = v k0 then w i else other) = r at hall hone
  have hk := hall k0 (Finset.mem_univ k0)
  rw [if_pos rfl] at hk
  have hlt := lt_of_le_of_lt hk (hw k0)
  rcases hone with h1 | ⟨i, -, h1⟩
  · exact absurd (h1 ▸ hlt) (not_lt.2 ho)
  · by_cases hi : v i = v k0
    · rw [if_pos hi] at h1
      refine ⟨i, fun j => hi ▸ hmax j, fun j hj => ?_, h1⟩
      have := hall j (Finset.mem_univ j)
      rw [if_pos (hj.trans hi), h1] at this
      exact this
    · rw [if_neg hi] at h1
      exact absurd (h1 ▸ hlt) (lt_irrefl _)

/-- Over the places `0 … n-1` in order: the fold gives the word of the first maximum. -/
theorem first_max_word {n : ℕ} [NeZero n] (v : Fin n → EReal) (other b : BitVec 32) (hb : b.toNat < 2 ^ 31)
    (ho : other.toNat ≤ b.toNat) (hn : n ≤ other.toNat) :
    ∃ k, IsFirstMax v k ∧ Finset.univ.fold IntOp.minsi b
      (fun i : Fin n => Scalar.select (Ideal.cmp .oeq (v i) (Finset.univ.fold max ⊥ v)) (BitVec.ofNat 32 i.val) other)
        = BitVec.ofNat 32 k.val := by
  have val : ∀ i : Fin n, (BitVec.ofNat 32 i.val).toNat = i.val := fun i => by
    rw [BitVec.toNat_ofNat, Nat.mod_eq_of_lt]; have := i.isLt; omega
  obtain ⟨k, hmax, hmin, hk⟩ := smallest_of_largest v (fun i : Fin n => BitVec.ofNat 32 i.val) other b hb ho
    (fun i => by rw [val]; exact lt_of_lt_of_le i.isLt hn)
  refine ⟨k, ⟨hmax, fun j hj => lt_of_le_of_ne (hmax j) fun he => ?_⟩, hk⟩
  have := hmin j he
  rw [val, val] at this
  exact absurd hj (not_lt.2 this)

/-- A running first maximum after some chunks: the best so far and its position word, first of equals. -/
def Running {n : ℕ} (f : Fin n → EReal) (w : Fin n → BitVec 32) (k : ℕ) (best : EReal) (pos : BitVec 32) : Prop :=
  (k = 0 ∧ best = ⊥) ∨ ∃ c : Fin n, c.val < k ∧ best = f c ∧ pos = w c ∧ (∀ c' : Fin n, c'.val < k → f c' ≤ f c)
    ∧ ∀ c' : Fin n, c' < c → f c' < f c

/-- Taking the next chunk only where it is strictly larger keeps the running first maximum. -/
theorem Running.next {n : ℕ} {f : Fin n → EReal} {w : Fin n → BitVec 32} {k : ℕ} {best : EReal} {pos : BitVec 32}
    (h : Running f w k best pos) (hk : k < n) (hf : ∀ c, ⊥ < f c) :
    Running f w (k + 1) (Scalar.select (Ideal.cmp .ogt (f ⟨k, hk⟩) best) (f ⟨k, hk⟩) best)
      (Scalar.select (Ideal.cmp .ogt (f ⟨k, hk⟩) best) (w ⟨k, hk⟩) pos) := by
  have sel : ∀ {α : Type} (a b : α), Scalar.select (Ideal.cmp .ogt (f ⟨k, hk⟩) best) a b
      = if best < f ⟨k, hk⟩ then a else b := by
    intro α a b
    by_cases h : best < f ⟨k, hk⟩ <;> simp [Scalar.select, Ideal.cmp, h]
  rw [sel, sel]
  right
  by_cases hb : best < f ⟨k, hk⟩
  · rw [if_pos hb, if_pos hb]
    refine ⟨⟨k, hk⟩, Nat.lt_succ_self k, rfl, rfl, fun c' hc' => ?_, fun c' hc' => ?_⟩
    · rcases Nat.lt_succ_iff_lt_or_eq.1 hc' with hlt | heq
      · rcases h with ⟨h0, -⟩ | ⟨c, -, hbest, -, hle, -⟩
        · omega
        · exact le_trans (hle c' hlt) (hbest ▸ hb.le)
      · exact le_of_eq (congrArg f (Fin.ext heq))
    · rcases h with ⟨h0, -⟩ | ⟨c, -, hbest, -, hle, -⟩
      · exact absurd hc' (by simp [Fin.lt_def, h0])
      · exact lt_of_le_of_lt (hle c' hc') (hbest ▸ hb)
  · rw [if_neg hb, if_neg hb]
    rcases h with ⟨-, h0⟩ | ⟨c, hc, hbest, hpos, hle, hlt⟩
    · exact absurd (h0 ▸ hf ⟨k, hk⟩) hb
    · refine ⟨c, Nat.lt_succ_of_lt hc, hbest, hpos, fun c' hc' => ?_, hlt⟩
      rcases Nat.lt_succ_iff_lt_or_eq.1 hc' with hlt' | heq
      · exact hle c' hlt'
      · rw [show c' = ⟨k, hk⟩ from Fin.ext heq, ← hbest]
        exact not_lt.1 hb

/-- The lanes' running maxima, joined by the smallest position of a largest: the first maximum of the whole family,
    laid out chunk by chunk. -/
theorem first_max_of_lanes {C L : ℕ} [NeZero L] (hCL : C * L ≤ 2 ^ 30) (f : Fin C → Fin L → EReal)
    (best : Fin L → EReal) (pos : Fin L → BitVec 32) (hC : 0 < C)
    (h : ∀ l, Running (fun c => f c l) (fun c => BitVec.ofNat 32 (c.val * L + l.val)) C (best l) (pos l)) :
    ∃ (c : Fin C) (l : Fin L),
      Finset.univ.fold IntOp.minsi 2147483647#32
          (fun i => Scalar.select (Ideal.cmp .oeq (best i) (Finset.univ.fold max ⊥ best)) (pos i) 1073741824#32)
        = BitVec.ofNat 32 (c.val * L + l.val)
      ∧ (∀ c' l', f c' l' ≤ f c l) ∧ ∀ c' l', c'.val * L + l'.val < c.val * L + l.val → f c' l' < f c l := by
  have h' : ∀ l, ∃ c : Fin C, best l = f c l ∧ pos l = BitVec.ofNat 32 (c.val * L + l.val) ∧ (∀ c', f c' l ≤ f c l)
      ∧ ∀ c', c' < c → f c' l < f c l := by
    intro l
    rcases h l with ⟨h0, -⟩ | ⟨c, -, hb, hp, hle, hlt⟩
    · omega
    · exact ⟨c, hb, hp, fun c' => hle c' c'.isLt, hlt⟩
  choose ch hbest hpos hle hlt using h'
  have bound : ∀ (c : Fin C) (l : Fin L), c.val * L + l.val < 2 ^ 30 := by
    intro c l
    have h1 : (c.val + 1) * L ≤ C * L := Nat.mul_le_mul_right L c.isLt
    have h2 := l.isLt
    rw [Nat.add_mul, Nat.one_mul] at h1
    omega
  have val : ∀ (c : Fin C) (l : Fin L), (BitVec.ofNat 32 (c.val * L + l.val)).toNat = c.val * L + l.val := by
    intro c l
    have := bound c l
    rw [BitVec.toNat_ofNat, Nat.mod_eq_of_lt]; omega
  obtain ⟨k, hmax, hmin, hk⟩ := smallest_of_largest best pos 1073741824#32 2147483647#32 (by decide) (by decide)
    (fun i => by rw [hpos, val]; exact bound _ _)
  refine ⟨ch k, k, hk.trans (hpos k), fun c' l' => ?_, fun c' l' hl => ?_⟩
  · rw [← hbest k]
    exact le_trans (hle l' c') (hbest l' ▸ hmax l')
  · have h1 : f c' l' ≤ f (ch l') l' := hle l' c'
    have h2 : f (ch l') l' ≤ f (ch k) k := by rw [← hbest, ← hbest]; exact hmax l'
    refine lt_of_le_of_ne (h1.trans h2) fun he => ?_
    have h3 : f (ch l') l' = f (ch k) k := le_antisymm h2 (he ▸ h1)
    have h4 := hmin l' (by rw [hbest, hbest]; exact h3)
    rw [hpos, hpos, val, val] at h4
    have h5 : c'.val < (ch l').val := by
      by_contra hc
      have := Nat.mul_le_mul_right L (not_lt.1 hc)
      omega
    exact absurd (he.trans h3.symm) (hlt l' c' h5).ne

end Cert.Proof
-- ==== Proof.Winners_KernelIdeal.lean ====
module

public import proofs.«01_k».proof.Proof.Draws_KernelIdeal
public import proofs.«01_k».proof.Proof.Argmax
public import Idealize.ShloMosaic.Lib.Pipeline.ValueKit.Tiles
public import Idealize.ShloMosaic.PureOps.Ideal.Laws

@[expose] public section

set_option maxRecDepth 16384

noncomputable section

namespace Cert.Proof.KernelIdeal

open Cert.KernelIdeal Cert.KernelIdeal.Gen
open Idealize.ShloMosaic Idealize.ShloMosaic.TcCoe Idealize.ShloMosaic.Tactic Idealize.ShloMosaic.ValueIdx

/-! The race's winners are the first maxima of its scores. -/

theorem trips_chunks : k0_t2_loop.trips = 128 := by decide
theorem trips_groups : k0_t1_loop.trips = 128 := by decide

/-- Row `r`, lane `l` of a vector of lanes. -/
abbrev inLanes (r : Fin 8) (l : Fin 2048) : S8x2048.Idx := fun a => match a with | ⟨0, _⟩ => r | ⟨1, _⟩ => l

/-- Chunk `c`, lane `l` of the mask's block. -/
abbrev inMask (c : Fin 128) (l : Fin 2048) : S1x128x2048.Idx := fun a => match a with | ⟨0, _⟩ => ⟨0, Nat.one_pos⟩ | ⟨1, _⟩ => c | ⟨2, _⟩ => l

/-- Chunk `c`, lane `l` of the scratch. -/
abbrev inScratch (c : Fin 128) (l : Fin 2048) : S128x2048.Idx := fun a => match a with | ⟨0, _⟩ => c | ⟨1, _⟩ => l

theorem shifted (x : BitVec 32) : x <<< 18 = x * 262144#32 := by
  apply BitVec.eq_of_toNat_eq
  rw [BitVec.toNat_shiftLeft, BitVec.toNat_mul, Nat.shiftLeft_eq]
  rfl

/-- The lanes' own part of the counter. -/
theorem lanes_word (r : Fin 8) (l : Fin 2048) :
    BitVec.ofNat 32 r.val <<< 18 ||| BitVec.ofNat 32 l.val = BitVec.ofNat 32 r.val * 262144#32 + BitVec.ofNat 32 l.val := by
  rw [← shifted]
  apply BitVec.eq_of_toNat_eq
  have hr := r.isLt
  have hl := l.isLt
  rw [BitVec.toNat_or, BitVec.toNat_add, BitVec.toNat_shiftLeft, BitVec.toNat_ofNat, BitVec.toNat_ofNat,
    Nat.mod_eq_of_lt (by omega : r.val < 2 ^ 32), Nat.mod_eq_of_lt (by omega : l.val < 2 ^ 32),
    Nat.mod_eq_of_lt (by rw [Nat.shiftLeft_eq]; omega : r.val <<< 18 < 2 ^ 32), ← Nat.shiftLeft_add_eq_or_of_lt (by omega),
    Nat.mod_eq_of_lt (by rw [Nat.shiftLeft_eq]; omega)]

/-- The batch's own part of the counter: only its low four bits count. -/
theorem batch_word (b : Fin 64) :
    ((BitVec.ofNat 32 b.val &&& 15#32) * 1024#32) <<< 18 = BitVec.ofNat 32 b.val * 268435456#32 := by
  rw [shifted]
  apply BitVec.eq_of_toNat_eq
  have hb := b.isLt
  have h15 : (BitVec.ofNat 32 b.val &&& 15#32).toNat = b.val % 16 := by
    rw [BitVec.toNat_and, BitVec.toNat_ofNat, Nat.mod_eq_of_lt (by omega : b.val < 2 ^ 32)]
    exact Nat.and_two_pow_sub_one_eq_mod b.val 4
  rw [BitVec.toNat_mul, BitVec.toNat_mul, BitVec.toNat_mul, h15, BitVec.toNat_ofNat]
  simp only [BitVec.toNat_ofNat]
  omega

/-- The counter's word on the group, the chunk, the row and the lane. -/
theorem counter_eq (b : Fin 64) (g k r l : ℕ) :
    (BitVec.ofNat 32 r * 262144#32 + BitVec.ofNat 32 l)
        + ((BitVec.ofNat 32 b.val * 268435456#32 + ((0#32 + BitVec.ofNat 32 g * 1#32) * 8#32) * 262144#32 + 1853169794#32)
          + (0#32 + BitVec.ofNat 32 k * 1#32) * 2048#32)
      = raceLo b.val (g * 8 + r) (k * 2048 + l) + 1853169794#32 := by
  unfold raceLo
  rw [BitVec.ofNat_add, BitVec.ofNat_add, BitVec.ofNat_mul, BitVec.ofNat_mul, BitVec.zero_add, BitVec.zero_add, BitVec.mul_one, BitVec.mul_one]
  generalize BitVec.ofNat 32 b.val = b'
  generalize BitVec.ofNat 32 g = g'
  generalize BitVec.ofNat 32 k = k'
  generalize BitVec.ofNat 32 r = r'
  generalize BitVec.ofNat 32 l = l'
  generalize 1853169794#32 = K
  generalize 262144#32 = S
  generalize 268435456#32 = B
  generalize BitVec.ofNat 32 8 = e
  generalize BitVec.ofNat 32 2048 = f
  ring

theorem pay2_at (r : Fin 8) (l : Fin 2048) :
    k0_pay2 (inLanes r l) = BitVec.ofNat 32 r.val <<< 18 ||| BitVec.ofNat 32 l.val := by
  show BitVec.ofNat 32 (0 * 8 + r.val) <<< 18 ||| BitVec.ofNat 32 (0 * 2048 + l.val) = _
  rw [Nat.zero_add, Nat.zero_add]

theorem pay9_at (x : IVec S8x2048 32) (v : BitVec 32) (k : Fin k0_t2_loop.trips) (j : S8x2048.Idx) :
    k0_pay9 x v 0#32 1#32 k j = x j + (v + (0#32 + BitVec.ofNat 32 k.val * 1#32) * 2048#32) := rfl

/-- The batch's high word, as the body makes it. -/
abbrev hiWord (i : grid0.Coords) : BitVec 32 := Scalar.addi (Scalar.shrui (BitVec.ofNat 32 (i 0).val) 4#32) 507451445#32

/-- The batch's low word, as the body makes it. -/
abbrev loWord (i : grid0.Coords) : BitVec 32 := Scalar.shli (Scalar.muli (Scalar.andi (BitVec.ofNat 32 (i 0).val) 15#32) 1024#32) 18#32

theorem groupWord_eq (i : grid0.Coords) (g : Fin k0_t1_loop.trips) :
    groupWord (loWord i) g = ((BitVec.ofNat 32 (i 0).val &&& 15#32) * 1024#32) <<< 18
      + ((0#32 + BitVec.ofNat 32 g.val * 1#32) * 8#32) <<< 18 + 1853169794#32 := rfl

/-- The counter of a chunk's lanes, at an index. -/
theorem counter_at (i : grid0.Coords) (g : Fin k0_t1_loop.trips) (k : Fin k0_t2_loop.trips) (r : Fin 8) (l : Fin 2048) :
    k0_pay9 k0_pay2 (groupWord (loWord i) g) 0#32 1#32 k (inLanes r l)
      = raceLo (i 0).val (g.val * 8 + r.val) (k.val * 2048 + l.val) + 1853169794#32 := by
  rw [pay9_at, pay2_at, lanes_word, groupWord_eq, batch_word (i 0), shifted, counter_eq (i 0)]

/-- The scratch at a chunk and lane: one over the clamped mass. -/
theorem raceInv_at (x0 : Vec Ideal S1x128x2048 .f32) (c : Fin 128) (l : Fin 2048) :
    raceInv (F := Ideal) x0 (inScratch c l)
      = Ideal.div 1 (max (x0 (inMask c l)) (Ideal.ofBits .f32 0x2B8CBCCC#32)) := by
  unfold raceInv k0_pay1
  rw [shapeCast_apply _ _ _ (inScratch c l) rfl, divf_apply, maximumf_apply,
    shapeCast_apply _ _ _ (inMask c l) (by rw [Shape.rowMajor_val_two, Shape.rowMajor_val_three]; simp)]
  rw [show (broadcast S128x2048 (Scalar.ofBits (F := Ideal) .f32 0x3F800000#32)) (inScratch c l) = Ideal.ofBits .f32 0x3F800000#32 from rfl,
    Ideal.ofBits_one_f32]
  rfl

/-- The score of chunk `c`, lane `l` in the race of group `g`, row `r`. -/
def score (b : ℕ) (x0 : Vec Ideal S1x128x2048 .f32) (n : ℕ) (c : Fin 128) (l : Fin 2048) : EReal :=
  raced (raceDraw b n (c.val * 2048 + l.val)) (max (x0 (inMask c l)) (Ideal.ofBits .f32 0x2B8CBCCC#32))

theorem score_pos (b : ℕ) (x0 : Vec Ideal S1x128x2048 .f32) (n : ℕ) (c : Fin 128) (l : Fin 2048) : ⊥ < score b x0 n c l := by
  obtain ⟨t, ht, he⟩ := clamp_eq
  refine raced_pos (draw_mem _) ?_
  rw [he]; exact clamped _ ht

/-- A chunk's scores, as the body computes them. -/
theorem chunk_scores (i : grid0.Coords) (x0 : Vec Ideal S1x128x2048 .f32) (g : Fin k0_t1_loop.trips) (k : Fin k0_t2_loop.trips) (r : Fin 8) (l : Fin 2048) :
    chunkScore (hiWord i) (groupWord (loWord i) g)
        (View.ld (raceInv x0) (Rect.unit (s := S128x2048) (k0_off1 k) S1x2048.size (k0_off1_inb k))) k (inLanes r l)
      = score (i 0).val x0 (g.val * 8 + r.val) (Fin.cast trips_chunks k) l := by
  rw [chunkScore_at, counter_at,
    View.ld_unit_apply_of (raceInv x0) (k0_off1 k) S1x2048.size (k0_off1_inb k) (inRow l) (inScratch (Fin.cast trips_chunks k) l)
      (fun a => by
        have h := congrFun (k0_off1_eq k) a
        match a, h with
        | ⟨0, _⟩, h => exact (congrArg (· + 0) h).symm
        | ⟨1, _⟩, h => exact ((congrArg (· + l.val) h).trans (Nat.zero_add _)).symm), raceInv_at]
  rfl

theorem pay6_at (a s : FVec Ideal S8x2048 .f32) (j : S8x2048.Idx) :
    k0_pay6 (F := Ideal) a s j = Scalar.select (Ideal.cmp .ogt (s j) (a j)) (s j) (a j) := rfl

theorem pay7_at (a s : FVec Ideal S8x2048 .f32) (p : IVec S8x2048 32) (k : ℕ) (r : Fin 8) (l : Fin 2048) (hk : k < 128) :
    k0_pay7 (F := Ideal) a p (Scf.iv 0#32 1#32 k) s (inLanes r l)
      = Scalar.select (Ideal.cmp .ogt (s (inLanes r l)) (a (inLanes r l))) (BitVec.ofNat 32 (k * 2048 + l.val)) (p (inLanes r l)) := by
  have e : BitVec.ofNat 32 (0 * 2048 + l.val) + (0#32 + BitVec.ofNat 32 k * 1#32) * 2048#32 = BitVec.ofNat 32 (k * 2048 + l.val) := by
    have := l.isLt
    apply BitVec.eq_of_toNat_eq
    simp only [BitVec.toNat_add, BitVec.toNat_mul, BitVec.toNat_ofNat]
    omega
  rw [← e]
  rfl

/-- The running best of a lane is the running first maximum of its scores. -/
theorem running (i : grid0.Coords) (x0 : Vec Ideal S1x128x2048 .f32) (g : Fin k0_t1_loop.trips) (r : Fin 8) (l : Fin 2048) (k : ℕ)
    (hk : k ≤ 128) :
    Running (fun c => score (i 0).val x0 (g.val * 8 + r.val) c l) (fun c => BitVec.ofNat 32 (c.val * 2048 + l.val)) k
      ((raceAcc (hiWord i) (groupWord (loWord i) g) (raceInv x0) k).1 (inLanes r l))
      ((raceAcc (hiWord i) (groupWord (loWord i) g) (raceInv x0) k).2 (inLanes r l)) := by
  induction k with
  | zero => exact .inl ⟨rfl, minus_inf⟩
  | succ k ih =>
    have hk' : k < 128 := hk
    have h := (ih hk'.le).next hk' (fun c => score_pos _ _ _ _ _)
    have hs := chunk_scores i x0 g ⟨k, trips_chunks ▸ hk'⟩ r l
    rw [raceAcc, dif_pos (show k < k0_t2_loop.trips from trips_chunks ▸ hk'), chunkStep_eq]
    dsimp only
    rw [pay6_at, pay7_at _ _ _ _ _ _ hk', hs]
    exact h

/-- The place of row `r` among a group's winners. -/
abbrev inWinners (r : Fin 8) : S1x1x8.Idx := fun a => match a with | ⟨0, _⟩ => ⟨0, Nat.one_pos⟩ | ⟨1, _⟩ => ⟨0, Nat.one_pos⟩ | ⟨2, _⟩ => r

/-- Row `r` of a vector of rows. -/
abbrev inRows (r : Fin 8) : S8.Idx := fun a => match a with | ⟨0, _⟩ => r

abbrev inCol (r : Fin 8) : S8x1.Idx := fun a => match a with | ⟨0, _⟩ => r | ⟨1, _⟩ => ⟨0, Nat.one_pos⟩

theorem lift_row (h : S8x2048.Reduces [1] S8) (r : Fin 8) (l : Fin 2048) : h.lift (inRows r) l = inLanes r l := by
  funext a
  apply Fin.ext
  show h.liftVal (inRows r) l.val a = _
  match a with
  | ⟨0, _⟩ => rfl
  | ⟨1, _⟩ => rfl

/-- A winner: the smallest position among the lanes whose best is largest. -/
theorem pay8_at (v : FVec Ideal S8x2048 .f32) (p : IVec S8x2048 32) (r : Fin 8) :
    k0_pay8 (F := Ideal) v p (inWinners r)
      = Finset.univ.fold IntOp.minsi 2147483647#32 (fun l : Fin 2048 => Scalar.select
          (Ideal.cmp .oeq (v (inLanes r l)) (Finset.univ.fold max ⊥ fun l' : Fin 2048 => v (inLanes r l'))) (p (inLanes r l)) 1073741824#32) := by
  unfold k0_pay8
  rw [shapeCast_apply _ _ _ (inRows r) (by rw [Shape.rowMajor_val_one, Shape.rowMajor_val_three]; simp)]
  refine (multiReductionI_eq_fold _ _ _ _ _ _).trans ((Shape.Reduces.fold_filter_drop_single _ _ _ _ _).trans ?_)
  have hmax : ∀ l : Fin 2048, broadcastTo S8x2048 (shapeCast S8x1 (multiReduction (F := Ideal) .maximumf [1] S8 v 0xFF800000#32 reduces_S8x2048_S8 (.inl rfl) rfl) shapeCasts_S8_S8x1) broadcasts_S8x1_S8x2048 (inLanes r l)
      = Finset.univ.fold max ⊥ fun l' : Fin 2048 => v (inLanes r l') := by
    intro l
    rw [broadcastTo_apply _ _ _ (inCol r) (by intro a; match a with | ⟨0, _⟩ => rfl | ⟨1, _⟩ => rfl),
      shapeCast_apply _ _ _ (inRows r) (by rw [Shape.rowMajor_val_one, Shape.rowMajor_val_two]; simp)]
    refine (Ideal.multiReduction_maximumf_single _ _ _ _ _ _).trans ?_
    rw [show (FloatOps.ofBits FTy.f32 0xFF800000#32 : Ideal .f32) = ⊥ from minus_inf]
    exact congrArg (fun f => Finset.univ.fold max ⊥ f) (funext fun l' => congrArg v (lift_row _ r l'))
  refine congrArg (fun f => Finset.univ.fold IntOp.minsi 2147483647#32 f) (funext fun l => ?_)
  rw [Function.comp_apply]
  refine (congrArg _ (lift_row _ r l)).trans ?_
  exact congrArg (fun m => Scalar.select (Ideal.cmp .oeq (v (inLanes r l)) m) (p (inLanes r l)) 1073741824#32) (hmax l)

/-- The winner of ray `g·8 + r` is the first pixel of largest score. -/
theorem winner (i : grid0.Coords) (x0 : Vec Ideal S1x128x2048 .f32) (y : S1x128x8.Idx) :
    ∃ (c : Fin 128) (l : Fin 2048), out0 (F := Ideal) i x0 y = BitVec.ofNat 32 (c.val * 2048 + l.val)
      ∧ (∀ c' l', score (i 0).val x0 ((y 1).val * 8 + (y 2).val) c' l' ≤ score (i 0).val x0 ((y 1).val * 8 + (y 2).val) c l)
      ∧ ∀ c' l', c'.val * 2048 + l'.val < c.val * 2048 + l.val →
          score (i 0).val x0 ((y 1).val * 8 + (y 2).val) c' l' < score (i 0).val x0 ((y 1).val * 8 + (y 2).val) c l := by
  obtain ⟨c, l, h, h'⟩ := first_max_of_lanes (C := 128) (L := 2048) (by norm_num)
    (fun c l => score (i 0).val x0 ((y 1).val * 8 + (y 2).val) c l) _ _ (by norm_num)
    (fun l => running i x0 ⟨(y 1).val, (y 1).isLt⟩ (y 2) l 128 le_rfl)
  refine ⟨c, l, Eq.trans ?_ h, h'⟩
  unfold out0 raceOut groupRow
  rw [show ∀ a b c, raceAcc (F := Ideal) a b c k0_t2_loop.trips = raceAcc a b c 128 from fun a b c => congrArg _ trips_chunks]
  exact pay8_at _ _ (y 2)

end Cert.Proof.KernelIdeal

end
-- ==== Proof.RefWords.lean ====
module

public import proofs.«01_k».proof.Proof.Gen.ReferenceIdeal.Read
public import proofs.«01_k».proof.Proof.Words

@[expose] public section

set_option maxRecDepth 16384
noncomputable section

namespace Cert.Proof.Reference

open Cert.ReferenceIdeal Cert.ReferenceIdeal.Gen Cert.ReferenceIdeal.Read
open Idealize.ShloMosaic Idealize.ShloMosaic.TcCoe

variable {F : FTy → Type} [FloatOps F]

/-! # The reference's hashes, word by word -/

/-- The third word of the first key. -/
theorem third_v3 (j : S_.Idx) : val_main_v3 (F := F) j = 466688987#32 := by
  rw [val_main_v3_apply, val_main_v2_apply, val_main_c_0_apply, val_main_c_1_apply, val_main_c_2_apply]
  exact (by decide : (0#32 ^^^ 1#32) ^^^ 466688986#32 = 466688987#32)

/-- The rounds of `v8`: rounds by the first rotations. -/
theorem four_v8 (i : S2.Idx) : (val_main_v8_0 (F := F) i, val_main_v8_1 (F := F) i)
    = fourA (val_main_v5 (F := F) i, val_main_v7 (F := F) i) := by
  simp only [fourA, rnd_comm]; rfl

/-- The rounds of `v14`: rounds by the second rotations. -/
theorem four_v14 (i : S2.Idx) : (val_main_v14_0 (F := F) i, val_main_v14_1 (F := F) i)
    = fourB (val_main_v10 (F := F) i, val_main_v13 (F := F) i) := by
  simp only [fourB, rnd_comm]; rfl

/-- The rounds of `v20`: rounds by the first rotations. -/
theorem four_v20 (i : S2.Idx) : (val_main_v20_0 (F := F) i, val_main_v20_1 (F := F) i)
    = fourA (val_main_v16 (F := F) i, val_main_v19 (F := F) i) := by
  simp only [fourA, rnd_comm]; rfl

/-- The rounds of `v26`: rounds by the second rotations. -/
theorem four_v26 (i : S2.Idx) : (val_main_v26_0 (F := F) i, val_main_v26_1 (F := F) i)
    = fourB (val_main_v22 (F := F) i, val_main_v25 (F := F) i) := by
  simp only [fourB, rnd_comm]; rfl

/-- The rounds of `v32`: rounds by the first rotations. -/
theorem four_v32 (i : S2.Idx) : (val_main_v32_0 (F := F) i, val_main_v32_1 (F := F) i)
    = fourA (val_main_v28 (F := F) i, val_main_v31 (F := F) i) := by
  simp only [fourA, rnd_comm]; rfl

/-- The key added after `v8`. -/
theorem inject_v8 (i : S2.Idx) : (val_main_v10 (F := F) i, val_main_v13 (F := F) i)
    = inject 1#32 466688988#32 (val_main_v8_0 (F := F) i, val_main_v8_1 (F := F) i) := by
  simp only [val_main_v10_apply, val_main_v9_apply, val_main_v13_apply, val_main_v12_apply, val_main_v11_apply,
    third_v3, val_main_c_5_apply, val_main_c_6_apply, IntOp.addi, IntOp.xori, inject,
    BitVec.reduceXOr, BitVec.reduceAdd]

/-- The key added after `v14`. -/
theorem inject_v14 (i : S2.Idx) : (val_main_v16 (F := F) i, val_main_v19 (F := F) i)
    = inject 466688987#32 2#32 (val_main_v14_0 (F := F) i, val_main_v14_1 (F := F) i) := by
  simp only [val_main_v16_apply, val_main_v15_apply, val_main_v19_apply, val_main_v18_apply, val_main_v17_apply,
    third_v3, val_main_c_7_apply, val_main_c_8_apply, IntOp.addi, IntOp.xori, inject,
    BitVec.reduceXOr, BitVec.reduceAdd]

/-- The key added after `v20`. -/
theorem inject_v20 (i : S2.Idx) : (val_main_v22 (F := F) i, val_main_v25 (F := F) i)
    = inject 0#32 4#32 (val_main_v20_0 (F := F) i, val_main_v20_1 (F := F) i) := by
  simp only [val_main_v22_apply, val_main_v21_apply, val_main_v25_apply, val_main_v24_apply, val_main_v23_apply,
    third_v3, val_main_c_9_apply, val_main_c_10_apply, val_main_c_11_apply, IntOp.addi, IntOp.xori, inject,
    BitVec.reduceXOr, BitVec.reduceAdd]

/-- The key added after `v26`. -/
theorem inject_v26 (i : S2.Idx) : (val_main_v28 (F := F) i, val_main_v31 (F := F) i)
    = inject 1#32 466688991#32 (val_main_v26_0 (F := F) i, val_main_v26_1 (F := F) i) := by
  simp only [val_main_v28_apply, val_main_v27_apply, val_main_v31_apply, val_main_v30_apply, val_main_v29_apply,
    third_v3, val_main_c_12_apply, val_main_c_13_apply, IntOp.addi, IntOp.xori, inject,
    BitVec.reduceXOr, BitVec.reduceAdd]

/-- The key added after `v32`. -/
theorem inject_v32 (i : S2.Idx) : (val_main_v34 (F := F) i, val_main_v37 (F := F) i)
    = inject 466688987#32 5#32 (val_main_v32_0 (F := F) i, val_main_v32_1 (F := F) i) := by
  simp only [val_main_v34_apply, val_main_v33_apply, val_main_v37_apply, val_main_v36_apply, val_main_v35_apply,
    third_v3, val_main_c_14_apply, val_main_c_15_apply, IntOp.addi, IntOp.xori, inject,
    BitVec.reduceXOr, BitVec.reduceAdd]

/-- The hash of the counters 0 and 1 by the key 0, 1. -/
theorem split_eq (i : S2.Idx) : (val_main_v34 (F := F) i, val_main_v37 (F := F) i)
    = rounds 0#32 1#32 (0#32, BitVec.ofNat 32 (i 0).val + 1#32) := by
  rw [inject_v32, four_v32, inject_v26, four_v26, inject_v20, four_v20, inject_v14, four_v14, inject_v8, four_v8,
    show (val_main_v5 (F := F) i, val_main_v7 (F := F) i) = (0#32, BitVec.ofNat 32 (i 0).val + 1#32) from rfl]
  simp only [rounds, BitVec.reduceXOr, BitVec.reduceAdd]

/-- The two halves of the split, in numbers. -/
theorem split_0 : rounds 0#32 1#32 (0#32, BitVec.ofNat 32 0 + 1#32) = (507451445#32, 1853169794#32) := by decide +kernel
theorem split_1 : rounds 0#32 1#32 (0#32, BitVec.ofNat 32 1 + 1#32) = (1948878966#32, 4237131848#32) := by decide +kernel

/-- An array of one element, as a scalar, is that element. -/
theorem scalar_of_one {α : Type} (x : S1.Idx → α) (hc : S1.ShapeCasts S_) (j : S_.Idx) (k : S1.Idx) :
    shapeCast S_ x hc j = x k :=
  shapeCast_apply x hc j k (by
    have h1 := (S1.rowMajor k).isLt; have h2 := (S_.rowMajor j).isLt
    change _ < 1 at h1; change _ < 1 at h2; omega)

/-- The first index of a pair. -/
def first : S2.Idx := fun a => match a with | ⟨0, _⟩ => (0 : Fin 2)
/-- The second. -/
def second : S2.Idx := fun a => match a with | ⟨0, _⟩ => (1 : Fin 2)

theorem key_v39 (j : S_.Idx) : val_main_v39 (F := F) j = 507451445#32 := by
  have h := scalar_of_one (val_main_v38 (F := F)) shapeCasts_S1_S_ j (fun a => match a with | ⟨0, _⟩ => (0 : Fin 1))
  refine h.trans ((val_main_v38_apply _).trans ?_)
  have e : idx_main_v38 (fun a => match a with | ⟨0, _⟩ => (0 : Fin 1)) = first := by
    funext a; match a with | ⟨0, _⟩ => rfl
  rw [e]
  exact congrArg Prod.fst ((split_eq (F := F) first).trans split_0)

theorem key_v41 (j : S_.Idx) : val_main_v41 (F := F) j = 1853169794#32 := by
  have h := scalar_of_one (val_main_v40 (F := F)) shapeCasts_S1_S_ j (fun a => match a with | ⟨0, _⟩ => (0 : Fin 1))
  refine h.trans ((val_main_v40_apply _).trans ?_)
  have e : idx_main_v40 (fun a => match a with | ⟨0, _⟩ => (0 : Fin 1)) = first := by
    funext a; match a with | ⟨0, _⟩ => rfl
  rw [e]
  exact congrArg Prod.snd ((split_eq (F := F) first).trans split_0)

theorem key_v43 (j : S_.Idx) : val_main_v43 (F := F) j = 1948878966#32 := by
  have h := scalar_of_one (val_main_v42 (F := F)) shapeCasts_S1_S_ j (fun a => match a with | ⟨0, _⟩ => (0 : Fin 1))
  refine h.trans ((val_main_v42_apply _).trans ?_)
  have e : idx_main_v42 (fun a => match a with | ⟨0, _⟩ => (0 : Fin 1)) = second := by
    funext a; match a with | ⟨0, _⟩ => rfl
  rw [e]
  exact congrArg Prod.fst ((split_eq (F := F) second).trans split_1)

theorem key_v45 (j : S_.Idx) : val_main_v45 (F := F) j = 4237131848#32 := by
  have h := scalar_of_one (val_main_v44 (F := F)) shapeCasts_S1_S_ j (fun a => match a with | ⟨0, _⟩ => (0 : Fin 1))
  refine h.trans ((val_main_v44_apply _).trans ?_)
  have e : idx_main_v44 (fun a => match a with | ⟨0, _⟩ => (0 : Fin 1)) = second := by
    funext a; match a with | ⟨0, _⟩ => rfl
  rw [e]
  exact congrArg Prod.snd ((split_eq (F := F) second).trans split_1)

/-- The rounds of `v68`: rounds by the first rotations. -/
theorem four_v68 (i : S64x1024x262144.Idx) : (val_main_v68_0 (F := F) i, val_main_v68_1 (F := F) i)
    = fourA (val_main_v65 (F := F) i, val_main_v67 (F := F) i) := by
  simp only [fourA, rnd_comm]; rfl

/-- The rounds of `v74`: rounds by the second rotations. -/
theorem four_v74 (i : S64x1024x262144.Idx) : (val_main_v74_0 (F := F) i, val_main_v74_1 (F := F) i)
    = fourB (val_main_v70 (F := F) i, val_main_v73 (F := F) i) := by
  simp only [fourB, rnd_comm]; rfl

/-- The rounds of `v80`: rounds by the first rotations. -/
theorem four_v80 (i : S64x1024x262144.Idx) : (val_main_v80_0 (F := F) i, val_main_v80_1 (F := F) i)
    = fourA (val_main_v76 (F := F) i, val_main_v79 (F := F) i) := by
  simp only [fourA, rnd_comm]; rfl

/-- The rounds of `v86`: rounds by the second rotations. -/
theorem four_v86 (i : S64x1024x262144.Idx) : (val_main_v86_0 (F := F) i, val_main_v86_1 (F := F) i)
    = fourB (val_main_v82 (F := F) i, val_main_v85 (F := F) i) := by
  simp only [fourB, rnd_comm]; rfl

/-- The rounds of `v92`: rounds by the first rotations. -/
theorem four_v92 (i : S64x1024x262144.Idx) : (val_main_v92_0 (F := F) i, val_main_v92_1 (F := F) i)
    = fourA (val_main_v88 (F := F) i, val_main_v91 (F := F) i) := by
  simp only [fourA, rnd_comm]; rfl

/-- The key added after `v68`. -/
theorem inject_v68 (i : S64x1024x262144.Idx) : (val_main_v70 (F := F) i, val_main_v73 (F := F) i)
    = inject 1853169794#32 1805329262#32 (val_main_v68_0 (F := F) i, val_main_v68_1 (F := F) i) := by
  simp only [val_main_v70_apply, val_main_v69_apply, val_main_v73_apply, val_main_v72_apply, val_main_v71_apply,
    val_main_v63_apply, key_v39, key_v41, val_main_v62_apply,
    val_main_c_20_apply, val_main_c_19_apply, IntOp.addi, IntOp.xori, inject, BitVec.reduceXOr, BitVec.reduceAdd]

/-- The key added after `v74`. -/
theorem inject_v74 (i : S64x1024x262144.Idx) : (val_main_v76 (F := F) i, val_main_v79 (F := F) i)
    = inject 1805329261#32 507451447#32 (val_main_v74_0 (F := F) i, val_main_v74_1 (F := F) i) := by
  simp only [val_main_v76_apply, val_main_v75_apply, val_main_v79_apply, val_main_v78_apply, val_main_v77_apply,
    val_main_v63_apply, key_v39, key_v41, val_main_v62_apply,
    val_main_c_21_apply, val_main_c_19_apply, IntOp.addi, IntOp.xori, inject, BitVec.reduceXOr, BitVec.reduceAdd]

/-- The key added after `v80`. -/
theorem inject_v80 (i : S64x1024x262144.Idx) : (val_main_v82 (F := F) i, val_main_v85 (F := F) i)
    = inject 507451445#32 1853169797#32 (val_main_v80_0 (F := F) i, val_main_v80_1 (F := F) i) := by
  simp only [val_main_v82_apply, val_main_v81_apply, val_main_v85_apply, val_main_v84_apply, val_main_v83_apply,
    val_main_v63_apply, key_v39, key_v41, val_main_v62_apply,
    val_main_c_22_apply, val_main_c_19_apply, IntOp.addi, IntOp.xori, inject, BitVec.reduceXOr, BitVec.reduceAdd]

/-- The key added after `v86`. -/
theorem inject_v86 (i : S64x1024x262144.Idx) : (val_main_v88 (F := F) i, val_main_v91 (F := F) i)
    = inject 1853169794#32 1805329265#32 (val_main_v86_0 (F := F) i, val_main_v86_1 (F := F) i) := by
  simp only [val_main_v88_apply, val_main_v87_apply, val_main_v91_apply, val_main_v90_apply, val_main_v89_apply,
    val_main_v63_apply, key_v39, key_v41, val_main_v62_apply,
    val_main_c_23_apply, val_main_c_19_apply, IntOp.addi, IntOp.xori, inject, BitVec.reduceXOr, BitVec.reduceAdd]

/-- The key added after `v92`. -/
theorem inject_v92 (i : S64x1024x262144.Idx) : (val_main_v94 (F := F) i, val_main_v97 (F := F) i)
    = inject 1805329261#32 507451450#32 (val_main_v92_0 (F := F) i, val_main_v92_1 (F := F) i) := by
  simp only [val_main_v94_apply, val_main_v93_apply, val_main_v97_apply, val_main_v96_apply, val_main_v95_apply,
    val_main_v63_apply, key_v39, key_v41, val_main_v62_apply,
    val_main_c_24_apply, val_main_c_19_apply, IntOp.addi, IntOp.xori, inject, BitVec.reduceXOr, BitVec.reduceAdd]

/-- The words hashed for a draw of an index. -/
theorem hash_idx (i : S64x1024x262144.Idx) : (val_main_v94 (F := F) i, val_main_v97 (F := F) i)
    = rounds 507451445#32 1853169794#32 (val_main_v55 (F := F) i + 507451445#32, val_main_v61 (F := F) i + 1853169794#32) := by
  rw [inject_v92, four_v92, inject_v86, four_v86, inject_v80, four_v80, inject_v74, four_v74,
    inject_v68, four_v68]
  simp only [val_main_v65_apply, val_main_v67_apply, val_main_v64_apply, val_main_v66_apply, key_v39, key_v41, IntOp.addi,
    rounds, BitVec.reduceXOr, BitVec.reduceAdd]

/-- The rounds of `v284`: rounds by the first rotations. -/
theorem four_v284 (i : S64x1024x64.Idx) : (val_main_v284_0 (F := F) i, val_main_v284_1 (F := F) i)
    = fourA (val_main_v281 (F := F) i, val_main_v283 (F := F) i) := by
  simp only [fourA, rnd_comm]; rfl

/-- The rounds of `v290`: rounds by the second rotations. -/
theorem four_v290 (i : S64x1024x64.Idx) : (val_main_v290_0 (F := F) i, val_main_v290_1 (F := F) i)
    = fourB (val_main_v286 (F := F) i, val_main_v289 (F := F) i) := by
  simp only [fourB, rnd_comm]; rfl

/-- The rounds of `v296`: rounds by the first rotations. -/
theorem four_v296 (i : S64x1024x64.Idx) : (val_main_v296_0 (F := F) i, val_main_v296_1 (F := F) i)
    = fourA (val_main_v292 (F := F) i, val_main_v295 (F := F) i) := by
  simp only [fourA, rnd_comm]; rfl

/-- The rounds of `v302`: rounds by the second rotations. -/
theorem four_v302 (i : S64x1024x64.Idx) : (val_main_v302_0 (F := F) i, val_main_v302_1 (F := F) i)
    = fourB (val_main_v298 (F := F) i, val_main_v301 (F := F) i) := by
  simp only [fourB, rnd_comm]; rfl

/-- The rounds of `v308`: rounds by the first rotations. -/
theorem four_v308 (i : S64x1024x64.Idx) : (val_main_v308_0 (F := F) i, val_main_v308_1 (F := F) i)
    = fourA (val_main_v304 (F := F) i, val_main_v307 (F := F) i) := by
  simp only [fourA, rnd_comm]; rfl

/-- The key added after `v284`. -/
theorem inject_v284 (i : S64x1024x64.Idx) : (val_main_v286 (F := F) i, val_main_v289 (F := F) i)
    = inject 4237131848#32 2473923557#32 (val_main_v284_0 (F := F) i, val_main_v284_1 (F := F) i) := by
  simp only [val_main_v286_apply, val_main_v285_apply, val_main_v289_apply, val_main_v288_apply, val_main_v287_apply,
    val_main_v279_apply, key_v43, key_v45, val_main_v278_apply,
    val_main_c_68_apply, val_main_c_67_apply, IntOp.addi, IntOp.xori, inject, BitVec.reduceXOr, BitVec.reduceAdd]

/-- The key added after `v290`. -/
theorem inject_v290 (i : S64x1024x64.Idx) : (val_main_v292 (F := F) i, val_main_v295 (F := F) i)
    = inject 2473923556#32 1948878968#32 (val_main_v290_0 (F := F) i, val_main_v290_1 (F := F) i) := by
  simp only [val_main_v292_apply, val_main_v291_apply, val_main_v295_apply, val_main_v294_apply, val_main_v293_apply,
    val_main_v279_apply, key_v43, key_v45, val_main_v278_apply,
    val_main_c_69_apply, val_main_c_67_apply, IntOp.addi, IntOp.xori, inject, BitVec.reduceXOr, BitVec.reduceAdd]

/-- The key added after `v296`. -/
theorem inject_v296 (i : S64x1024x64.Idx) : (val_main_v298 (F := F) i, val_main_v301 (F := F) i)
    = inject 1948878966#32 4237131851#32 (val_main_v296_0 (F := F) i, val_main_v296_1 (F := F) i) := by
  simp only [val_main_v298_apply, val_main_v297_apply, val_main_v301_apply, val_main_v300_apply, val_main_v299_apply,
    val_main_v279_apply, key_v43, key_v45, val_main_v278_apply,
    val_main_c_70_apply, val_main_c_67_apply, IntOp.addi, IntOp.xori, inject, BitVec.reduceXOr, BitVec.reduceAdd]

/-- The key added after `v302`. -/
theorem inject_v302 (i : S64x1024x64.Idx) : (val_main_v304 (F := F) i, val_main_v307 (F := F) i)
    = inject 4237131848#32 2473923560#32 (val_main_v302_0 (F := F) i, val_main_v302_1 (F := F) i) := by
  simp only [val_main_v304_apply, val_main_v303_apply, val_main_v307_apply, val_main_v306_apply, val_main_v305_apply,
    val_main_v279_apply, key_v43, key_v45, val_main_v278_apply,
    val_main_c_71_apply, val_main_c_67_apply, IntOp.addi, IntOp.xori, inject, BitVec.reduceXOr, BitVec.reduceAdd]

/-- The key added after `v308`. -/
theorem inject_v308 (i : S64x1024x64.Idx) : (val_main_v310 (F := F) i, val_main_v313 (F := F) i)
    = inject 2473923556#32 1948878971#32 (val_main_v308_0 (F := F) i, val_main_v308_1 (F := F) i) := by
  simp only [val_main_v310_apply, val_main_v309_apply, val_main_v313_apply, val_main_v312_apply, val_main_v311_apply,
    val_main_v279_apply, key_v43, key_v45, val_main_v278_apply,
    val_main_c_72_apply, val_main_c_67_apply, IntOp.addi, IntOp.xori, inject, BitVec.reduceXOr, BitVec.reduceAdd]

/-- The words hashed for a depth's jitter. -/
theorem hash_strat (i : S64x1024x64.Idx) : (val_main_v310 (F := F) i, val_main_v313 (F := F) i)
    = rounds 1948878966#32 4237131848#32 (val_main_v271 (F := F) i + 1948878966#32, val_main_v277 (F := F) i + 4237131848#32) := by
  rw [inject_v308, four_v308, inject_v302, four_v302, inject_v296, four_v296, inject_v290, four_v290,
    inject_v284, four_v284]
  simp only [val_main_v281_apply, val_main_v283_apply, val_main_v280_apply, val_main_v282_apply, key_v43, key_v45, IntOp.addi,
    rounds, BitVec.reduceXOr, BitVec.reduceAdd]

end Cert.Proof.Reference

end
-- ==== Proof.RefWinners.lean ====
module

public import proofs.«01_k».proof.Proof.RefWords
public import proofs.«01_k».proof.Proof.Argmax
public import Idealize.ShloMosaic.Lib.Pipeline.Value
public import Idealize.ShloMosaic.Lib.ValueIdx

@[expose] public section

set_option maxRecDepth 16384
noncomputable section

namespace Cert.Proof.Reference

open Cert.ReferenceIdeal Cert.ReferenceIdeal.Gen Cert.ReferenceIdeal.Read
open Idealize.ShloMosaic Idealize.ShloMosaic.TcCoe Idealize.ShloMosaic.ValueIdx

/-! # The reference's sampled pixels are the first maxima of its perturbed logits -/

/-- Batch `b`, ray `n`, pixel `p`. -/
abbrev inRace (b : Fin 64) (n : Fin 1024) (p : Fin 262144) : S64x1024x262144.Idx := fun a => match a with
  | ⟨0, _⟩ => b | ⟨1, _⟩ => n | ⟨2, _⟩ => p

/-- Batch `b`, ray `n`. -/
abbrev inRays (b : Fin 64) (n : Fin 1024) : S64x1024.Idx := fun a => match a with | ⟨0, _⟩ => b | ⟨1, _⟩ => n

/-- Batch `b`, pixel `p`, as the mask holds it. -/
abbrev inPixels (b : Fin 64) (p : Fin 262144) : S64x1x512x512.Idx := fun a => match a with
  | ⟨0, _⟩ => b | ⟨1, _⟩ => ⟨0, Nat.one_pos⟩
  | ⟨2, _⟩ => ⟨p.val / 512, by have := p.isLt; show p.val / 512 < 512; omega⟩
  | ⟨3, _⟩ => ⟨p.val % 512, by show p.val % 512 < 512; omega⟩

/-- The mask's mass at a pixel, clamped. -/
def mass (x0 : (⟨S64x1x512x512, .f32⟩ : BufTy).Contents (Elt Ideal)) (b : Fin 64) (p : Fin 262144) : EReal :=
  max (x0 (inPixels b p)) (Ideal.ofBits .f32 0x2B8CBCCC#32)

theorem mass_at (x0 : (⟨S64x1x512x512, .f32⟩ : BufTy).Contents (Elt Ideal)) (b : Fin 64) (n : Fin 1024) (p : Fin 262144) :
    val_main_v113 (F := Ideal) x0 (inRace b n p) = Ideal.log (mass x0 b p) := by
  rw [val_main_v113_apply, val_main_v112_apply, val_main_v50_apply, val_main_v49_apply, val_main_v48_apply, val_main_v47_apply, val_main_v46_apply]
  refine congrArg (fun i => Ideal.log (max (x0 i) (Ideal.ofBits .f32 0x2B8CBCCC#32))) (funext fun a => Fin.ext ?_)
  have hb := b.isLt
  have hp := p.isLt
  match a with
  | ⟨0, _⟩ => show (((b.val * 262144 + p.val) / 262144 * 512 + (b.val * 262144 + p.val) / 512 % 512) * 512 + (b.val * 262144 + p.val) % 512) / 262144 = b.val; omega
  | ⟨1, _⟩ => rfl
  | ⟨2, _⟩ => show (((b.val * 262144 + p.val) / 262144 * 512 + (b.val * 262144 + p.val) / 512 % 512) * 512 + (b.val * 262144 + p.val) % 512) / 512 % 512 = p.val / 512; omega
  | ⟨3, _⟩ => show (((b.val * 262144 + p.val) / 262144 * 512 + (b.val * 262144 + p.val) / 512 % 512) * 512 + (b.val * 262144 + p.val) % 512) % 512 = p.val % 512; omega

theorem hi_at (b : Fin 64) (n : Fin 1024) (p : Fin 262144) :
    val_main_v55 (F := Ideal) (inRace b n p) = BitVec.ofNat 32 b.val >>> 4 := by
  rw [val_main_v55_apply, val_main_v54_apply, val_main_v51_apply]; rfl

theorem lo_at (b : Fin 64) (n : Fin 1024) (p : Fin 262144) :
    val_main_v61 (F := Ideal) (inRace b n p) = raceLo b.val n.val p.val := by
  rw [val_main_v61_apply, val_main_v60_apply, val_main_v57_apply, val_main_v59_apply, val_main_v56_apply, val_main_v58_apply,
    val_main_v51_apply, val_main_v52_apply, val_main_v53_apply]; rfl

theorem word_at (b : Fin 64) (n : Fin 1024) (p : Fin 262144) :
    val_main_v98 (F := Ideal) (inRace b n p) = raceWord b.val n.val p.val := by
  have h := hash_idx (F := Ideal) (inRace b n p)
  rw [hi_at, lo_at] at h
  rw [val_main_v98_apply]
  exact congrArg mixed h

theorem draw_at (b : Fin 64) (n : Fin 1024) (p : Fin 262144) :
    val_main_v107 (F := Ideal) (inRace b n p) = raceDraw b.val n.val p.val := by
  rw [val_main_v107_apply, val_main_v105_apply, val_main_v106_apply, val_main_v103_apply, val_main_v104_apply, val_main_v102_apply,
    val_main_v100_apply, val_main_v99_apply, val_main_v101_apply, word_at]
  unfold raceDraw
  generalize raceWord b.val n.val p.val = w
  rfl

theorem score_at (x0 : (⟨S64x1x512x512, .f32⟩ : BufTy).Contents (Elt Ideal)) (b : Fin 64) (n : Fin 1024) (p : Fin 262144) :
    val_main_v114 (F := Ideal) x0 (inRace b n p) = gumbled (raceDraw b.val n.val p.val) (mass x0 b p) := by
  rw [val_main_v114_apply, mass_at, val_main_v111_apply, val_main_v110_apply, val_main_v109_apply, val_main_v108_apply, draw_at]
  rfl

theorem reduces_race : S64x1024x262144.Reduces [2] S64x1024 := by decide

theorem lift_race (b : Fin 64) (n : Fin 1024) (p : Fin 262144) : reduces_race.lift (inRays b n) p = inRace b n p := by
  funext a
  apply Fin.ext
  show reduces_race.liftVal (inRays b n) p.val a = _
  match a with
  | ⟨0, _⟩ => rfl
  | ⟨1, _⟩ => rfl
  | ⟨2, _⟩ => rfl

theorem largest_at (x0 : (⟨S64x1x512x512, .f32⟩ : BufTy).Contents (Elt Ideal)) (b : Fin 64) (n : Fin 1024) :
    val_main_v116 (F := Ideal) x0 (inRays b n)
      = Finset.univ.fold max ⊥ (fun p : Fin 262144 => gumbled (raceDraw b.val n.val p.val) (mass x0 b p)) := by
  unfold val_main_v116
  refine (Host.reduce_eq_fold_single (FloatOps.maximumf (F := Ideal) (φ := .f32)) _ _ _ reduces_race _ _).trans ?_
  rw [val_main_cst_29_apply, show (FloatOps.ofBits FTy.f32 0xFF800000#32 : Ideal .f32) = ⊥ from minus_inf]
  exact congrArg (fun f => Finset.univ.fold max ⊥ f) (funext fun p => (congrArg _ (lift_race b n p)).trans (score_at x0 b n p))

/-- The word a pixel offers: its position where its logit is the largest, else the count of pixels. -/
theorem offer_at (x0 : (⟨S64x1x512x512, .f32⟩ : BufTy).Contents (Elt Ideal)) (b : Fin 64) (n : Fin 1024) (p : Fin 262144) :
    val_main_v120 (F := Ideal) x0 (inRace b n p) = Scalar.select (Ideal.cmp .oeq (gumbled (raceDraw b.val n.val p.val) (mass x0 b p))
      (Finset.univ.fold max ⊥ (fun p : Fin 262144 => gumbled (raceDraw b.val n.val p.val) (mass x0 b p)))) (BitVec.ofNat 32 p.val) 262144#32 := by
  rw [val_main_v120_apply, val_main_v119_apply, val_main_v115_apply, val_main_v118_apply, val_main_v117_apply, score_at,
    val_main_call10_v1_apply, val_main_call10_v0_apply, val_main_c_30_apply,
    show idx_main_v117 (idx_main_v118 (inRace b n p)) = inRays b n from funext fun a => match a with | ⟨0, _⟩ => rfl | ⟨1, _⟩ => rfl,
    largest_at]
  rfl

/-- The sampled pixel's word is that of the first maximum of the perturbed logits. -/
theorem sampled (x0 : (⟨S64x1x512x512, .f32⟩ : BufTy).Contents (Elt Ideal)) (b : Fin 64) (n : Fin 1024) :
    ∃ k : Fin 262144, IsFirstMax (fun p : Fin 262144 => gumbled (raceDraw b.val n.val p.val) (mass x0 b p)) k
      ∧ val_main_v121 (F := Ideal) x0 (inRays b n) = BitVec.ofNat 32 k.val := by
  obtain ⟨k, hk, he⟩ := first_max_word (n := 262144) (fun p : Fin 262144 => gumbled (raceDraw b.val n.val p.val) (mass x0 b p))
    262144#32 2147483647#32 (by decide) (by decide) (by decide)
  refine ⟨k, hk, Eq.trans ?_ he⟩
  unfold val_main_v121
  refine (Host.reduce_eq_fold_single IntOp.minsi _ _ _ reduces_race _ _).trans ?_
  rw [val_main_c_31_apply]
  refine congrArg (fun f => Finset.univ.fold IntOp.minsi 2147483647#32 f) (funext fun p => (congrArg _ (lift_race b n p)).trans (offer_at x0 b n p))

end Cert.Proof.Reference

end
-- ==== Proof.RefGather.lean ====
module

public import proofs.«01_k».proof.Proof.Gen.ReferenceIdeal.Read
public import Idealize.ShloMosaic.Lib.ValueIdxCore

@[expose] public section

set_option maxRecDepth 16384
noncomputable section

namespace Cert.Proof.Reference

open Cert.ReferenceIdeal Cert.ReferenceIdeal.Gen Cert.ReferenceIdeal.Read
open Idealize.ShloMosaic Idealize.ShloMosaic.TcCoe

/-! # The reference's two gathers, read at an index -/

/-- Pixel `p`, axis `e` of the table of positions. -/
abbrev inTable (p : Fin 262144) (e : Fin 2) : S262144x2.Idx := fun a => match a with | ⟨0, _⟩ => p | ⟨1, _⟩ => e

/-- Batch `b`, ray `n`, axis `e`. -/
abbrev inPoints (b : Fin 64) (n : Fin 1024) (e : Fin 2) : S64x1024x2.Idx := fun a => match a with | ⟨0, _⟩ => b | ⟨1, _⟩ => n | ⟨2, _⟩ => e

/-- Batch `b`, ray `n`, with a last axis of one. -/
abbrev inRays1 (b : Fin 64) (n : Fin 1024) : S64x1024x1.Idx := fun a => match a with | ⟨0, _⟩ => b | ⟨1, _⟩ => n | ⟨2, _⟩ => ⟨0, Nat.one_pos⟩

/-- Batch `b`, row `r`, column `c` of the augmented matrix. -/
abbrev inAug (b : Fin 64) (r : Fin 3) (c : Fin 6) : S64x3x6.Idx := fun a => match a with | ⟨0, _⟩ => b | ⟨1, _⟩ => r | ⟨2, _⟩ => c

/-- Batch `b`, row `r`, with a last axis of one. -/
abbrev inRow1 (b : Fin 64) (r : Fin 3) : S64x3x1.Idx := fun a => match a with | ⟨0, _⟩ => b | ⟨1, _⟩ => r | ⟨2, _⟩ => ⟨0, Nat.one_pos⟩

/-- The gather of positions: the table at the sampled pixel, clamped into range. -/
theorem table_gather {α : Type} (x : S262144x2.Idx → α) (idx : IVec S64x1024x1 32) (b : Fin 64) (n : Fin 1024) (e : Fin 2) :
    Host.gather gather_S262144x2_S64x1024x1_S64x1024x2_2_0_n_n_0_2_12 x idx (inPoints b n e)
      = x (inTable ⟨min (idx (inRays1 b n)).toInt.toNat 262143, by omega⟩ e) := by
  unfold Host.gather
  refine congrArg x (funext fun (a : Fin 2) => Fin.ext ?_)
  show (gather_S262144x2_S64x1024x1_S64x1024x2_2_0_n_n_0_2_12).start (inPoints b n e) idx a + (gather_S262144x2_S64x1024x1_S64x1024x2_2_0_n_n_0_2_12).batchCoord (inPoints b n e) a + (gather_S262144x2_S64x1024x1_S64x1024x2_2_0_n_n_0_2_12).offCoord (inPoints b n e) a = _
  obtain rfl | rfl : a = 0 ∨ a = 1 := by
    match a with
    | ⟨0, _⟩ => exact .inl rfl
    | ⟨1, _⟩ => exact .inr rfl
  · rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (gather_S262144x2_S64x1024x1_S64x1024x2_2_0_n_n_0_2_12).startIndexMap from List.mem_singleton.mpr rfl)]
    have hsi : (gather_S262144x2_S64x1024x1_S64x1024x2_2_0_n_n_0_2_12).siIdx (inPoints b n e) ⟨List.idxOf (0 : Fin 2) (gather_S262144x2_S64x1024x1_S64x1024x2_2_0_n_n_0_2_12).startIndexMap,
        List.idxOf_lt_length_iff.2 (List.mem_singleton.mpr rfl)⟩ = inRays1 b n := by
      funext b; refine Fin.ext ?_
      match b with
      | ⟨0, _⟩ => rfl
      | ⟨1, _⟩ => rfl
      | ⟨2, _⟩ => rfl
    rw [hsi]
    rfl
  · rw [GatherDims.batchCoord_eq_zero _ _ _ List.not_mem_nil]
    unfold GatherDims.start
    rw [dif_neg (show (1 : Fin 2) ∉ (gather_S262144x2_S64x1024x1_S64x1024x2_2_0_n_n_0_2_12).startIndexMap from by decide)]
    show 0 + 0 + (gather_S262144x2_S64x1024x1_S64x1024x2_2_0_n_n_0_2_12).offCoord (inPoints b n e) 1 = e.val
    rw [Nat.zero_add]
    rfl

/-- The gather of rows: the batch's matrix at the given row, clamped into range. -/
theorem rows_gather {α : Type} (x : S64x3x6.Idx → α) (idx : IVec S64x3x1 32) (b : Fin 64) (r : Fin 3) (c : Fin 6) :
    Host.gather gather_S64x3x6_S64x3x1_S64x3x6_2_1_0_0_1_2_116 x idx (inAug b r c)
      = x (inAug b ⟨min (idx (inRow1 b r)).toInt.toNat 2, by omega⟩ c) := by
  unfold Host.gather
  refine congrArg x (funext fun (a : Fin 3) => Fin.ext ?_)
  show (gather_S64x3x6_S64x3x1_S64x3x6_2_1_0_0_1_2_116).start (inAug b r c) idx a + (gather_S64x3x6_S64x3x1_S64x3x6_2_1_0_0_1_2_116).batchCoord (inAug b r c) a + (gather_S64x3x6_S64x3x1_S64x3x6_2_1_0_0_1_2_116).offCoord (inAug b r c) a = _
  obtain rfl | rfl | rfl : a = 0 ∨ a = 1 ∨ a = 2 := by
    match a with
    | ⟨0, _⟩ => exact .inl rfl
    | ⟨1, _⟩ => exact .inr (.inl rfl)
    | ⟨2, _⟩ => exact .inr (.inr rfl)
  · rw [GatherDims.start_batching _ _ _ _ (List.mem_singleton.mpr rfl),
      GatherDims.offCoord_eq_zero _ _ _ (fun h => ((GatherDims.mem_sKept _ _).mp h).2 (List.mem_singleton.mpr rfl))]
    simp only [Nat.zero_add, Nat.add_zero]
    unfold GatherDims.batchCoord
    rw [dif_pos (show (0 : Fin 3) ∈ (gather_S64x3x6_S64x3x1_S64x3x6_2_1_0_0_1_2_116).operandBatchingDims from List.mem_singleton.mpr rfl)]
    rfl
  · rw [GatherDims.batchCoord_eq_zero _ _ _ (fun h => absurd (List.mem_singleton.mp h) (by decide)),
      GatherDims.offCoord_eq_zero _ _ _ (fun h => ((GatherDims.mem_sKept _ _).mp h).1 (List.mem_singleton.mpr rfl))]
    simp only [Nat.add_zero]
    unfold GatherDims.start
    rw [dif_pos (show (1 : Fin 3) ∈ (gather_S64x3x6_S64x3x1_S64x3x6_2_1_0_0_1_2_116).startIndexMap from List.mem_singleton.mpr rfl)]
    have hsi : (gather_S64x3x6_S64x3x1_S64x3x6_2_1_0_0_1_2_116).siIdx (inAug b r c) ⟨List.idxOf (1 : Fin 3) (gather_S64x3x6_S64x3x1_S64x3x6_2_1_0_0_1_2_116).startIndexMap,
        List.idxOf_lt_length_iff.2 (List.mem_singleton.mpr rfl)⟩ = inRow1 b r := by
      funext b; refine Fin.ext ?_
      match b with
      | ⟨0, _⟩ => rfl
      | ⟨1, _⟩ => rfl
      | ⟨2, _⟩ => rfl
    rw [hsi]
    rfl
  · rw [GatherDims.batchCoord_eq_zero _ _ _ (fun h => absurd (List.mem_singleton.mp h) (by decide))]
    unfold GatherDims.start
    rw [dif_neg (show (2 : Fin 3) ∉ (gather_S64x3x6_S64x3x1_S64x3x6_2_1_0_0_1_2_116).startIndexMap from by decide)]
    show 0 + 0 + (gather_S64x3x6_S64x3x1_S64x3x6_2_1_0_0_1_2_116).offCoord (inAug b r c) 2 = c.val
    rw [Nat.zero_add]
    rfl

end Cert.Proof.Reference

end
-- ==== Proof.Points.lean ====
module

public import proofs.«01_k».proof.Proof.Words
public import proofs.«01_k».proof.Proof.RefWinners
public import proofs.«01_k».proof.Proof.RefGather
public import Idealize.ShloMosaic.Lib.ReduceAll

@[expose] public section

set_option maxRecDepth 16384
noncomputable section

namespace Cert.Proof

open Idealize.ShloMosaic Idealize.ShloMosaic.TcCoe

/-! # Where a pixel's column (or row) lies -/

/-- The half pixel in from the edge. -/
theorem edge_eq : Ideal.ofBits .f32 0x3F7F8000#32 = ((511 / 512 : ℝ) : EReal) := by
  have e1 : BitVec.extractLsb' 31 1 0x3F7F8000#32 = 0#1 := by decide
  have e2 : BitVec.extractLsb' 23 8 0x3F7F8000#32 = 126#8 := by decide
  have e3 : BitVec.extractLsb' 0 23 0x3F7F8000#32 = 8355840#23 := by decide
  unfold Ideal.ofBits Ideal.ieee
  simp only [e1, e2, e3]
  rw [if_neg (by decide), if_neg (by decide)]
  congr 1; push_cast; norm_num

/-- The half pixel in from the far edge. -/
theorem far_eq : Ideal.ofBits .f32 0xBF7F8000#32 = ((-(511 / 512) : ℝ) : EReal) := by
  have e1 : BitVec.extractLsb' 31 1 0xBF7F8000#32 = 1#1 := by decide
  have e2 : BitVec.extractLsb' 23 8 0xBF7F8000#32 = 126#8 := by decide
  have e3 : BitVec.extractLsb' 0 23 0xBF7F8000#32 = 8355840#23 := by decide
  unfold Ideal.ofBits Ideal.ieee
  simp only [e1, e2, e3]
  rw [if_neg (by decide), if_neg (by decide)]
  congr 1; push_cast; norm_num

/-- The number of steps across. -/
theorem steps_eq : Ideal.ofBits .f32 0x43FF8000#32 = ((511 : ℝ) : EReal) := by
  have e1 : BitVec.extractLsb' 31 1 0x43FF8000#32 = 0#1 := by decide
  have e2 : BitVec.extractLsb' 23 8 0x43FF8000#32 = 135#8 := by decide
  have e3 : BitVec.extractLsb' 0 23 0x43FF8000#32 = 8355840#23 := by decide
  unfold Ideal.ofBits Ideal.ieee
  simp only [e1, e2, e3]
  rw [if_neg (by decide), if_neg (by decide)]
  congr 1; push_cast; norm_num

/-- The size of a pixel. -/
theorem pixel_eq : Ideal.ofBits .f32 0x3B800000#32 = ((1 / 256 : ℝ) : EReal) := by
  have e1 : BitVec.extractLsb' 31 1 0x3B800000#32 = 0#1 := by decide
  have e2 : BitVec.extractLsb' 23 8 0x3B800000#32 = 119#8 := by decide
  have e3 : BitVec.extractLsb' 0 23 0x3B800000#32 = 0#23 := by decide
  unfold Ideal.ofBits Ideal.ieee
  simp only [e1, e2, e3]
  rw [if_neg (by decide), if_neg (by decide)]
  congr 1; push_cast; norm_num

/-- The centre of pixel column (or row) `k`. -/
def place (k : ℕ) : ℝ := 511 / 512 - (k : ℝ) / 256

/-- A small number, read signed. -/
theorem toInt_small {k : ℕ} (h : k < 2147483648) : (BitVec.ofNat 32 k).toInt = (k : ℤ) := by
  rw [BitVec.toInt_eq_toNat_of_lt (by rw [BitVec.toNat_ofNat]; omega), BitVec.toNat_ofNat, Nat.mod_eq_of_lt (by omega)]

/-- The kernel's formula for a centre. -/
theorem place_step {k : ℕ} (h : k < 512) :
    Ideal.ofBits .f32 0x3F7F8000#32 - (((BitVec.ofNat 32 k).toInt : ℝ) : EReal) * Ideal.ofBits .f32 0x3B800000#32 = (place k : EReal) := by
  rw [edge_eq, pixel_eq, toInt_small (by omega), ← EReal.coe_mul, ← EReal.coe_sub]
  congr 1; unfold place; push_cast; ring

/-- The interpolation formula for a centre before the last. -/
theorem place_lin {k : ℕ} (h : k < 511) :
    Ideal.ofBits .f32 0x3F7F8000#32 * (Ideal.ofBits .f32 0x3F800000#32 - Ideal.div (((BitVec.ofNat 32 k).toInt : ℝ) : EReal) (Ideal.ofBits .f32 0x43FF8000#32))
      + Ideal.ofBits .f32 0xBF7F8000#32 * Ideal.div (((BitVec.ofNat 32 k).toInt : ℝ) : EReal) (Ideal.ofBits .f32 0x43FF8000#32) = (place k : EReal) := by
  rw [edge_eq, far_eq, steps_eq, Ideal.ofBits_one_f32, toInt_small (by omega), Ideal.div_coe (by norm_num), ← EReal.coe_mul, ← EReal.coe_one, ← EReal.coe_sub,
    ← EReal.coe_mul, ← EReal.coe_mul, ← EReal.coe_add]
  congr 1; unfold place; push_cast; ring

namespace Reference

open Cert.ReferenceIdeal Cert.ReferenceIdeal.Gen Cert.ReferenceIdeal.Read

/-- Position `k` along an axis of 512. -/
abbrev inAxis (k : Fin 512) : S512.Idx := fun a => match a with | ⟨0, _⟩ => k

/-- The interpolated centres. -/
theorem lin_inner (i : S511.Idx) : val_main_call11_v15 (F := Ideal) i = (place (i 0).val : EReal) := by
  refine Eq.trans ?_ (place_lin (i 0).isLt)
  rw [val_main_call11_v15_apply, val_main_call11_v11_apply, val_main_call11_v14_apply, val_main_call11_v10_apply, val_main_call11_v13_apply,
    val_main_call11_v9_apply, val_main_call11_v6_apply]
  rfl

/-- The centres along an axis. -/
theorem lin_at (k : Fin 512) : val_main_v122 (F := Ideal) (inAxis k) = (place k.val : EReal) := by
  unfold val_main_v122
  by_cases hk : k.val < 511
  · refine (concatenate_pair_apply_left 0 _ _ concatenates_S511_S1_S512_d0 (inAxis k) rfl (fun a => match a with | ⟨0, _⟩ => ⟨k.val, hk⟩)
      (fun b => match b with | ⟨0, _⟩ => rfl)).trans ?_
    exact lin_inner _
  · have hk' : k.val = 511 := by omega
    refine (concatenate_pair_apply_right 0 _ _ concatenates_S511_S1_S512_d0 (inAxis k) rfl rfl (fun a => match a with | ⟨0, _⟩ => ⟨0, Nat.one_pos⟩)
      (fun b => match b with | ⟨0, _⟩ => fun hb => absurd rfl hb) (by show 0 + 511 = k.val; omega)).trans ?_
    rw [val_main_call11_v16_apply]
    refine (show _ = Ideal.ofBits .f32 0xBF7F8000#32 from rfl).trans ?_
    rw [far_eq, hk']
    congr 1; unfold place; norm_num

theorem lin_same : val_main_v123 (F := Ideal) = val_main_v122 (F := Ideal) := rfl

/-- The two centres of a pixel. -/
def centre (k : ℕ) (e : Fin 2) : ℝ := if e = 0 then place (k % 512) else place (k / 512)

/-- The table of positions holds the centres of each pixel. -/
theorem table_at (p : Fin 262144) (e : Fin 2) : val_main_v129 (F := Ideal) (inTable p e) = (centre p.val e : EReal) := by
  rw [val_main_v129_apply]
  unfold val_main_v128
  have hp := p.isLt
  obtain rfl | rfl : e = 0 ∨ e = 1 := by omega
  · refine (concatenate_pair_apply_left 2 _ _ concatenates_S512x512x1_S512x512x1_S512x512x2_d2 _ rfl
      (fun a => match a with | ⟨0, _⟩ => ⟨p.val / 512, by show p.val / 512 < 512; omega⟩ | ⟨1, _⟩ => ⟨p.val % 512, by show p.val % 512 < 512; omega⟩ | ⟨2, _⟩ => ⟨0, Nat.one_pos⟩)
      (fun b => match b with
        | ⟨0, _⟩ => by show p.val / 512 = (p.val * 2 + 0) / 1024; omega
        | ⟨1, _⟩ => by show p.val % 512 = (p.val * 2 + 0) / 2 % 512; omega
        | ⟨2, _⟩ => by show 0 = (p.val * 2 + 0) % 2; omega)).trans ?_
    rw [val_main_v126_apply, val_main_v125_apply]
    refine Eq.trans ?_ (lin_at ⟨p.val % 512, by omega⟩)
    exact congrArg _ (funext fun a => match a with | ⟨0, _⟩ => rfl)
  · refine (concatenate_pair_apply_right 2 _ _ concatenates_S512x512x1_S512x512x1_S512x512x2_d2 _ rfl rfl
      (fun a => match a with | ⟨0, _⟩ => ⟨p.val / 512, by show p.val / 512 < 512; omega⟩ | ⟨1, _⟩ => ⟨p.val % 512, by show p.val % 512 < 512; omega⟩ | ⟨2, _⟩ => ⟨0, Nat.one_pos⟩)
      (fun b => match b with
        | ⟨0, _⟩ => fun _ => by show p.val / 512 = (p.val * 2 + 1) / 1024; omega
        | ⟨1, _⟩ => fun _ => by show p.val % 512 = (p.val * 2 + 1) / 2 % 512; omega
        | ⟨2, _⟩ => fun hb => absurd rfl hb) (by show 0 + 1 = (p.val * 2 + 1) % 2; omega)).trans ?_
    rw [val_main_v127_apply, val_main_v124_apply, lin_same]
    refine Eq.trans ?_ (lin_at ⟨p.val / 512, by omega⟩)
    exact congrArg _ (funext fun a => match a with | ⟨0, _⟩ => rfl)

/-- The index looked up: the sampled pixel itself, as it is never negative. -/
theorem looked (x0 : (⟨S64x1x512x512, .f32⟩ : BufTy).Contents (Elt Ideal)) (b : Fin 64) (n : Fin 1024) (k : ℕ) (hk : k < 262144)
    (h : val_main_v121 (F := Ideal) x0 (inRays b n) = BitVec.ofNat 32 k) (i : S64x1024x1.Idx) (hi : idx_main_call13_v5 i = inRays b n) :
    val_main_call13_v5 (F := Ideal) x0 i = BitVec.ofNat 32 k := by
  rw [val_main_call13_v5_apply, hi, val_main_call13_v4_apply, val_main_call13_v1_apply, val_main_call13_v0_apply, val_main_call13_c_apply, h]
  have : IntOp.cmpi .slt (BitVec.ofNat 32 k) 0#32 = 0#1 := by
    show BitVec.ofBool ((BitVec.ofNat 32 k).slt 0#32) = 0#1
    rw [BitVec.slt_eq_decide, toInt_small (by omega), decide_eq_false (by simp)]; rfl
  rw [this]
  exact if_neg (by decide)

/-- Every index looked up is in range. -/
theorem in_range (x0 : (⟨S64x1x512x512, .f32⟩ : BufTy).Contents (Elt Ideal)) (j : S64x1024.Idx) : val_main_call13_v12 (F := Ideal) x0 j = 1#1 := by
  unfold val_main_call13_v12
  refine Host.reduce_andi_one _ _ _ _ j rfl fun i => ?_
  obtain ⟨k, -, hk⟩ := sampled x0 (i 0) (i 1)
  rw [val_main_call13_v11_apply, val_main_call13_v7_apply, val_main_call13_v10_apply, val_main_call13_v6_apply, val_main_call13_v9_apply, val_main_call13_v8_apply,
    looked x0 (i 0) (i 1) k.val k.isLt hk i (funext fun a => match a with | ⟨0, _⟩ => rfl | ⟨1, _⟩ => rfl), val_main_call13_c_2_apply, val_main_call13_c_1_apply]
  have hk := k.isLt
  have e1 : IntOp.cmpi .sge (BitVec.ofNat 32 k.val) 0#32 = 1#1 := by
    show BitVec.ofBool (BitVec.sle 0#32 (BitVec.ofNat 32 k.val)) = 1#1
    rw [BitVec.sle_eq_decide, toInt_small (k := k.val) (by omega), decide_eq_true (by show (0 : ℤ) ≤ (k.val : ℤ); omega)]; rfl
  have e2 : IntOp.cmpi .sle (BitVec.ofNat 32 k.val) 262143#32 = 1#1 := by
    show BitVec.ofBool (BitVec.sle (BitVec.ofNat 32 k.val) 262143#32) = 1#1
    rw [BitVec.sle_eq_decide, toInt_small (by omega), decide_eq_true (by show (k.val : ℤ) ≤ 262143; omega)]; rfl
  rw [e1, e2]; rfl

/-- The position of a ray: the centres of its sampled pixel. -/
theorem point_at (x0 : (⟨S64x1x512x512, .f32⟩ : BufTy).Contents (Elt Ideal)) (b : Fin 64) (n : Fin 1024) (e : Fin 2) (k : Fin 262144)
    (h : val_main_v121 (F := Ideal) x0 (inRays b n) = BitVec.ofNat 32 k.val) :
    val_main_v130 (F := Ideal) x0 (inPoints b n e) = (centre k.val e : EReal) := by
  have hk := k.isLt
  rw [val_main_v130_apply, val_main_call13_v14_apply, in_range]
  refine (if_pos rfl).trans ?_
  unfold val_main_call13_v13
  rw [table_gather, ← table_at k e]
  refine congrArg _ (congrArg (fun p => inTable p e) (Fin.ext ?_))
  show min (val_main_call13_v5 (F := Ideal) x0 (inRays1 b n)).toInt.toNat 262143 = k.val
  rw [looked x0 b n k.val hk h _ (funext fun a => match a with | ⟨0, _⟩ => rfl | ⟨1, _⟩ => rfl), toInt_small (by omega)]
  omega

end Reference

end Cert.Proof
-- ==== Proof.Spots.lean ====
module

public import proofs.«01_k».proof.Proof.Arrays_KernelIdeal
public import proofs.«01_k».proof.Proof.Host_KernelIdeal
public import proofs.«01_k».proof.Proof.Winners_KernelIdeal
public import proofs.«01_k».proof.Proof.Points

@[expose] public section

set_option maxRecDepth 16384
noncomputable section

namespace Cert.Proof.KernelIdeal

open Cert.KernelIdeal Cert.KernelIdeal.Gen
open Idealize.ShloMosaic Idealize.ShloMosaic.TcCoe Idealize.ShloMosaic.Tactic

variable (m : (ℓ : Loc nD τ sig) → Buf (Elt Ideal) ℓ) (ρ : Dev nD → PrngReg)

/-! # The sampled pixels and their positions -/

/-- The masks as launched. -/
abbrev masks (c : Dev nD) : Vec Ideal S64x1x512x512 .f32 := m ((c : Thread nD τ).loc main_arg0)

/-- A chunk's lane is a pixel of the mask. -/
theorem chunk_at (x0 : Vec Ideal S64x1x512x512 .f32) (b : Fin 64) (q : Fin 128) (l : Fin 2048) (p : Fin 262144) (hp : p.val = q.val * 2048 + l.val) :
    shapeCast S64x128x2048 x0 shapeCasts_S64x1x512x512_S64x128x2048 (inChunks b q l) = x0 (Reference.inPixels b p) := by
  refine shapeCast_apply _ _ (inChunks b q l) (Reference.inPixels b p) ?_
  rw [Shape.rowMajor_val_four, Shape.rowMajor_val_three]
  show ((b.val * 1 + 0) * 512 + p.val / 512) * 512 + p.val % 512 = (b.val * 128 + q.val) * 2048 + l.val
  omega

/-- The block's score is the race of the pixel. -/
theorem score_pixel (c : Dev nD) (t : Fin cfg0.N) (n : ℕ) (q : Fin 128) (l : Fin 2048) (p : Fin 262144) (hp : p.val = q.val * 2048 + l.val) :
    score (grid0.coords t 0).val (iblk0 (V1 m ρ) c 0 t) n q l
      = raced (raceDraw t.val n p.val) (Reference.mass (masks m c) (t.cast N64_0) p) := by
  unfold score Reference.mass
  rw [coords0, hp]
  refine congrArg (fun z => raced (raceDraw t.val n (q.val * 2048 + l.val)) (max z (Ideal.ofBits .f32 0x2B8CBCCC#32))) ?_
  refine (iblk0_0_at (V1 m ρ) c t (inMask q l)).trans ?_
  exact (congrFun (W1_v0 m ρ c) _).trans (chunk_at (masks m c) (t.cast N64_0) q l p hp)

theorem mass_form (x0 : Vec Ideal S64x1x512x512 .f32) (b : Fin 64) (p : Fin 262144) :
    Reference.mass x0 b p = ⊤ ∨ ∃ q : ℝ, 0 < q ∧ Reference.mass x0 b p = (q : EReal) := by
  obtain ⟨t, ht, he⟩ := clamp_eq
  unfold Reference.mass
  rw [he]; exact clamped _ ht

/-- The kernel's winner of a ray is the first largest of the reference's perturbed log-masses. -/
theorem winner_at (c : Dev nD) (b : Fin 64) (n : Fin 1024) (k : Fin 262144)
    (h : IsFirstMax (fun p : Fin 262144 => gumbled (raceDraw b.val n.val p.val) (Reference.mass (masks m c) b p)) k) :
    W3 m ρ c (Proc.devRef .tc main_v2) (inFlat b n) = BitVec.ofNat 32 k.val := by
  have hn := n.isLt
  have hg : n.val / 8 < 128 := by omega
  have hr : n.val % 8 < 8 := by omega
  have hgr : n.val / 8 * 8 + n.val % 8 = n.val := by omega
  refine (congrFun (W3_v2 m ρ c) (inFlat b n)).trans ?_
  refine (shapeCast_apply _ _ (inFlat b n) (inGroups b ⟨n.val / 8, hg⟩ ⟨n.val % 8, hr⟩) ?_).trans ?_
  · rw [Shape.rowMajor_val_three, Shape.rowMajor_val_three]
    show (b.val * 128 + n.val / 8) * 8 + n.val % 8 = (b.val * 1 + 0) * 1024 + n.val
    omega
  refine (congrFun (W2_arr m ρ c 1) _).trans ?_
  refine (arr0_1 (V1 m ρ) c _).trans ?_
  obtain ⟨q, l, e, hmax, hfirst⟩ := winner (grid0.coords (b.cast N64_0.symm)) (iblk0 (V1 m ρ) c 0 (b.cast N64_0.symm))
    (local0_1 (inGroups b ⟨n.val / 8, hg⟩ ⟨n.val % 8, hr⟩))
  refine Eq.trans e ?_
  have hq := q.isLt
  have hl := l.isLt
  have hs : ∀ (p : Fin 262144) (q' : Fin 128) (l' : Fin 2048), p.val = q'.val * 2048 + l'.val →
      score (grid0.coords (b.cast N64_0.symm) 0).val (iblk0 (V1 m ρ) c 0 (b.cast N64_0.symm)) (n.val / 8 * 8 + n.val % 8) q' l'
        = raced (raceDraw b.val n.val p.val) (Reference.mass (masks m c) b p) := fun p q' l' hp => by
    rw [hgr]; exact score_pixel m ρ c (b.cast N64_0.symm) n.val q' l' p hp
  have hp : ∀ p : Fin 262144, ∃ (q' : Fin 128) (l' : Fin 2048), p.val = q'.val * 2048 + l'.val := fun p =>
    ⟨⟨p.val / 2048, by have := p.isLt; omega⟩, ⟨p.val % 2048, by omega⟩, by show p.val = p.val / 2048 * 2048 + p.val % 2048; omega⟩
  have hk : IsFirstMax (fun p : Fin 262144 => raced (raceDraw b.val n.val p.val) (Reference.mass (masks m c) b p))
      ⟨q.val * 2048 + l.val, by omega⟩ := by
    constructor
    · intro p
      obtain ⟨q', l', e'⟩ := hp p
      have := hmax q' l'
      exact (hs p q' l' e').symm.le.trans (this.trans (hs ⟨q.val * 2048 + l.val, by omega⟩ q l rfl).le)
    · intro p hlt
      obtain ⟨q', l', e'⟩ := hp p
      have := hfirst q' l' (by rw [← e']; exact hlt)
      exact (hs p q' l' e').symm.trans_lt (this.trans_le (hs ⟨q.val * 2048 + l.val, by omega⟩ q l rfl).le)
  have hk' := hk.transfer fun i j => raced_lt (draw_mem _) (mass_form (masks m c) b i) (draw_mem _) (mass_form (masks m c) b j)
  exact congrArg (fun z : Fin 262144 => BitVec.ofNat 32 z.val) (hk'.unique h)

/-! ## Positions -/

/-- Ray `n` of the block of winners. -/
abbrev inPicks (n : Fin 1024) : S1x1x1024.Idx := fun a => match a with | ⟨0, _⟩ => ⟨0, Nat.one_pos⟩ | ⟨1, _⟩ => ⟨0, Nat.one_pos⟩ | ⟨2, _⟩ => n

abbrev inRay (n : Fin 1024) : S1024.Idx := fun a => match a with | ⟨0, _⟩ => n

theorem pick_at (x0 : Vec Ideal S1x1x1024 .i32) (n : Fin 1024) : k1_pay5 (F := Ideal) x0 (inRay n) = x0 (inPicks n) := by
  unfold k1_pay5
  refine shapeCast_apply _ _ (inRay n) (inPicks n) ?_
  rw [Shape.rowMajor_val_three, Shape.rowMajor_val_one]; simp

theorem low_bits {k : ℕ} (hk : k < 262144) : BitVec.ofNat 32 k &&& 511#32 = BitVec.ofNat 32 (k % 512) := by
  apply BitVec.eq_of_toNat_eq
  rw [BitVec.toNat_and, BitVec.toNat_ofNat, BitVec.toNat_ofNat, BitVec.toNat_ofNat, Nat.mod_eq_of_lt (show k < 2 ^ 32 by omega),
    Nat.mod_eq_of_lt (show k % 512 < 2 ^ 32 by omega)]
  exact Nat.and_two_pow_sub_one_eq_mod k 9

theorem high_bits {k : ℕ} (hk : k < 262144) : IntOp.shrsi .vector (BitVec.ofNat 32 k) 9#32 = BitVec.ofNat 32 (k / 512) := by
  have h1 : IntOp.shrsi .vector (BitVec.ofNat 32 k) 9#32 = (BitVec.ofNat 32 k).sshiftRight 9 := rfl
  rw [h1, BitVec.sshiftRight_eq_of_msb_false]
  · apply BitVec.eq_of_toNat_eq
    rw [BitVec.toNat_ushiftRight, BitVec.toNat_ofNat, BitVec.toNat_ofNat, Nat.mod_eq_of_lt (show k < 2 ^ 32 by omega),
      Nat.mod_eq_of_lt (show k / 512 < 2 ^ 32 by omega), Nat.shiftRight_eq_div_pow]
  · rw [BitVec.msb_eq_decide, BitVec.toNat_ofNat]; simp; omega

/-- The horizontal coordinate of a picked pixel. -/
theorem across (x0 : Vec Ideal S1x1x1024 .i32) (n : Fin 1024) {k : ℕ} (hk : k < 262144) (h : x0 (inPicks n) = BitVec.ofNat 32 k) :
    k1_pay6 (F := Ideal) x0 (inRay n) = (Reference.centre k 0 : EReal) := by
  have e : k1_pay6 (F := Ideal) x0 (inRay n) = Ideal.ofBits .f32 0x3F7F8000#32
      - (((k1_pay5 (F := Ideal) x0 (inRay n) &&& 511#32).toInt : ℝ) : EReal) * Ideal.ofBits .f32 0x3B800000#32 := rfl
  rw [e, pick_at, h, low_bits hk]
  exact place_step (by omega)

/-- The vertical coordinate of a picked pixel. -/
theorem down (x0 : Vec Ideal S1x1x1024 .i32) (n : Fin 1024) {k : ℕ} (hk : k < 262144) (h : x0 (inPicks n) = BitVec.ofNat 32 k) :
    k1_pay7 (F := Ideal) x0 (inRay n) = (Reference.centre k 1 : EReal) := by
  have e : k1_pay7 (F := Ideal) x0 (inRay n) = Ideal.ofBits .f32 0x3F7F8000#32
      - (((IntOp.shrsi .vector (k1_pay5 (F := Ideal) x0 (inRay n)) 9#32).toInt : ℝ) : EReal) * Ideal.ofBits .f32 0x3B800000#32 := rfl
  rw [e, pick_at, h, high_bits hk]
  exact place_step (by omega)

/-- Ray `n` of a stored row. -/
abbrev inStored (n : Fin 1024) : S1x1x1x1024.Idx := fun a => match a with | ⟨0, _⟩ => ⟨0, Nat.one_pos⟩ | ⟨1, _⟩ => ⟨0, Nat.one_pos⟩ | ⟨2, _⟩ => ⟨0, Nat.one_pos⟩ | ⟨3, _⟩ => n

/-- A stored row holds the vector of its rays. -/
theorem stored_at (v : FVec Ideal S1024 .f32) (x : S1x1x1x1024.Idx) (n : Fin 1024) (h : (x 3).val = n.val) :
    shapeCast S1x1x1x1024 v shapeCasts_S1024_S1x1x1x1024 x = v (inRay n) := by
  have h0 : (x 0).val < 1 := (x 0).isLt
  have h1 : (x 1).val < 1 := (x 1).isLt
  have h2 : (x 2).val < 1 := (x 2).isLt
  refine shapeCast_apply _ _ x (inRay n) ?_
  rw [Shape.rowMajor_val_one, Shape.rowMajor_val_four]
  show n.val = (((x 0).val * 1 + (x 1).val) * 1 + (x 2).val) * 1024 + (x 3).val
  omega

/-- The block of positions at an index. -/
theorem out1_5_at (x0 : Vec Ideal S1x1x1024 .i32) (y : S1x2x1x1024.Idx) (e : Fin 2) (n : Fin 1024) {k : ℕ} (hk : k < 262144)
    (h : x0 (inPicks n) = BitVec.ofNat 32 k) (h1 : (y 1).val = e.val) (h3 : (y 3).val = n.val) :
    out1_5 (F := Ideal) x0 y = (Reference.centre k e : EReal) := by
  unfold out1_5
  refine View.canon_eq_of_allAt _ y _ (cover1_5 _ _ y) (View.allAt_cons_unit _ _ _ _ _ (fun x hx => ?_)
    (View.allAt_cons_unit _ _ _ _ _ (fun x hx => ?_) (View.allAt_nil y _)))
  · have hx1 : (y 1).val = 1 + (x 1).val := hx 1
    have hx3 : (y 3).val = 0 + (x 3).val := hx 3
    have he : e = 1 := Fin.ext (by have := e.isLt; show e.val = 1; omega)
    rw [he]
    exact (stored_at _ x n (by omega)).trans (down x0 n hk h)
  · have hx1 : (y 1).val = 0 + (x 1).val := hx 1
    have hx3 : (y 3).val = 0 + (x 3).val := hx 3
    have hx1' : (x 1).val < 1 := (x 1).isLt
    have he : e = 0 := Fin.ext (by show e.val = 0; omega)
    rw [he]
    exact (stored_at _ x n (by omega)).trans (across x0 n hk h)

/-- The picks of a block. -/
theorem picks_at (c : Dev nD) (b : Fin 64) (n : Fin 1024) (k : Fin 262144)
    (h : IsFirstMax (fun p : Fin 262144 => gumbled (raceDraw b.val n.val p.val) (Reference.mass (masks m c) b p)) k) :
    iblk1 (V3 m ρ) c 0 (b.cast N64_1.symm) (inPicks n) = BitVec.ofNat 32 k.val :=
  (iblk1_0_at (V3 m ρ) c _ (inPicks n)).trans (winner_at m ρ c b n k h)

/-- The kernel's positions are the reference's. -/
theorem positions_at (c : Dev nD) (b : Fin 64) (n : Fin 1024) (e : Fin 2) :
    W9 m ρ c (Proc.devRef .tc main_v12) (Reference.inPoints b n e)
      = Cert.ReferenceIdeal.Read.val_main_v130 (F := Ideal) (masks m c) (Reference.inPoints b n e) := by
  obtain ⟨k, hk, hw⟩ := Reference.sampled (masks m c) b n
  rw [Reference.point_at (masks m c) b n e k hw]
  refine (congrFun (W9_v12 m ρ c) _).trans ?_
  refine (transpose_apply _ _ _ (Reference.inPoints b n e) (fun a => match a with | ⟨0, _⟩ => b | ⟨1, _⟩ => e | ⟨2, _⟩ => n)
    (fun a => match a with | ⟨0, _⟩ => rfl | ⟨1, _⟩ => rfl | ⟨2, _⟩ => rfl)).trans ?_
  refine (shapeCast_apply _ _ _ (inPair b e n) ?_).trans ?_
  · rw [Shape.rowMajor_val_four, Shape.rowMajor_val_three]
    show ((b.val * 2 + e.val) * 1 + 0) * 1024 + n.val = (b.val * 2 + e.val) * 1024 + n.val
    omega
  refine (congrFun (W8_v7_0 m ρ c) _).trans ((congrFun (W4_arr m ρ c 5) _).trans ((arr1_5 (V3 m ρ) c _).trans ?_))
  exact out1_5_at _ _ e n k.isLt (picks_at m ρ c b n k hk) rfl rfl

end Cert.Proof.KernelIdeal
-- ==== Proof.Elimination.lean ====
module

public import proofs.«01_k».proof.Proof.Words
public import Mathlib.Data.Real.Basic
public import Mathlib.Tactic.Ring
public import Mathlib.Tactic.LinearCombination
public import Mathlib.Tactic.FinCases
public import Mathlib.Data.Fin.VecNotation

@[expose] public section

namespace Cert.Proof

/-! # Gauss–Jordan elimination of three rows, over the reals -/

/-- A column of the matrix's half, and of the identity's half, of the augmented matrix. -/
abbrev lft (c : Fin 3) : Fin 6 := ⟨c.val, by omega⟩
abbrev rgt (c : Fin 3) : Fin 6 := ⟨c.val + 3, by omega⟩

/-- Rows `k` and `p` changed places. -/
def swapped (k p r : Fin 3) : Fin 3 := if r = k then p else if r = p then k else r

/-- One step: row `p` to place `k`, scaled to a one on the diagonal, the column cleared elsewhere. -/
noncomputable def cleared (k p : Fin 3) (G : Fin 3 → Fin 6 → ℝ) (r : Fin 3) (c : Fin 6) : ℝ :=
  if r = k then G p c * (1 / G p (lft k))
  else G (swapped k p r) c - G (swapped k p r) (lft k) * (G p c * (1 / G p (lft k)))

/-- After `k` steps: the left half is the right half times `A`, it is one to one, and its first `k` columns are the identity's. -/
structure Good (k : ℕ) (A : Fin 3 → Fin 3 → ℝ) (G : Fin 3 → Fin 6 → ℝ) : Prop where
  prod : ∀ r c, G r (lft c) = G r (rgt 0) * A 0 c + G r (rgt 1) * A 1 c + G r (rgt 2) * A 2 c
  inj : ∀ x y z : ℝ, (∀ r, G r (lft 0) * x + G r (lft 1) * y + G r (lft 2) * z = 0) → x = 0 ∧ y = 0 ∧ z = 0
  done : ∀ c : Fin 3, c.val < k → ∀ r, G r (lft c) = if r = c then 1 else 0

theorem swapped_onto : ∀ k p s : Fin 3, s ≠ p → ∃ r, r ≠ k ∧ swapped k p r = s := by decide

theorem swapped_low : ∀ k p c r : Fin 3, c < k → k ≤ p → r ≠ k → (swapped k p r = c ↔ r = c) := by decide

/-- A step keeps the invariant. -/
theorem Good.next {A : Fin 3 → Fin 3 → ℝ} {G : Fin 3 → Fin 6 → ℝ} (k p : Fin 3) (hkp : k ≤ p) (hne : G p (lft k) ≠ 0)
    (h : Good k.val A G) : Good (k.val + 1) A (cleared k p G) := by
  have hone : G p (lft k) * (1 / G p (lft k)) = 1 := mul_one_div_cancel hne
  constructor
  · intro r c
    have a := h.prod p c
    have b := h.prod (swapped k p r) c
    unfold cleared
    by_cases hr : r = k
    · simp only [if_pos hr]; linear_combination (1 / G p (lft k)) * a
    · simp only [if_neg hr]; linear_combination b - G (swapped k p r) (lft k) * (1 / G p (lft k)) * a
  · intro x y z hz
    have hp : G p (lft 0) * x + G p (lft 1) * y + G p (lft 2) * z = 0 := by
      have e := hz k
      unfold cleared at e
      simp only [if_true] at e
      linear_combination G p (lft k) * e - (G p (lft 0) * x + G p (lft 1) * y + G p (lft 2) * z) * hone
    refine h.inj x y z fun s => ?_
    by_cases hs : s = p
    · rw [hs]; exact hp
    · obtain ⟨r, hr, e'⟩ := swapped_onto k p s hs
      have e := hz r
      unfold cleared at e
      simp only [if_neg hr, e'] at e
      linear_combination e + G s (lft k) * (1 / G p (lft k)) * hp
  · intro c hc r
    unfold cleared
    by_cases hck : c = k
    · rw [hck]
      by_cases hr : r = k
      · rw [if_pos hr, if_pos hr]; exact hone
      · rw [if_neg hr, if_neg hr, hone]; ring
    · have hlt : c < k := by
        have : c.val ≠ k.val := fun e => hck (Fin.ext e)
        show c.val < k.val
        omega
      have hpc : p ≠ c := fun e => absurd hkp (not_le.2 (e ▸ hlt))
      rw [h.done c hlt p, if_neg hpc]
      by_cases hr : r = k
      · rw [if_pos hr, if_neg (fun e => hck (e.symm.trans hr)), zero_mul]
      · rw [if_neg hr, h.done c hlt, zero_mul, mul_zero, sub_zero]
        exact if_congr (swapped_low k p c r hlt hkp hr) rfl rfl

theorem three : ∀ k : Fin 3, k = 0 ∨ k = 1 ∨ k = 2 := by decide

/-- There is a pivot at or below the diagonal. -/
theorem Good.pivot {A : Fin 3 → Fin 3 → ℝ} {G : Fin 3 → Fin 6 → ℝ} (k : Fin 3) (h : Good k.val A G) :
    ∃ r, k ≤ r ∧ G r (lft k) ≠ 0 := by
  by_contra hno
  have hz : ∀ r, k ≤ r → G r (lft k) = 0 := fun r hr => by
    by_contra hne
    exact hno ⟨r, hr, hne⟩
  obtain rfl | rfl | rfl := three k
  · have e := (h.inj 1 0 0 fun r => by
      have : G r (lft 0) = 0 := hz r (Nat.zero_le _)
      rw [this]; ring).1
    exact one_ne_zero e
  · have e := (h.inj (-G 0 (lft 1)) 1 0 fun r => by
      rw [h.done 0 Nat.one_pos r]
      obtain rfl | rfl | rfl := three r
      · simp
      · rw [hz 1 le_rfl]; simp
      · rw [hz 2 (by decide)]; simp).2.1
    exact one_ne_zero e
  · have e := (h.inj (-G 0 (lft 2)) (-G 1 (lft 2)) 1 fun r => by
      rw [h.done 0 Nat.two_pos r, h.done 1 Nat.one_lt_two r]
      obtain rfl | rfl | rfl := three r
      · simp
      · simp
      · rw [hz 2 le_rfl]; simp).2.2
    exact one_ne_zero e

/-- The determinant of three rows. -/
def det3 (A : Fin 3 → Fin 3 → ℝ) : ℝ :=
  A 0 0 * (A 1 1 * A 2 2 - A 1 2 * A 2 1) - A 0 1 * (A 1 0 * A 2 2 - A 1 2 * A 2 0) + A 0 2 * (A 1 0 * A 2 1 - A 1 1 * A 2 0)

/-- The adjugate. -/
def adj3 (A : Fin 3 → Fin 3 → ℝ) : Fin 3 → Fin 3 → ℝ := ![
  ![A 1 1 * A 2 2 - A 1 2 * A 2 1, A 0 2 * A 2 1 - A 0 1 * A 2 2, A 0 1 * A 1 2 - A 0 2 * A 1 1],
  ![A 1 2 * A 2 0 - A 1 0 * A 2 2, A 0 0 * A 2 2 - A 0 2 * A 2 0, A 0 2 * A 1 0 - A 0 0 * A 1 2],
  ![A 1 0 * A 2 1 - A 1 1 * A 2 0, A 0 1 * A 2 0 - A 0 0 * A 2 1, A 0 0 * A 1 1 - A 0 1 * A 1 0]]

/-- The adjugate on the right gives the determinant's multiple. -/
theorem adj3_right (A : Fin 3 → Fin 3 → ℝ) (r c : Fin 3) :
    A r 0 * adj3 A 0 c + A r 1 * adj3 A 1 c + A r 2 * adj3 A 2 c = if r = c then det3 A else 0 := by
  fin_cases r <;> fin_cases c <;> simp [adj3, det3] <;> ring

/-- The adjugate on the left likewise. -/
theorem adj3_left (A : Fin 3 → Fin 3 → ℝ) (r c : Fin 3) :
    adj3 A r 0 * A 0 c + adj3 A r 1 * A 1 c + adj3 A r 2 * A 2 c = if r = c then det3 A else 0 := by
  fin_cases r <;> fin_cases c <;> simp [adj3, det3] <;> ring

/-- The start: the matrix beside the identity, of nonzero determinant. -/
theorem good_start {A : Fin 3 → Fin 3 → ℝ} {G : Fin 3 → Fin 6 → ℝ} (hd : det3 A ≠ 0) (hl : ∀ r c, G r (lft c) = A r c)
    (hr : ∀ r c, G r (rgt c) = if r = c then 1 else 0) : Good 0 A G := by
  constructor
  · intro r c
    rw [hl, hr, hr, hr]
    fin_cases r <;> simp
  · intro x y z h
    have h0 := h 0
    have h1 := h 1
    have h2 := h 2
    simp only [hl] at h0 h1 h2
    have l := fun r c => adj3_left A r c
    have key : ∀ (r : Fin 3), (if r = 0 then det3 A else 0) * x + (if r = 1 then det3 A else 0) * y + (if r = 2 then det3 A else 0) * z = 0 := fun r => by
      rw [← l r 0, ← l r 1, ← l r 2]
      linear_combination adj3 A r 0 * h0 + adj3 A r 1 * h1 + adj3 A r 2 * h2
    have k0 := key 0
    have k1 := key 1
    have k2 := key 2
    simp at k0 k1 k2
    exact ⟨k0.resolve_left hd, k1.resolve_left hd, k2.resolve_left hd⟩
  · intro c hc
    exact absurd hc (Nat.not_lt_zero _)

/-- The end: the right half is the inverse, the adjugate over the determinant. -/
theorem Good.inverse {A : Fin 3 → Fin 3 → ℝ} {G : Fin 3 → Fin 6 → ℝ} (hd : det3 A ≠ 0) (h : Good 3 A G) (r j : Fin 3) :
    G r (rgt j) = adj3 A r j * (1 / det3 A) := by
  have e : ∀ c : Fin 3, (if r = c then (1 : ℝ) else 0) = G r (rgt 0) * A 0 c + G r (rgt 1) * A 1 c + G r (rgt 2) * A 2 c := fun c =>
    (h.done c c.isLt r).symm.trans (h.prod r c)
  have l := adj3_right A
  have hs : (if r = 0 then (1 : ℝ) else 0) * adj3 A 0 j + (if r = 1 then (1 : ℝ) else 0) * adj3 A 1 j + (if r = 2 then (1 : ℝ) else 0) * adj3 A 2 j
      = adj3 A r j := by fin_cases r <;> simp
  have hj : G r (rgt 0) * (if (0 : Fin 3) = j then det3 A else 0) + G r (rgt 1) * (if (1 : Fin 3) = j then det3 A else 0)
      + G r (rgt 2) * (if (2 : Fin 3) = j then det3 A else 0) = G r (rgt j) * det3 A := by fin_cases j <;> simp
  have m : G r (rgt j) * det3 A = adj3 A r j := by
    rw [← hs, ← hj, e 0, e 1, e 2, ← l 0 j, ← l 1 j, ← l 2 j]; ring
  rw [← m, mul_assoc, mul_one_div_cancel hd, mul_one]

end Cert.Proof
-- ==== Proof.RefSteps.lean ====
module

public import proofs.«01_k».proof.Proof.Elimination
public import proofs.«01_k».proof.Proof.RefGather
public import proofs.«01_k».proof.Proof.Argmax
public import Idealize.ShloMosaic.Lib.IdealHost
public import Idealize.ShloMosaic.Lib.ReduceAll

@[expose] public section

set_option maxRecDepth 16384
noncomputable section

namespace Cert.Proof.Reference

open Cert.ReferenceIdeal Cert.ReferenceIdeal.Gen Cert.ReferenceIdeal.Read
open Idealize.ShloMosaic Idealize.ShloMosaic.TcCoe Idealize.ShloMosaic.ValueIdx

/-! # One elimination step of the reference's inverse -/

/-! ## The indices -/

abbrev inTri (b : Fin 64) (r : Fin 3) : S64x3.Idx := fun a => match a with | ⟨0, _⟩ => b | ⟨1, _⟩ => r
abbrev inBatch (b : Fin 64) : S64.Idx := fun a => match a with | ⟨0, _⟩ => b
abbrev inBatch1 (b : Fin 64) : S64x1.Idx := fun a => match a with | ⟨0, _⟩ => b | ⟨1, _⟩ => ⟨0, Nat.one_pos⟩
abbrev inNos (r : Fin 3) : S1x3.Idx := fun a => match a with | ⟨0, _⟩ => ⟨0, Nat.one_pos⟩ | ⟨1, _⟩ => r
abbrev inNos1 (r : Fin 3) : S1x3x1.Idx := fun a => match a with | ⟨0, _⟩ => ⟨0, Nat.one_pos⟩ | ⟨1, _⟩ => r | ⟨2, _⟩ => ⟨0, Nat.one_pos⟩
abbrev inLead (b : Fin 64) (c : Fin 6) : S64x1x6.Idx := fun a => match a with | ⟨0, _⟩ => b | ⟨1, _⟩ => ⟨0, Nat.one_pos⟩ | ⟨2, _⟩ => c
abbrev inLead1 (b : Fin 64) : S64x1x1.Idx := fun a => match a with | ⟨0, _⟩ => b | ⟨1, _⟩ => ⟨0, Nat.one_pos⟩ | ⟨2, _⟩ => ⟨0, Nat.one_pos⟩

/-! ## The broadcasts -/

variable {α : Type}

theorem spread_nos (x : S1x3.Idx → α) (b : Fin 64) (r : Fin 3) : broadcastInDim S64x3 ![0, 1] bcast_S1x3_S64x3_0_1 x (inTri b r) = x (inNos r) :=
  broadcastInDim_apply _ _ x _ (inNos r) (fun a => match a with | ⟨0, _⟩ => rfl | ⟨1, _⟩ => rfl)
theorem spread_batch1 (x : S64x1.Idx → α) (b : Fin 64) (r : Fin 3) : broadcastInDim S64x3 ![0, 1] bcast_S64x1_S64x3_0_1 x (inTri b r) = x (inBatch1 b) :=
  broadcastInDim_apply _ _ x _ (inBatch1 b) (fun a => match a with | ⟨0, _⟩ => rfl | ⟨1, _⟩ => rfl)
theorem spread_batch (x : S64.Idx → α) (b : Fin 64) : broadcastInDim S64x1 ![0] bcast_S64_S64x1_0 x (inBatch1 b) = x (inBatch b) :=
  broadcastInDim_apply _ _ x _ (inBatch b) (fun a => match a with | ⟨0, _⟩ => rfl)
theorem spread_tri (x : S64x3.Idx → α) (b : Fin 64) (r : Fin 3) : broadcastInDim S64x3x1 ![0, 1] bcast_S64x3_S64x3x1_0_1 x (inRow1 b r) = x (inTri b r) :=
  broadcastInDim_apply _ _ x _ (inTri b r) (fun a => match a with | ⟨0, _⟩ => rfl | ⟨1, _⟩ => rfl)
theorem spread_flag (x : S64x3.Idx → α) (b : Fin 64) (r : Fin 3) (c : Fin 6) : broadcastInDim S64x3x6 ![0, 1] bcast_S64x3_S64x3x6_0_1 x (inAug b r c) = x (inTri b r) :=
  broadcastInDim_apply _ _ x _ (inTri b r) (fun a => match a with | ⟨0, _⟩ => rfl | ⟨1, _⟩ => rfl)
theorem spread_lead1 (x : S64x1x1.Idx → α) (b : Fin 64) (c : Fin 6) : broadcastInDim S64x1x6 ![0, 1, 2] bcast_S64x1x1_S64x1x6_0_1_2 x (inLead b c) = x (inLead1 b) :=
  broadcastInDim_apply _ _ x _ (inLead1 b) (fun a => match a with | ⟨0, _⟩ => rfl | ⟨1, _⟩ => rfl | ⟨2, _⟩ => rfl)
theorem spread_row1 (x : S64x3x1.Idx → α) (b : Fin 64) (r : Fin 3) (c : Fin 6) : broadcastInDim S64x3x6 ![0, 1, 2] bcast_S64x3x1_S64x3x6_0_1_2 x (inAug b r c) = x (inRow1 b r) :=
  broadcastInDim_apply _ _ x _ (inRow1 b r) (fun a => match a with | ⟨0, _⟩ => rfl | ⟨1, _⟩ => rfl | ⟨2, _⟩ => rfl)
theorem spread_lead (x : S64x1x6.Idx → α) (b : Fin 64) (r : Fin 3) (c : Fin 6) : broadcastInDim S64x3x6 ![0, 1, 2] bcast_S64x1x6_S64x3x6_0_1_2 x (inAug b r c) = x (inLead b c) :=
  broadcastInDim_apply _ _ x _ (inLead b c) (fun a => match a with | ⟨0, _⟩ => rfl | ⟨1, _⟩ => rfl | ⟨2, _⟩ => rfl)
theorem spread_nos1 (x : S1x3x1.Idx → α) (b : Fin 64) (r : Fin 3) (c : Fin 6) : broadcastInDim S64x3x6 ![0, 1, 2] bcast_S1x3x1_S64x3x6_0_1_2 x (inAug b r c) = x (inNos1 r) :=
  broadcastInDim_apply _ _ x _ (inNos1 r) (fun a => match a with | ⟨0, _⟩ => rfl | ⟨1, _⟩ => rfl | ⟨2, _⟩ => rfl)

theorem cmpi_at {s : Shape} (q : CmpIPredicate) (x y : IVec s 32) (i : s.Idx) : cmpi q x y i = IntOp.cmpi q (x i) (y i) := rfl
theorem addi_at {s : Shape} (x y : IVec s 32) (i : s.Idx) : addi x y i = x i + y i := rfl
theorem andi_at {s : Shape} (x y : IVec s 1) (i : s.Idx) : andi x y i = IntOp.andi (x i) (y i) := rfl

/-! ## The step's parts -/

/-- The numbers of the rows. -/
def rowNos : IVec S1x3 32 := broadcastInDim S1x3 ![1] bcast_S3_S1x3_1 (iotaInDim S3 32 0)

/-- A column's magnitudes at and below row `w`, and minus one above. -/
def candidates (w : BitVec 32) (o : ℕ) (hc : S64x3x6.Slices ![0, 0, o] S64x3x1) (M : FVec Ideal S64x3x6 .f32) : FVec Ideal S64x3 .f32 :=
  select (broadcastInDim S64x3 ![0, 1] bcast_S1x3_S64x3_0_1 (cmpi .sge rowNos (broadcastInDim S1x3 ![] bcast_S_S1x3 (constantI S_ 32 w))))
    (Host.absf (shapeCast S64x3 (extractStridedSlice S64x3x1 ![0, 0, o] M hc) shapeCasts_S64x3x1_S64x3))
    (broadcastInDim S64x3 ![] bcast_S_S64x3 (constant S_ .f32 0xBF800000#32))

/-- The largest candidate, of each batch. -/
def largest (C : FVec Ideal S64x3 .f32) : FVec Ideal S64 .f32 :=
  Host.reduce FloatOps.maximumf C (constant S_ .f32 0xFF800000#32) reducesTo_S64x3_S64_d1 h_S_

/-- Its row's number where a row is largest, else three. -/
def offered (C : FVec Ideal S64x3 .f32) : IVec S64x3 32 :=
  select (cmpf .oeq C (broadcastInDim S64x3 ![0, 1] bcast_S64x1_S64x3_0_1 (broadcastInDim S64x1 ![0] bcast_S64_S64x1_0 (largest C))))
    (iotaInDim S64x3 32 1) (broadcastInDim S64x3 ![] bcast_S_S64x3 (constantI S_ 32 3#32))

/-- The first largest candidate's row. -/
def pivots (C : FVec Ideal S64x3 .f32) : IVec S64x1 32 :=
  broadcastInDim S64x1 ![0] bcast_S64_S64x1_0 (Host.reduce IntOp.minsi (offered C) (constantI S_ 32 2147483647#32) reducesTo_S64x3_S64_d1 h_S_)

/-- Where each row is taken from when the pivot's row and row `w` change places. -/
def sources (w : BitVec 32) (P : IVec S64x1 32) : IVec S64x3 32 :=
  select (broadcastInDim S64x3 ![0, 1] bcast_S1x3_S64x3_0_1 (cmpi .eq rowNos (broadcastInDim S1x3 ![] bcast_S_S1x3 (constantI S_ 32 w))))
    (broadcastInDim S64x3 ![0, 1] bcast_S64x1_S64x3_0_1 P)
    (select (cmpi .eq (broadcastInDim S64x3 ![0, 1] bcast_S1x3_S64x3_0_1 rowNos) (broadcastInDim S64x3 ![0, 1] bcast_S64x1_S64x3_0_1 P))
      (broadcastInDim S64x3 ![] bcast_S_S64x3 (constantI S_ 32 w)) (broadcastInDim S64x3 ![0, 1] bcast_S1x3_S64x3_0_1 rowNos))

/-- The row numbers to look up, counted from the end where negative. -/
def wrapped (S : IVec S64x3 32) : IVec S64x3x1 32 :=
  select (cmpi .slt (broadcastInDim S64x3x1 ![0, 1] bcast_S64x3_S64x3x1_0_1 S) (broadcastInDim S64x3x1 ![] bcast_S_S64x3x1 (constantI S_ 32 0#32)))
    (addi (broadcastInDim S64x3x1 ![0, 1] bcast_S64x3_S64x3x1_0_1 S) (broadcastInDim S64x3x1 ![] bcast_S_S64x3x1 (constantI S_ 32 3#32)))
    (broadcastInDim S64x3x1 ![0, 1] bcast_S64x3_S64x3x1_0_1 S)

/-- Whether a looked up row is there. -/
def present (S : IVec S64x3 32) : IVec S64x3x1 1 :=
  andi (cmpi .sge (wrapped S) (broadcastInDim S64x3x1 ![] bcast_S_S64x3x1 (constantI S_ 32 0#32)))
    (cmpi .sle (wrapped S) (broadcastInDim S64x3x1 ![0, 1, 2] bcast_S1x1x1_S64x3x1_0_1_2 (broadcastInDim S1x1x1 ![2] bcast_S1_S1x1x1_2 (constantI S1 32 2#32))))

/-- The rows looked up. -/
def taken (M : FVec Ideal S64x3x6 .f32) (S : IVec S64x3 32) : FVec Ideal S64x3x6 .f32 :=
  select (broadcastInDim S64x3x6 ![0, 1] bcast_S64x3_S64x3x6_0_1 (Host.reduce IntOp.andi (present S) (constantI S_ 1 1#1) reducesTo_S64x3x1_S64x3_d2 h_S_))
    (Host.gather gather_S64x3x6_S64x3x1_S64x3x6_2_1_0_0_1_2_116 M (wrapped S))
    (broadcastInDim S64x3x6 ![] bcast_S_S64x3x6 (constant S_ .f32 0x7FC00000#32))

/-- The leading row, scaled. -/
def scaled (o : ℕ) (hr : S64x3x6.Slices ![0, o, 0] S64x1x6) (hp : S64x3x6.Slices ![0, o, o] S64x1x1) (T : FVec Ideal S64x3x6 .f32) : FVec Ideal S64x1x6 .f32 :=
  Host.divf (extractStridedSlice S64x1x6 ![0, o, 0] T hr)
    (broadcastInDim S64x1x6 ![0, 1, 2] bcast_S64x1x1_S64x1x6_0_1_2 (extractStridedSlice S64x1x1 ![0, o, o] T hp))

/-- The column cleared. -/
def reduced (w : BitVec 32) (o : ℕ) (hc : S64x3x6.Slices ![0, 0, o] S64x3x1) (T : FVec Ideal S64x3x6 .f32) (L : FVec Ideal S64x1x6 .f32) : FVec Ideal S64x3x6 .f32 :=
  select (broadcastInDim S64x3x6 ![0, 1, 2] bcast_S1x3x1_S64x3x6_0_1_2 (cmpi .eq (broadcastInDim S1x3x1 ![0, 1] bcast_S1x3_S1x3x1_0_1 rowNos) (broadcastInDim S1x3x1 ![] bcast_S_S1x3x1 (constantI S_ 32 w))))
    (broadcastInDim S64x3x6 ![0, 1, 2] bcast_S64x1x6_S64x3x6_0_1_2 L)
    (subf T (mulf (broadcastInDim S64x3x6 ![0, 1, 2] bcast_S64x3x1_S64x3x6_0_1_2 (extractStridedSlice S64x3x1 ![0, 0, o] T hc)) (broadcastInDim S64x3x6 ![0, 1, 2] bcast_S64x1x6_S64x3x6_0_1_2 L)))

/-- The rows with the pivot's in its place. -/
def exchanged (w : BitVec 32) (o : ℕ) (hc : S64x3x6.Slices ![0, 0, o] S64x3x1) (M : FVec Ideal S64x3x6 .f32) : FVec Ideal S64x3x6 .f32 :=
  taken M (sources w (pivots (candidates w o hc M)))

/-- The whole step. -/
def step (w : BitVec 32) (o : ℕ) (hc : S64x3x6.Slices ![0, 0, o] S64x3x1) (hr : S64x3x6.Slices ![0, o, 0] S64x1x6) (hp : S64x3x6.Slices ![0, o, o] S64x1x1)
    (M : FVec Ideal S64x3x6 .f32) : FVec Ideal S64x3x6 .f32 :=
  reduced w o hc (exchanged w o hc M) (scaled o hr hp (exchanged w o hc M))

/-! ## The reference's three steps are this one -/

variable (x1 : (⟨S64x3x3, .f32⟩ : BufTy).Contents (Elt Ideal))

theorem taken_0 : val_main_v171 (F := Ideal) x1 = exchanged 0#32 0 slices_S64x3x6_S64x3x1_0_0_0 (val_main_v146 x1) := rfl
theorem taken_1 : val_main_v207 (F := Ideal) x1 = exchanged 1#32 1 slices_S64x3x6_S64x3x1_0_0_1 (val_main_v184 x1) := rfl
theorem taken_2 : val_main_v243 (F := Ideal) x1 = exchanged 2#32 2 slices_S64x3x6_S64x3x1_0_0_2 (val_main_v220 x1) := rfl

theorem step_0 : val_main_v184 (F := Ideal) x1
    = step 0#32 0 slices_S64x3x6_S64x3x1_0_0_0 slices_S64x3x6_S64x1x6_0_0_0 slices_S64x3x6_S64x1x1_0_0_0 (val_main_v146 x1) := by
  unfold step
  rw [← taken_0]
  rfl
theorem step_1 : val_main_v220 (F := Ideal) x1
    = step 1#32 1 slices_S64x3x6_S64x3x1_0_0_1 slices_S64x3x6_S64x1x6_0_1_0 slices_S64x3x6_S64x1x1_0_1_1 (val_main_v184 x1) := by
  unfold step
  rw [← taken_1]
  rfl
theorem step_2 : val_main_v256 (F := Ideal) x1
    = step 2#32 2 slices_S64x3x6_S64x3x1_0_0_2 slices_S64x3x6_S64x1x6_0_2_0 slices_S64x3x6_S64x1x1_0_2_2 (val_main_v220 x1) := by
  unfold step
  rw [← taken_2]
  rfl

/-! ## Its parts at an index -/

theorem minus_one : Ideal.ofBits .f32 0xBF800000#32 = ((-1 : ℝ) : EReal) := by
  have e1 : BitVec.extractLsb' 31 1 0xBF800000#32 = 1#1 := by decide
  have e2 : BitVec.extractLsb' 23 8 0xBF800000#32 = 127#8 := by decide
  have e3 : BitVec.extractLsb' 0 23 0xBF800000#32 = 0#23 := by decide
  unfold Ideal.ofBits Ideal.ieee
  simp only [e1, e2, e3]
  rw [if_neg (by decide), if_neg (by decide)]
  congr 1; push_cast; norm_num

/-- The value a row offers as pivot of step `k`. -/
def offer (k : Fin 3) (G : Fin 3 → Fin 6 → ℝ) (r : Fin 3) : ℝ := if k ≤ r then |G r (lft k)| else -1

theorem row_at_least : ∀ k r : Fin 3, IntOp.cmpi .sge (BitVec.ofNat 32 r.val) (BitVec.ofNat 32 k.val) = if k ≤ r then 1#1 else 0#1 := by decide

theorem candidate_at (k : Fin 3) (hc : S64x3x6.Slices ![0, 0, k.val] S64x3x1) (M : FVec Ideal S64x3x6 .f32) (b : Fin 64) (G : Fin 3 → Fin 6 → ℝ)
    (hM : ∀ r c, M (inAug b r c) = (G r c : EReal)) (r : Fin 3) :
    candidates (BitVec.ofNat 32 k.val) k.val hc M (inTri b r) = (offer k G r : EReal) := by
  have e : shapeCast S64x3 (extractStridedSlice S64x3x1 ![0, 0, k.val] M hc) shapeCasts_S64x3x1_S64x3 (inTri b r) = (G r (lft k) : EReal) := by
    refine (shapeCast_apply _ _ (inTri b r) (inRow1 b r) ?_).trans ((extractStridedSlice_apply _ M hc (inRow1 b r) (inAug b r (lft k))
      (fun a => match a with | ⟨0, _⟩ => by show b.val = 0 + b.val; omega | ⟨1, _⟩ => by show r.val = 0 + r.val; omega | ⟨2, _⟩ => rfl)).trans (hM r (lft k)))
    rw [Shape.rowMajor_val_three, Shape.rowMajor_val_two]
    show (b.val * 3 + r.val) * 1 + 0 = b.val * 3 + r.val
    omega
  unfold candidates
  rw [select_apply, spread_nos]
  refine (congrArg₂ (fun w z => Scalar.select w z (Ideal.ofBits .f32 0xBF800000#32)) (row_at_least k r)
    (show Host.absf (shapeCast S64x3 (extractStridedSlice S64x3x1 ![0, 0, k.val] M hc) shapeCasts_S64x3x1_S64x3) (inTri b r) = ((|G r (lft k)| : ℝ) : EReal) from ?_)).trans ?_
  · refine (congrArg (fun z : EReal => max z (-z)) e).trans ?_
    rw [← EReal.coe_neg, coe_max']; rfl
  · unfold offer
    by_cases h : k ≤ r
    · rw [if_pos h, if_pos h]; exact if_pos rfl
    · rw [if_neg h, if_neg h, ← minus_one]; exact if_neg (by decide)

theorem reduces_rows : S64x3.Reduces [1] S64 := by decide

theorem lift_rows (b : Fin 64) (r : Fin 3) : reduces_rows.lift (inBatch b) r = inTri b r := by
  funext a
  apply Fin.ext
  show reduces_rows.liftVal (inBatch b) r.val a = _
  match a with
  | ⟨0, _⟩ => rfl
  | ⟨1, _⟩ => rfl

theorem bottom : Ideal.ofBits .f32 0xFF800000#32 = ⊥ := by
  have e1 : BitVec.extractLsb' 31 1 0xFF800000#32 = 1#1 := by decide
  have e2 : BitVec.extractLsb' 23 8 0xFF800000#32 = 255#8 := by decide
  have e3 : BitVec.extractLsb' 0 23 0xFF800000#32 = 0#23 := by decide
  unfold Ideal.ofBits Ideal.ieee
  simp only [e1, e2, e3]
  rfl

theorem largest_at' (C : FVec Ideal S64x3 .f32) (b : Fin 64) : largest C (inBatch b) = Finset.univ.fold max ⊥ (fun r : Fin 3 => C (inTri b r)) := by
  unfold largest
  refine (Host.reduce_eq_fold_single (FloatOps.maximumf (F := Ideal) (φ := .f32)) _ _ _ reduces_rows _ _).trans ?_
  rw [show (constant (F := Ideal) S_ .f32 0xFF800000#32) (Shape.Idx.first h_S_) = ⊥ from bottom]
  exact congrArg (fun f => Finset.univ.fold max ⊥ f) (funext fun r => congrArg C (lift_rows b r))

theorem offered_at (C : FVec Ideal S64x3 .f32) (b : Fin 64) (r : Fin 3) : offered C (inTri b r)
    = Scalar.select (Ideal.cmp .oeq (C (inTri b r)) (Finset.univ.fold max ⊥ (fun r : Fin 3 => C (inTri b r)))) (BitVec.ofNat 32 r.val) 3#32 := by
  unfold offered
  rw [select_apply, cmpf_apply, spread_batch1, spread_batch, largest_at']
  rfl

/-- The pivot's row is the first of the largest candidates. -/
theorem pivot_at (C : FVec Ideal S64x3 .f32) (b : Fin 64) :
    ∃ p : Fin 3, IsFirstMax (fun r => C (inTri b r)) p ∧ pivots C (inBatch1 b) = BitVec.ofNat 32 p.val := by
  obtain ⟨p, hp, he⟩ := first_max_word (n := 3) (fun r : Fin 3 => C (inTri b r)) 3#32 2147483647#32 (by decide) (by decide) (by decide)
  refine ⟨p, hp, Eq.trans ?_ he⟩
  unfold pivots
  rw [spread_batch]
  refine (Host.reduce_eq_fold_single IntOp.minsi _ _ _ reduces_rows _ _).trans ?_
  exact congrArg (fun f => Finset.univ.fold IntOp.minsi 2147483647#32 f) (funext fun r => (congrArg _ (lift_rows b r)).trans (offered_at C b r))

theorem source_word : ∀ k p r : Fin 3, Scalar.select (IntOp.cmpi .eq (BitVec.ofNat 32 r.val) (BitVec.ofNat 32 k.val)) (BitVec.ofNat 32 p.val)
    (Scalar.select (IntOp.cmpi .eq (BitVec.ofNat 32 r.val) (BitVec.ofNat 32 p.val)) (BitVec.ofNat 32 k.val) (BitVec.ofNat 32 r.val))
      = BitVec.ofNat 32 (swapped k p r).val := by decide

theorem source_at (k p : Fin 3) (P : IVec S64x1 32) (b : Fin 64) (h : P (inBatch1 b) = BitVec.ofNat 32 p.val) (r : Fin 3) :
    sources (BitVec.ofNat 32 k.val) P (inTri b r) = BitVec.ofNat 32 (swapped k p r).val := by
  unfold sources
  rw [select_apply, select_apply, spread_nos, spread_batch1, h, cmpi_at, cmpi_at, spread_batch1, h, spread_nos]
  exact source_word k p r

theorem wrap_word : ∀ s : Fin 3, Scalar.select (IntOp.cmpi .slt (BitVec.ofNat 32 s.val) 0#32) (BitVec.ofNat 32 s.val + 3#32) (BitVec.ofNat 32 s.val)
    = BitVec.ofNat 32 s.val := by decide

theorem wrapped_at (S : IVec S64x3 32) (b : Fin 64) (r s : Fin 3) (h : S (inTri b r) = BitVec.ofNat 32 s.val) :
    wrapped S (inRow1 b r) = BitVec.ofNat 32 s.val := by
  unfold wrapped
  rw [select_apply, cmpi_at, addi_at, spread_tri, h]
  exact wrap_word s

theorem present_word : ∀ s : Fin 3, IntOp.andi (IntOp.cmpi .sge (BitVec.ofNat 32 s.val) 0#32) (IntOp.cmpi .sle (BitVec.ofNat 32 s.val) 2#32) = 1#1 := by decide

theorem row_word : ∀ s : Fin 3, min (BitVec.ofNat 32 s.val).toInt.toNat 2 = s.val := by decide

/-- Looking up rows that are all there. -/
theorem taken_at (M : FVec Ideal S64x3x6 .f32) (S : IVec S64x3 32) (s : Fin 64 → Fin 3 → Fin 3)
    (h : ∀ b r, S (inTri b r) = BitVec.ofNat 32 (s b r).val) (b : Fin 64) (r : Fin 3) (c : Fin 6) :
    taken M S (inAug b r c) = M (inAug b (s b r) c) := by
  unfold taken
  rw [select_apply, spread_flag, Host.reduce_andi_one (present S) (constantI S_ 1 1#1) reducesTo_S64x3x1_S64x3_d2 h_S_ (inTri b r) rfl fun i => ?_]
  · refine (if_pos rfl).trans ?_
    rw [rows_gather]
    refine congrArg M (congrArg (fun q => inAug b q c) (Fin.ext ?_))
    show min (wrapped S (inRow1 b r)).toInt.toNat 2 = (s b r).val
    rw [wrapped_at S b r (s b r) (h b r)]
    exact row_word _
  · have hi : i = inRow1 (i 0) (i 1) := funext fun a => match a with
      | ⟨0, _⟩ => rfl | ⟨1, _⟩ => rfl
      | ⟨2, _⟩ => Fin.ext (by have h2 : (i 2).val < 1 := (i 2).isLt; show (i 2).val = 0; omega)
    rw [hi]
    unfold present
    rw [andi_at, cmpi_at, cmpi_at, wrapped_at S (i 0) (i 1) (s (i 0) (i 1)) (h (i 0) (i 1))]
    exact present_word _

end Cert.Proof.Reference
-- ==== Proof.RefInverse.lean ====
module

public import proofs.«01_k».proof.Proof.RefSteps

@[expose] public section

set_option maxRecDepth 16384
noncomputable section

namespace Cert.Proof.Reference

open Cert.ReferenceIdeal Cert.ReferenceIdeal.Gen Cert.ReferenceIdeal.Read
open Idealize.ShloMosaic Idealize.ShloMosaic.TcCoe Idealize.ShloMosaic.ValueIdx

/-! # The reference's inverse -/

theorem scaled_at (k : Fin 3) (hr : S64x3x6.Slices ![0, k.val, 0] S64x1x6) (hp : S64x3x6.Slices ![0, k.val, k.val] S64x1x1) (T : FVec Ideal S64x3x6 .f32)
    (b : Fin 64) (c : Fin 6) : scaled k.val hr hp T (inLead b c) = Ideal.div (T (inAug b k c)) (T (inAug b k (lft k))) := by
  have e1 : extractStridedSlice S64x1x6 ![0, k.val, 0] T hr (inLead b c) = T (inAug b k c) :=
    extractStridedSlice_apply _ T hr (inLead b c) (inAug b k c)
      (fun a => match a with | ⟨0, _⟩ => by show b.val = 0 + b.val; omega | ⟨1, _⟩ => rfl | ⟨2, _⟩ => by show c.val = 0 + c.val; omega)
  have e2 : extractStridedSlice S64x1x1 ![0, k.val, k.val] T hp (inLead1 b) = T (inAug b k (lft k)) :=
    extractStridedSlice_apply _ T hp (inLead1 b) (inAug b k (lft k))
      (fun a => match a with | ⟨0, _⟩ => by show b.val = 0 + b.val; omega | ⟨1, _⟩ => rfl | ⟨2, _⟩ => rfl)
  unfold scaled
  exact congrArg₂ Ideal.div e1 ((spread_lead1 _ b c).trans e2)

theorem row_is : ∀ k r : Fin 3, IntOp.cmpi .eq (BitVec.ofNat 32 r.val) (BitVec.ofNat 32 k.val) = if r = k then 1#1 else 0#1 := by decide

theorem reduced_at (k : Fin 3) (hc : S64x3x6.Slices ![0, 0, k.val] S64x3x1) (T : FVec Ideal S64x3x6 .f32) (L : FVec Ideal S64x1x6 .f32)
    (b : Fin 64) (r : Fin 3) (c : Fin 6) : reduced (BitVec.ofNat 32 k.val) k.val hc T L (inAug b r c)
      = if r = k then L (inLead b c) else T (inAug b r c) - T (inAug b r (lft k)) * L (inLead b c) := by
  have e1 : extractStridedSlice S64x3x1 ![0, 0, k.val] T hc (inRow1 b r) = T (inAug b r (lft k)) :=
    extractStridedSlice_apply _ T hc (inRow1 b r) (inAug b r (lft k))
      (fun a => match a with | ⟨0, _⟩ => by show b.val = 0 + b.val; omega | ⟨1, _⟩ => by show r.val = 0 + r.val; omega | ⟨2, _⟩ => rfl)
  unfold reduced
  rw [select_apply, spread_nos1, subf_apply, mulf_apply, spread_row1, spread_lead, e1]
  refine (congrArg (fun w => Scalar.select w (L (inLead b c)) (T (inAug b r c) - T (inAug b r (lft k)) * L (inLead b c))) (row_is k r)).trans ?_
  by_cases h : r = k
  · rw [if_pos h, if_pos h]; exact if_pos rfl
  · rw [if_neg h, if_neg h]; exact if_neg (by decide)

/-- The first of the largest candidates is a usable pivot when there is one. -/
theorem usable (k p : Fin 3) (G : Fin 3 → Fin 6 → ℝ) (hmax : ∀ r, offer k G r ≤ offer k G p) (hex : ∃ r, k ≤ r ∧ G r (lft k) ≠ 0) :
    k ≤ p ∧ G p (lft k) ≠ 0 := by
  obtain ⟨r, hr, hne⟩ := hex
  have h0 : 0 < offer k G p := by
    refine lt_of_lt_of_le ?_ (hmax r)
    unfold offer
    rw [if_pos hr]; exact abs_pos.2 hne
  unfold offer at h0
  by_cases h : k ≤ p
  · rw [if_pos h] at h0; exact ⟨h, abs_pos.1 h0⟩
  · rw [if_neg h] at h0; exact absurd h0 (by norm_num)

/-- One step on a batch of reals. -/
theorem step_at (k : Fin 3) (hc : S64x3x6.Slices ![0, 0, k.val] S64x3x1) (hr : S64x3x6.Slices ![0, k.val, 0] S64x1x6) (hp : S64x3x6.Slices ![0, k.val, k.val] S64x1x1)
    (M : FVec Ideal S64x3x6 .f32) (b : Fin 64) (G : Fin 3 → Fin 6 → ℝ) (hM : ∀ r c, M (inAug b r c) = (G r c : EReal)) (hex : ∃ r, k ≤ r ∧ G r (lft k) ≠ 0) :
    ∃ p, k ≤ p ∧ G p (lft k) ≠ 0 ∧ ∀ r c, step (BitVec.ofNat 32 k.val) k.val hc hr hp M (inAug b r c) = (cleared k p G r c : EReal) := by
  choose q hfirst hq using pivot_at (candidates (BitVec.ofNat 32 k.val) k.val hc M)
  have hmax : ∀ r, offer k G r ≤ offer k G (q b) := fun r => by
    have h := (hfirst b).1 r
    simp only [candidate_at k hc M b G hM] at h
    exact EReal.coe_le_coe_iff.1 h
  obtain ⟨hkp, hne⟩ := usable k (q b) G hmax hex
  refine ⟨q b, hkp, hne, fun r c => ?_⟩
  have hT : ∀ r c, exchanged (BitVec.ofNat 32 k.val) k.val hc M (inAug b r c) = (G (swapped k (q b) r) c : EReal) := fun r c =>
    (taken_at M _ (fun b r => swapped k (q b) r) (fun b r => source_at k (q b) _ b (hq b) r) b r c).trans (hM _ c)
  have hk : swapped k (q b) k = q b := if_pos rfl
  have hL : scaled k.val hr hp (exchanged (BitVec.ofNat 32 k.val) k.val hc M) (inLead b c) = ((G (q b) c * (1 / G (q b) (lft k)) : ℝ) : EReal) := by
    rw [scaled_at, hT, hT, hk, Ideal.div_coe hne, ← EReal.coe_mul]
  unfold step
  rw [reduced_at, hL, hT, hT]
  unfold cleared
  by_cases h : r = k
  · rw [if_pos h, if_pos h]
  · rw [if_neg h, if_neg h, ← EReal.coe_mul, ← EReal.coe_sub]

/-- Batch `b`, row `r`, column `c` of the rotations. -/
abbrev inMat (b : Fin 64) (r c : Fin 3) : S64x3x3.Idx := fun a => match a with | ⟨0, _⟩ => b | ⟨1, _⟩ => r | ⟨2, _⟩ => c

theorem eye_bit : ∀ r c : Fin 3, IntOp.cmpi .eq (IntOp.addi (BitVec.ofNat 32 r.val) 0#32) (BitVec.ofNat 32 c.val) = if r = c then 1#1 else 0#1 := by decide

theorem eye_at (b : Fin 64) (r c : Fin 3) : val_main_v145 (F := Ideal) (inMat b r c) = ((if r = c then 1 else 0 : ℝ) : EReal) := by
  rw [val_main_v145_apply, val_main_v144_apply, val_main_v143_apply, val_main_v142_apply, val_main_v141_apply, val_main_v139_apply, val_main_v140_apply, val_main_c_37_apply]
  refine (congrArg (fun w : BitVec 1 => ((w.toNat : ℝ) : EReal)) (eye_bit r c)).trans ?_
  by_cases h : r = c
  · rw [if_pos h, if_pos h]; norm_num
  · rw [if_neg h, if_neg h]; norm_num

variable (x1 : (⟨S64x3x3, .f32⟩ : BufTy).Contents (Elt Ideal))

theorem aug_left (b : Fin 64) (r c : Fin 3) : val_main_v146 (F := Ideal) x1 (inAug b r (lft c)) = x1 (inMat b r c) := by
  unfold val_main_v146
  exact concatenate_pair_apply_left 2 _ _ concatenates_S64x3x3_S64x3x3_S64x3x6_d2 (inAug b r (lft c)) rfl (inMat b r c)
    (fun a => match a with | ⟨0, _⟩ => rfl | ⟨1, _⟩ => rfl | ⟨2, _⟩ => rfl)

theorem aug_right (b : Fin 64) (r c : Fin 3) : val_main_v146 (F := Ideal) x1 (inAug b r (rgt c)) = ((if r = c then 1 else 0 : ℝ) : EReal) := by
  unfold val_main_v146
  refine (concatenate_pair_apply_right 2 _ _ concatenates_S64x3x3_S64x3x3_S64x3x6_d2 (inAug b r (rgt c)) rfl rfl (inMat b r c)
    (fun a => match a with | ⟨0, _⟩ => fun _ => rfl | ⟨1, _⟩ => fun _ => rfl | ⟨2, _⟩ => fun h => absurd rfl h) rfl).trans (eye_at b r c)

/-- The reference's inverse of a batch of reals of nonzero determinant: the adjugate over the determinant. -/
theorem inverse_at (b : Fin 64) (A : Fin 3 → Fin 3 → ℝ) (hA : ∀ r c, x1 (inMat b r c) = (A r c : EReal)) (hd : det3 A ≠ 0) (r j : Fin 3) :
    val_main_v257 (F := Ideal) x1 (inMat b r j) = ((adj3 A r j * (1 / det3 A) : ℝ) : EReal) := by
  have h0 : ∀ r c, val_main_v146 (F := Ideal) x1 (inAug b r c)
      = ((if h : c.val < 3 then A r ⟨c.val, h⟩ else if r.val = c.val - 3 then 1 else 0 : ℝ) : EReal) := fun r c => by
    by_cases h : c.val < 3
    · rw [dif_pos h, ← hA]; exact aug_left x1 b r ⟨c.val, h⟩
    · rw [dif_neg h]
      have hc := c.isLt
      have e : c = rgt ⟨c.val - 3, by omega⟩ := Fin.ext (by show c.val = c.val - 3 + 3; omega)
      rw [e]
      refine (aug_right x1 b r ⟨c.val - 3, by omega⟩).trans (congrArg _ (if_congr ?_ rfl rfl))
      rw [Fin.ext_iff]
      show r.val = c.val - 3 ↔ r.val = c.val - 3 + 3 - 3
      omega
  generalize hG0 : (fun (r : Fin 3) (c : Fin 6) => (if h : c.val < 3 then A r ⟨c.val, h⟩ else if r.val = c.val - 3 then 1 else 0 : ℝ)) = G0 at h0
  have h0' : ∀ r c, val_main_v146 (F := Ideal) x1 (inAug b r c) = (G0 r c : EReal) := fun r c => by rw [← hG0]; exact h0 r c
  have g0 : Good 0 A G0 := by
    subst hG0
    refine good_start hd (fun r c => dif_pos c.isLt) (fun r c => ?_)
    refine (dif_neg (by show ¬ (c.val + 3 < 3); omega)).trans (if_congr ?_ rfl rfl)
    rw [Fin.ext_iff]
    show r.val = c.val + 3 - 3 ↔ r.val = c.val
    omega
  obtain ⟨p0, k0, n0, h1⟩ := step_at 0 slices_S64x3x6_S64x3x1_0_0_0 slices_S64x3x6_S64x1x6_0_0_0 slices_S64x3x6_S64x1x1_0_0_0 (val_main_v146 x1) b G0 h0' (g0.pivot 0)
  have g1 : Good 1 A (cleared 0 p0 G0) := Good.next 0 p0 k0 n0 g0
  obtain ⟨p1, k1, n1, h2⟩ := step_at 1 slices_S64x3x6_S64x3x1_0_0_1 slices_S64x3x6_S64x1x6_0_1_0 slices_S64x3x6_S64x1x1_0_1_1 (val_main_v184 x1) b _
    (fun r c => (congrFun (step_0 x1) _).trans (h1 r c)) (Good.pivot 1 g1)
  have g2 : Good 2 A (cleared 1 p1 (cleared 0 p0 G0)) := Good.next 1 p1 k1 n1 g1
  obtain ⟨p2, k2, n2, h3⟩ := step_at 2 slices_S64x3x6_S64x3x1_0_0_2 slices_S64x3x6_S64x1x6_0_2_0 slices_S64x3x6_S64x1x1_0_2_2 (val_main_v220 x1) b _
    (fun r c => (congrFun (step_1 x1) _).trans (h2 r c)) (Good.pivot 2 g2)
  have g3 : Good 3 A (cleared 2 p2 (cleared 1 p1 (cleared 0 p0 G0))) := Good.next 2 p2 k2 n2 g2
  rw [← Good.inverse hd g3 r j, val_main_v257_apply]
  have e : idx_main_v257 (inMat b r j) = inAug b r (rgt j) := funext fun a => match a with
    | ⟨0, _⟩ => rfl | ⟨1, _⟩ => rfl | ⟨2, _⟩ => Fin.ext (by show _ = j.val + 3; first | rfl | exact Nat.add_comm 3 j.val)
  rw [e]
  exact (congrFun (step_2 x1) _).trans (h3 r (rgt j))

end Cert.Proof.Reference
-- ==== Proof.Cameras.lean ====
module

public import proofs.«01_k».proof.Proof.Points
public import proofs.«01_k».proof.Proof.RefInverse

@[expose] public section

set_option maxRecDepth 16384
noncomputable section

namespace Cert.Proof

open Idealize.ShloMosaic

/-! # Directions and origins -/

/-- The inverse of three rows, as extended reals. -/
def inv3 (A : Fin 3 → Fin 3 → ℝ) (r c : Fin 3) : EReal := ((adj3 A r c * (1 / det3 A) : ℝ) : EReal)

/-- A camera ray through `(u, v)` at depth one, turned by `R`. -/
def turned (R : Fin 3 → Fin 3 → EReal) (u v : EReal) (e : Fin 3) : EReal := u * R 0 e + v * R 1 e + R 2 e

/-- Its length. -/
def extent (d : Fin 3 → EReal) : EReal := Ideal.sqrt (d 0 * d 0 + d 1 * d 1 + d 2 * d 2)

/-- The ray of length one. -/
def heading (R : Fin 3 → Fin 3 → EReal) (u v : EReal) (e : Fin 3) : EReal := Ideal.div (turned R u v e) (extent (turned R u v))

/-- The camera's centre. -/
def centred (R : Fin 3 → Fin 3 → EReal) (t : Fin 3 → EReal) (e : Fin 3) : EReal := -(t 0 * R 0 e + t 1 * R 1 e + t 2 * R 2 e)

namespace Reference

open Cert.ReferenceIdeal Cert.ReferenceIdeal.Gen Cert.ReferenceIdeal.Read
open Idealize.ShloMosaic.TcCoe Idealize.ShloMosaic.ValueIdx

variable (x0 : (⟨S64x1x512x512, .f32⟩ : BufTy).Contents (Elt Ideal)) (x1 : (⟨S64x3x3, .f32⟩ : BufTy).Contents (Elt Ideal))
variable (x2 : (⟨S64x3, .f32⟩ : BufTy).Contents (Elt Ideal)) (x3 x4 : (⟨S64x2, .f32⟩ : BufTy).Contents (Elt Ideal))

/-- Batch `b`, ray `n`, axis `e` of the directions or origins. -/
abbrev inAxes (b : Fin 64) (n : Fin 1024) (e : Fin 3) : S64x1024x3.Idx := fun a => match a with | ⟨0, _⟩ => b | ⟨1, _⟩ => n | ⟨2, _⟩ => e

/-- Batch `b`, axis `e` of a pair. -/
abbrev inDuo (b : Fin 64) (e : Fin 2) : S64x2.Idx := fun a => match a with | ⟨0, _⟩ => b | ⟨1, _⟩ => e

/-- A camera coordinate: the position from the principal point over the focal length. -/
def onPlane (xy pp focal : EReal) : EReal := Ideal.div (xy - pp) focal

theorem plane_at (b : Fin 64) (n : Fin 1024) (e : Fin 2) : val_main_v136 (F := Ideal) x0 x3 x4 (inPoints b n e)
    = onPlane (val_main_v130 (F := Ideal) x0 (inPoints b n e)) (x4 (inDuo b e)) (x3 (inDuo b e)) := by
  rw [val_main_v136_apply, val_main_v133_apply, val_main_v132_apply, val_main_v131_apply, val_main_v135_apply, val_main_v134_apply]
  have e4 : idx_main_v131 (idx_main_v132 (inPoints b n e)) = inDuo b e := funext fun a => match a with | ⟨0, _⟩ => rfl | ⟨1, _⟩ => rfl
  have e3 : idx_main_v134 (idx_main_v135 (inPoints b n e)) = inDuo b e := funext fun a => match a with | ⟨0, _⟩ => rfl | ⟨1, _⟩ => rfl
  rw [e4, e3]
  rfl

theorem camera_plane (b : Fin 64) (n : Fin 1024) (e : Fin 2) :
    val_main_v138 (F := Ideal) x0 x3 x4 (inAxes b n ⟨e.val, by omega⟩) = val_main_v136 (F := Ideal) x0 x3 x4 (inPoints b n e) := by
  unfold val_main_v138
  exact concatenate_pair_apply_left 2 _ _ concatenates_S64x1024x2_S64x1024x1_S64x1024x3_d2 (inAxes b n ⟨e.val, by omega⟩) rfl (inPoints b n e)
    (fun a => match a with | ⟨0, _⟩ => rfl | ⟨1, _⟩ => rfl | ⟨2, _⟩ => rfl)

theorem camera_depth (b : Fin 64) (n : Fin 1024) : val_main_v138 (F := Ideal) x0 x3 x4 (inAxes b n 2) = 1 := by
  unfold val_main_v138
  refine (concatenate_pair_apply_right 2 _ _ concatenates_S64x1024x2_S64x1024x1_S64x1024x3_d2 (inAxes b n 2) rfl rfl (inRays1 b n)
    (fun a => match a with | ⟨0, _⟩ => fun _ => rfl | ⟨1, _⟩ => fun _ => rfl | ⟨2, _⟩ => fun h => absurd rfl h) rfl).trans ?_
  rw [val_main_v137_apply, val_main_cst_36_apply]
  exact Ideal.ofBits_one_f32

variable (b : Fin 64) (A : Fin 3 → Fin 3 → ℝ) (hA : ∀ r c, x1 (inMat b r c) = (A r c : EReal)) (hd : det3 A ≠ 0)

include hA hd in
theorem turned_at (n : Fin 1024) (e : Fin 3) : val_main_v258 (F := Ideal) x0 x1 x3 x4 (inAxes b n e)
    = turned (inv3 A) (onPlane (val_main_v130 (F := Ideal) x0 (inPoints b n 0)) (x4 (inDuo b 0)) (x3 (inDuo b 0)))
        (onPlane (val_main_v130 (F := Ideal) x0 (inPoints b n 1)) (x4 (inDuo b 1)) (x3 (inDuo b 1))) e := by
  rw [val_main_v258_apply, Fin.sum_univ_three]
  have el : ∀ k : Fin 3, lidx_main_v258 (inAxes b n e) k = inAxes b n k := fun k => funext fun a => match a with | ⟨0, _⟩ => rfl | ⟨1, _⟩ => rfl | ⟨2, _⟩ => rfl
  have er : ∀ k : Fin 3, ridx_main_v258 (inAxes b n e) k = inMat b k e := fun k => funext fun a => match a with | ⟨0, _⟩ => rfl | ⟨1, _⟩ => rfl | ⟨2, _⟩ => rfl
  rw [el, el, el, er, er, er, inverse_at x1 b A hA hd, inverse_at x1 b A hA hd, inverse_at x1 b A hA hd, camera_depth, one_mul]
  unfold turned
  refine congrArg₂ (fun u v => u * inv3 A 0 e + v * inv3 A 1 e + inv3 A 2 e) ?_ ?_
  · exact (camera_plane x0 x3 x4 b n 0).trans (plane_at x0 x3 x4 b n 0)
  · exact (camera_plane x0 x3 x4 b n 1).trans (plane_at x0 x3 x4 b n 1)

include hA hd in
/-- The reference's directions. -/
theorem heading_at (n : Fin 1024) (e : Fin 3) : val_main_v261 (F := Ideal) x0 x1 x3 x4 (inAxes b n e)
    = heading (inv3 A) (onPlane (val_main_v130 (F := Ideal) x0 (inPoints b n 0)) (x4 (inDuo b 0)) (x3 (inDuo b 0)))
        (onPlane (val_main_v130 (F := Ideal) x0 (inPoints b n 1)) (x4 (inDuo b 1)) (x3 (inDuo b 1))) e := by
  have e1 : idx_main_call32_v2 (idx_main_v260 (inAxes b n e)) = inRays b n := funext fun a => match a with | ⟨0, _⟩ => rfl | ⟨1, _⟩ => rfl
  have e2 : ∀ k : Fin 3, idx_main_call32_v1 (inRays b n) k = inAxes b n k := fun k => funext fun a => match a with | ⟨0, _⟩ => rfl | ⟨1, _⟩ => rfl | ⟨2, _⟩ => rfl
  rw [val_main_v261_apply, val_main_v260_apply, val_main_v259_apply, val_main_call32_v2_apply, e1, val_main_call32_v1_apply, Fin.sum_univ_three, e2, e2, e2,
    val_main_call32_v0_apply, val_main_call32_v0_apply, val_main_call32_v0_apply, val_main_call32_cst_apply,
    turned_at x0 x1 x3 x4 b A hA hd, turned_at x0 x1 x3 x4 b A hA hd, turned_at x0 x1 x3 x4 b A hA hd, turned_at x0 x1 x3 x4 b A hA hd]
  unfold heading extent
  generalize turned (inv3 A) (onPlane (val_main_v130 (F := Ideal) x0 (inPoints b n 0)) (x4 (inDuo b 0)) (x3 (inDuo b 0)))
        (onPlane (val_main_v130 (F := Ideal) x0 (inPoints b n 1)) (x4 (inDuo b 1)) (x3 (inDuo b 1))) = d
  refine congrArg (fun z => Ideal.div (d e) (Ideal.sqrt z)) ?_
  refine (congrArg (· + (d 0 * d 0 + d 1 * d 1 + d 2 * d 2)) Ideal.ofBits_zero_f32).trans (zero_add _)

include hA hd in
/-- The reference's origins. -/
theorem centred_at (n : Fin 1024) (e : Fin 3) : val_main_v265 (F := Ideal) x1 x2 (inAxes b n e) = centred (inv3 A) (fun k => x2 (inTri b k)) e := by
  have e1 : idx_main_v264 (idx_main_v265 (inAxes b n e)) = inTri b e := funext fun a => match a with | ⟨0, _⟩ => rfl | ⟨1, _⟩ => rfl
  have el : ∀ k : Fin 3, lidx_main_v262 (inTri b e) k = inTri b k := fun k => funext fun a => match a with | ⟨0, _⟩ => rfl | ⟨1, _⟩ => rfl
  have er : ∀ k : Fin 3, ridx_main_v262 (inTri b e) k = inMat b k e := fun k => funext fun a => match a with | ⟨0, _⟩ => rfl | ⟨1, _⟩ => rfl | ⟨2, _⟩ => rfl
  rw [val_main_v265_apply, val_main_v264_apply, e1, val_main_v263_apply, val_main_v262_apply, Fin.sum_univ_three, el, el, el, er, er, er,
    inverse_at x1 b A hA hd, inverse_at x1 b A hA hd, inverse_at x1 b A hA hd]
  rfl

end Reference

end Cert.Proof
-- ==== Proof.Views.lean ====
module

public import proofs.«01_k».proof.Proof.Spots
public import proofs.«01_k».proof.Proof.Cameras

@[expose] public section

set_option maxRecDepth 16384
noncomputable section

namespace Cert.Proof.KernelIdeal

open Cert.KernelIdeal Cert.KernelIdeal.Gen
open Idealize.ShloMosaic Idealize.ShloMosaic.TcCoe Idealize.ShloMosaic.Tactic

/-! # The kernel's directions and origins -/

/-- An entry of the inverse: a minor times the reciprocal determinant. -/
theorem minor {a b c d k : EReal} {a' b' c' d' k' : ℝ} (ha : a = (a' : EReal)) (hb : b = (b' : EReal)) (hc : c = (c' : EReal)) (hd : d = (d' : EReal))
    (hk : k = (k' : EReal)) : (a * b - c * d) * k = (((a' * b' - c' * d') * k' : ℝ) : EReal) := by
  rw [ha, hb, hc, hd, hk, ← EReal.coe_mul, ← EReal.coe_mul, ← EReal.coe_sub, ← EReal.coe_mul]

/-- The reciprocal determinant. -/
theorem reciprocal (A : Fin 3 → Fin 3 → ℝ) (hd : det3 A ≠ 0) : k1_pay8 (F := Ideal) (A 0 0 : EReal) (A 0 1 : EReal) (A 0 2 : EReal) (A 1 0 : EReal)
    (A 1 1 : EReal) (A 1 2 : EReal) (A 2 0 : EReal) (A 2 1 : EReal) (A 2 2 : EReal) = ((1 / det3 A : ℝ) : EReal) := by
  have e : k1_pay8 (F := Ideal) (A 0 0 : EReal) (A 0 1 : EReal) (A 0 2 : EReal) (A 1 0 : EReal) (A 1 1 : EReal) (A 1 2 : EReal) (A 2 0 : EReal) (A 2 1 : EReal) (A 2 2 : EReal)
      = Ideal.div (Ideal.ofBits .f32 0x3F800000#32) ((A 0 0 : EReal) * ((A 1 1 : EReal) * (A 2 2 : EReal) - (A 1 2 : EReal) * (A 2 1 : EReal))
        - (A 0 1 : EReal) * ((A 1 0 : EReal) * (A 2 2 : EReal) - (A 1 2 : EReal) * (A 2 0 : EReal))
        + (A 0 2 : EReal) * ((A 1 0 : EReal) * (A 2 1 : EReal) - (A 1 1 : EReal) * (A 2 0 : EReal))) := rfl
  rw [e, Ideal.ofBits_one_f32]
  simp only [← EReal.coe_mul, ← EReal.coe_sub, ← EReal.coe_add]
  exact (Ideal.div_coe hd 1).trans (one_mul _)

/-- The entries of the inverse the body computes. -/
def entries (x1 : Vec Ideal S1x1x9 .f32) : Fin 3 → Fin 3 → EReal :=
  ![![inv0 x1, inv1 x1, inv2 x1], ![inv3 x1, inv4 x1, inv5 x1], ![inv6 x1, inv7 x1, inv8 x1]]

/-- Entry `(r, c)` of a matrix as the block holds it. -/
abbrev at33 (r c : Fin 3) : S1x1x9.Idx := at9 ⟨r.val * 3 + c.val, by omega⟩

theorem entries_at (A : Fin 3 → Fin 3 → ℝ) (hd : det3 A ≠ 0) (x1 : Vec Ideal S1x1x9 .f32) (h : ∀ r c, x1 (at33 r c) = (A r c : EReal)) :
    entries x1 = Cert.Proof.inv3 A := by
  have hk : k1_pay8 (F := Ideal) (x1 (at9 0)) (x1 (at9 1)) (x1 (at9 2)) (x1 (at9 3)) (x1 (at9 4)) (x1 (at9 5)) (x1 (at9 6)) (x1 (at9 7)) (x1 (at9 8))
      = ((1 / det3 A : ℝ) : EReal) := by
    rw [show x1 (at9 0) = _ from h 0 0, show x1 (at9 1) = _ from h 0 1, show x1 (at9 2) = _ from h 0 2, show x1 (at9 3) = _ from h 1 0, show x1 (at9 4) = _ from h 1 1,
      show x1 (at9 5) = _ from h 1 2, show x1 (at9 6) = _ from h 2 0, show x1 (at9 7) = _ from h 2 1, show x1 (at9 8) = _ from h 2 2]
    exact reciprocal A hd
  funext r c
  obtain rfl | rfl | rfl := three r <;> obtain rfl | rfl | rfl := three c
  · exact minor (h 1 1) (h 2 2) (h 1 2) (h 2 1) hk
  · exact minor (h 0 2) (h 2 1) (h 0 1) (h 2 2) hk
  · exact minor (h 0 1) (h 1 2) (h 0 2) (h 1 1) hk
  · exact minor (h 1 2) (h 2 0) (h 1 0) (h 2 2) hk
  · exact minor (h 0 0) (h 2 2) (h 0 2) (h 2 0) hk
  · exact minor (h 0 2) (h 1 0) (h 0 0) (h 1 2) hk
  · exact minor (h 1 0) (h 2 1) (h 1 1) (h 2 0) hk
  · exact minor (h 0 1) (h 2 0) (h 0 0) (h 2 1) hk
  · exact minor (h 0 0) (h 1 1) (h 0 1) (h 1 0) hk

/-- The block of directions at an index. -/
theorem out1_6_at (x0 : Vec Ideal S1x1x1024 .i32) (x1 : Vec Ideal S1x1x9 .f32) (x3 x4 : Vec Ideal S1x1x2 .f32) (y : S1x3x1x1024.Idx) (e : Fin 3) (n : Fin 1024)
    (h1 : (y 1).val = e.val) (h3 : (y 3).val = n.val) :
    out1_6 (F := Ideal) x0 x1 x3 x4 y = heading (entries x1) (Reference.onPlane (k1_pay6 (F := Ideal) x0 (inRay n)) (x4 (at2 0)) (x3 (at2 0)))
      (Reference.onPlane (k1_pay7 (F := Ideal) x0 (inRay n)) (x4 (at2 1)) (x3 (at2 1))) e := by
  unfold out1_6
  refine View.canon_eq_of_allAt _ y _ (cover1_6 _ _ _ y) (View.allAt_cons_unit _ _ _ _ _ (fun x hx => ?_)
    (View.allAt_cons_unit _ _ _ _ _ (fun x hx => ?_) (View.allAt_cons_unit _ _ _ _ _ (fun x hx => ?_) (View.allAt_nil y _))))
  · have hx1 : (y 1).val = 2 + (x 1).val := hx 1
    have hx3 : (y 3).val = 0 + (x 3).val := hx 3
    have he : e = 2 := Fin.ext (by have := e.isLt; show e.val = 2; omega)
    rw [he]
    unfold k1_pay27
    refine (stored_at _ x n (by omega)).trans ?_
    rfl
  · have hx1 : (y 1).val = 1 + (x 1).val := hx 1
    have hx3 : (y 3).val = 0 + (x 3).val := hx 3
    have hx1' : (x 1).val < 1 := (x 1).isLt
    have he : e = 1 := Fin.ext (by show e.val = 1; omega)
    rw [he]
    unfold k1_pay26 k1_pay25
    refine (stored_at _ x n (by omega)).trans ?_
    rfl
  · have hx1 : (y 1).val = 0 + (x 1).val := hx 1
    have hx3 : (y 3).val = 0 + (x 3).val := hx 3
    have hx1' : (x 1).val < 1 := (x 1).isLt
    have he : e = 0 := Fin.ext (by show e.val = 0; omega)
    rw [he]
    unfold k1_pay24
    refine (stored_at _ x n (by omega)).trans ?_
    rfl

/-- The body negates by subtracting from zero. -/
theorem negated (x : EReal) : Ideal.ofBits .f32 0x00000000#32 - x = -x := by
  rw [Ideal.ofBits_zero_f32, zero_sub]

/-- The block of origins at an index. -/
theorem out1_7_at (x1 : Vec Ideal S1x1x9 .f32) (x2 : Vec Ideal S1x1x3 .f32) (y : S1x3x1x1024.Idx) (e : Fin 3) (n : Fin 1024)
    (h1 : (y 1).val = e.val) (h3 : (y 3).val = n.val) :
    out1_7 (F := Ideal) x1 x2 y = centred (entries x1) (fun k => x2 (at3 k)) e := by
  unfold out1_7
  refine View.canon_eq_of_allAt _ y _ (cover1_6 _ _ _ y) (View.allAt_cons_unit _ _ _ _ _ (fun x hx => ?_)
    (View.allAt_cons_unit _ _ _ _ _ (fun x hx => ?_) (View.allAt_cons_unit _ _ _ _ _ (fun x hx => ?_) (View.allAt_nil y _))))
  · have hx1 : (y 1).val = 2 + (x 1).val := hx 1
    have hx3 : (y 3).val = 0 + (x 3).val := hx 3
    have he : e = 2 := Fin.ext (by have := e.isLt; show e.val = 2; omega)
    rw [he]
    unfold k1_pay2 k1_pay28
    exact (stored_at _ x n (by omega)).trans (.trans rfl (negated _))
  · have hx1 : (y 1).val = 1 + (x 1).val := hx 1
    have hx3 : (y 3).val = 0 + (x 3).val := hx 3
    have hx1' : (x 1).val < 1 := (x 1).isLt
    have he : e = 1 := Fin.ext (by show e.val = 1; omega)
    rw [he]
    unfold k1_pay1 k1_pay30
    exact (stored_at _ x n (by omega)).trans (.trans rfl (negated _))
  · have hx1 : (y 1).val = 0 + (x 1).val := hx 1
    have hx3 : (y 3).val = 0 + (x 3).val := hx 3
    have hx1' : (x 1).val < 1 := (x 1).isLt
    have he : e = 0 := Fin.ext (by show e.val = 0; omega)
    rw [he]
    unfold k1_pay29
    exact (stored_at _ x n (by omega)).trans (.trans rfl (negated _))

variable (m : (ℓ : Loc nD τ sig) → Buf (Elt Ideal) ℓ) (ρ : Dev nD → PrngReg)

/-- The other arguments as launched. -/
abbrev turns (c : Dev nD) : Vec Ideal S64x3x3 .f32 := m ((c : Thread nD τ).loc main_arg1)
abbrev shifts (c : Dev nD) : Vec Ideal S64x3 .f32 := m ((c : Thread nD τ).loc main_arg2)
abbrev focals (c : Dev nD) : Vec Ideal S64x2 .f32 := m ((c : Thread nD τ).loc main_arg3)
abbrev middles (c : Dev nD) : Vec Ideal S64x2 .f32 := m ((c : Thread nD τ).loc main_arg4)

theorem block_turns (c : Dev nD) (b : Fin 64) (r j : Fin 3) :
    iblk1 (V3 m ρ) c 1 (b.cast N64_1.symm) (at33 r j) = turns m c (Reference.inMat b r j) := by
  refine (iblk1_1_at (V3 m ρ) c _ (at33 r j)).trans ((congrFun (W3_v3 m ρ c) _).trans (shapeCast_apply _ _ _ (Reference.inMat b r j) ?_))
  rw [Shape.rowMajor_val_three, Shape.rowMajor_val_three]
  show (b.val * 3 + r.val) * 3 + j.val = (b.val * 1 + 0) * 9 + (r.val * 3 + j.val)
  omega

theorem block_shifts (c : Dev nD) (b : Fin 64) (j : Fin 3) :
    iblk1 (V3 m ρ) c 2 (b.cast N64_1.symm) (at3 j) = shifts m c (Reference.inTri b j) := by
  refine (iblk1_2_at (V3 m ρ) c _ (at3 j)).trans ((congrFun (W3_v4 m ρ c) _).trans (shapeCast_apply _ _ _ (Reference.inTri b j) ?_))
  rw [Shape.rowMajor_val_three, Shape.rowMajor_val_two]
  show b.val * 3 + j.val = (b.val * 1 + 0) * 3 + j.val
  omega

theorem block_focals (c : Dev nD) (b : Fin 64) (j : Fin 2) :
    iblk1 (V3 m ρ) c 3 (b.cast N64_1.symm) (at2 j) = focals m c (Reference.inDuo b j) := by
  refine (iblk1_3_at (V3 m ρ) c _ (at2 j)).trans ((congrFun (W3_v5 m ρ c) _).trans (shapeCast_apply _ _ _ (Reference.inDuo b j) ?_))
  rw [Shape.rowMajor_val_three, Shape.rowMajor_val_two]
  show b.val * 2 + j.val = (b.val * 1 + 0) * 2 + j.val
  omega

theorem block_middles (c : Dev nD) (b : Fin 64) (j : Fin 2) :
    iblk1 (V3 m ρ) c 4 (b.cast N64_1.symm) (at2 j) = middles m c (Reference.inDuo b j) := by
  refine (iblk1_4_at (V3 m ρ) c _ (at2 j)).trans ((congrFun (W3_v6 m ρ c) _).trans (shapeCast_apply _ _ _ (Reference.inDuo b j) ?_))
  rw [Shape.rowMajor_val_three, Shape.rowMajor_val_two]
  show b.val * 2 + j.val = (b.val * 1 + 0) * 2 + j.val
  omega

/-- A transposed result read back at the array of the call. -/
theorem turned_back (x : Vec Ideal S64x3x1x1024 .f32) (b : Fin 64) (n : Fin 1024) (e : Fin 3) :
    transpose S64x1024x3 [0, 2, 1] (shapeCast S64x3x1024 x shapeCasts_S64x3x1x1024_S64x3x1024) transposes_S64x3x1024_S64x1024x3_0_2_1 (Reference.inAxes b n e)
      = x (inTriple b e n) := by
  refine (transpose_apply _ _ _ (Reference.inAxes b n e) (fun a => match a with | ⟨0, _⟩ => b | ⟨1, _⟩ => e | ⟨2, _⟩ => n)
    (fun a => match a with | ⟨0, _⟩ => rfl | ⟨1, _⟩ => rfl | ⟨2, _⟩ => rfl)).trans (shapeCast_apply _ _ _ (inTriple b e n) ?_)
  rw [Shape.rowMajor_val_four, Shape.rowMajor_val_three]
  show ((b.val * 3 + e.val) * 1 + 0) * 1024 + n.val = (b.val * 3 + e.val) * 1024 + n.val
  omega

variable (c : Dev nD) (b : Fin 64) (A : Fin 3 → Fin 3 → ℝ) (hA : ∀ r j, turns m c (Reference.inMat b r j) = (A r j : EReal)) (hd : det3 A ≠ 0)

include hA hd in
/-- The kernel's directions are the reference's. -/
theorem directions_at (n : Fin 1024) (e : Fin 3) :
    W9 m ρ c (Proc.devRef .tc main_v14) (Reference.inAxes b n e)
      = Cert.ReferenceIdeal.Read.val_main_v261 (F := Ideal) (masks m c) (turns m c) (focals m c) (middles m c) (Reference.inAxes b n e) := by
  obtain ⟨k, hk, hw⟩ := Reference.sampled (masks m c) b n
  rw [Reference.heading_at (masks m c) (turns m c) (focals m c) (middles m c) b A hA hd, Reference.point_at (masks m c) b n 0 k hw, Reference.point_at (masks m c) b n 1 k hw]
  refine (congrFun (W9_v14 m ρ c) _).trans ((turned_back _ b n e).trans ?_)
  refine (congrFun (W8_v7_1 m ρ c) _).trans ((congrFun (W4_arr m ρ c 6) _).trans ((arr1_6 (V3 m ρ) c _).trans ?_))
  refine (out1_6_at _ _ _ _ _ e n rfl rfl).trans ?_
  have hp := picks_at m ρ c b n k hk
  rw [entries_at A hd _ (fun r j => (block_turns m ρ c b r j).trans (hA r j)), across _ n k.isLt hp, down _ n k.isLt hp]
  refine congrArg₂ (fun u v => heading (Cert.Proof.inv3 A) u v e) ?_ ?_
  · exact congrArg₂ (Reference.onPlane _) (block_middles m ρ c b 0) (block_focals m ρ c b 0)
  · exact congrArg₂ (Reference.onPlane _) (block_middles m ρ c b 1) (block_focals m ρ c b 1)

include hA hd in
/-- The kernel's origins are the reference's. -/
theorem origins_at (n : Fin 1024) (e : Fin 3) :
    W9 m ρ c (Proc.devRef .tc main_v16) (Reference.inAxes b n e)
      = Cert.ReferenceIdeal.Read.val_main_v265 (F := Ideal) (turns m c) (shifts m c) (Reference.inAxes b n e) := by
  rw [Reference.centred_at (turns m c) (shifts m c) b A hA hd]
  refine (congrFun (W9_v16 m ρ c) _).trans ((turned_back _ b n e).trans ?_)
  refine (congrFun (W8_v7_2 m ρ c) _).trans ((congrFun (W4_arr m ρ c 7) _).trans ((arr1_7 (V3 m ρ) c _).trans ?_))
  refine (out1_7_at _ _ _ e n rfl rfl).trans ?_
  rw [entries_at A hd _ (fun r j => (block_turns m ρ c b r j).trans (hA r j))]
  exact congrArg (fun t => centred (Cert.Proof.inv3 A) t e) (funext fun j => block_shifts m ρ c b j)

end Cert.Proof.KernelIdeal
-- ==== Proof.Strata.lean ====
module

public import proofs.«01_k».proof.Proof.Arrays_KernelIdeal
public import proofs.«01_k».proof.Proof.Host_KernelIdeal
public import proofs.«01_k».proof.Proof.Draws_KernelIdeal
public import proofs.«01_k».proof.Proof.RefWords

@[expose] public section

set_option maxRecDepth 16384
noncomputable section

namespace Cert.Proof.Reference

open Cert.ReferenceIdeal Cert.ReferenceIdeal.Gen Cert.ReferenceIdeal.Read
open Idealize.ShloMosaic Idealize.ShloMosaic.TcCoe

/-! # The jittered lengths -/

/-- Batch `b`, ray `n`, sample `s`. -/
abbrev inSamples (b : Fin 64) (n : Fin 1024) (s : Fin 64) : S64x1024x64.Idx := fun a => match a with | ⟨0, _⟩ => b | ⟨1, _⟩ => n | ⟨2, _⟩ => s

/-- Sample `s` along the base. -/
abbrev inDepths (s : Fin 64) : S64.Idx := fun a => match a with | ⟨0, _⟩ => s

/-- The length of batch `b`, ray `n`, sample `s`. -/
def lengthAt (b n : ℕ) (s : Fin 64) : EReal :=
  val_main_v266 (F := Ideal) (inDepths s) + (unitOf (strataWord b n s.val) - Ideal.ofBits .f32 0x3F000000#32) * Ideal.ofBits .f32 0x3E006807#32

theorem high_zero (b : Fin 64) : IntOp.shrui .host (BitVec.ofNat 32 b.val) 16#32 = 0#32 := by
  revert b; decide

theorem strata_word (b : Fin 64) (n : Fin 1024) (s : Fin 64) : val_main_v314 (F := Ideal) (inSamples b n s) = strataWord b.val n.val s.val := by
  have h1 : val_main_v271 (F := Ideal) (inSamples b n s) + 1948878966#32 = 1948878966#32 := by
    rw [val_main_v271_apply, val_main_v267_apply, val_main_v270_apply, val_main_c_64_apply]
    show IntOp.shrui .host (BitVec.ofNat 32 b.val) 16#32 + _ = _
    rw [high_zero]; rfl
  have h2 : val_main_v277 (F := Ideal) (inSamples b n s) + 4237131848#32
      = BitVec.ofNat 32 b.val * 65536#32 + BitVec.ofNat 32 n.val * 64#32 + BitVec.ofNat 32 s.val + 4237131848#32 := by
    rw [val_main_v277_apply, val_main_v276_apply, val_main_v273_apply, val_main_v275_apply, val_main_v267_apply, val_main_v268_apply, val_main_v269_apply,
      val_main_v272_apply, val_main_v274_apply, val_main_c_65_apply, val_main_c_66_apply]
    rfl
  have h := hash_strat (F := Ideal) (inSamples b n s)
  rw [h1, h2] at h
  unfold strataWord
  rw [← h, val_main_v314_apply]
  generalize val_main_v310 (F := Ideal) (inSamples b n s) = p
  generalize val_main_v313 (F := Ideal) (inSamples b n s) = q
  rfl

/-- The reference's lengths. -/
theorem length_at (b : Fin 64) (n : Fin 1024) (s : Fin 64) :
    val_main_v328 (F := Ideal) (inSamples b n s) = lengthAt b.val n.val s := by
  rw [val_main_v328_apply, val_main_v327_apply, val_main_v326_apply, val_main_v325_apply, val_main_v323_apply, val_main_v321_apply, val_main_v319_apply,
    val_main_v318_apply, val_main_v316_apply, strata_word, val_main_v315_apply, val_main_v317_apply, val_main_v320_apply, val_main_v322_apply, val_main_v324_apply,
    val_main_c_73_apply, val_main_c_74_apply, val_main_cst_75_apply, val_main_cst_76_apply, val_main_cst_77_apply]
  unfold lengthAt
  have e : idx_main_v326 (idx_main_v327 (inSamples b n s)) = inDepths s := funext fun a => match a with | ⟨0, _⟩ => rfl
  rw [e]
  generalize strataWord b.val n.val s.val = w
  generalize val_main_v266 (F := Ideal) (inDepths s) = z
  rfl

end Cert.Proof.Reference

namespace Cert.Proof.KernelIdeal

open Cert.KernelIdeal Cert.KernelIdeal.Gen
open Idealize.ShloMosaic Idealize.ShloMosaic.TcCoe Idealize.ShloMosaic.Tactic

variable (m : (ℓ : Loc nD τ sig) → Buf (Elt Ideal) ℓ) (ρ : Dev nD → PrngReg)

/-- Ray `n`, sample `s` of a block. -/
abbrev inRayRow (n : Fin 1024) (s : Fin 64) : S1024x64.Idx := fun a => match a with | ⟨0, _⟩ => n | ⟨1, _⟩ => s

abbrev inLine (s : Fin 64) : S64.Idx := fun a => match a with | ⟨0, _⟩ => s

/-- The body's counter. -/
theorem counter_strata (i : grid2.Coords) (n : Fin 1024) (s : Fin 64) : k2_pay2 i (inRayRow n s)
    = BitVec.ofNat 32 (i 0).val * 65536#32 + BitVec.ofNat 32 n.val * 64#32 + BitVec.ofNat 32 s.val + 4237131848#32 := by
  show BitVec.ofNat 32 (0 * 1024 + n.val) * 64#32 + BitVec.ofNat 32 (0 * 64 + s.val) + BitVec.ofNat 32 (i 0).val * 65536#32 + 4237131848#32 = _
  simp only [Nat.zero_mul, Nat.zero_add]
  generalize BitVec.ofNat 32 n.val = x
  generalize BitVec.ofNat 32 s.val = y
  generalize BitVec.ofNat 32 (i 0).val = z
  generalize (65536#32 : BitVec 32) = p
  generalize (64#32 : BitVec 32) = q
  generalize (4237131848#32 : BitVec 32) = r
  rw [BitVec.add_comm (x * q + y) (z * p), ← BitVec.add_assoc]

/-- The stored block at an index: the base and the scaled jitter. -/
theorem pay1_at (v : FVec Ideal S1024x64 .f32) (w : Vec Ideal S1x64 .f32) (y : S1x1024x64.Idx) (n : Fin 1024) (s : Fin 64)
    (h1 : (y 1).val = n.val) (h2 : (y 2).val = s.val) :
    k2_pay1 (F := Ideal) v w y = w (inBase s) + v (inRayRow n s) * Ideal.ofBits .f32 0x3E006807#32 := by
  have h0 : (y 0).val < 1 := (y 0).isLt
  unfold k2_pay1
  refine (shapeCast_apply _ _ y (inRayRow n s) ?_).trans ?_
  · rw [Shape.rowMajor_val_two, Shape.rowMajor_val_three]
    show n.val * 64 + s.val = ((y 0).val * 1024 + (y 1).val) * 64 + (y 2).val
    omega
  · refine congrArg (· + v (inRayRow n s) * Ideal.ofBits .f32 0x3E006807#32) ?_
    refine (broadcastTo_apply _ _ (inRayRow n s) (inBase s) (fun a => match a with | ⟨0, _⟩ => rfl | ⟨1, _⟩ => rfl)).trans ?_
    refine (shapeCast_apply _ _ (inBase s) (inBase s) rfl).trans ?_
    refine (shapeCast_apply _ _ (inBase s) (inLine s) ?_).trans (shapeCast_apply _ _ (inLine s) (inBase s) ?_)
    · rw [Shape.rowMajor_val_one, Shape.rowMajor_val_two]; simp
    · rw [Shape.rowMajor_val_one, Shape.rowMajor_val_two]; simp

/-- The body's block at an index. -/
theorem out2_1_at (i : grid2.Coords) (x0 : Vec Ideal S1x64 .f32) (y : S1x1024x64.Idx) (n : Fin 1024) (s : Fin 64)
    (h1 : (y 1).val = n.val) (h2 : (y 2).val = s.val) :
    out2_1 i x0 y = x0 (inBase s) + (unitOf (strataWord (i 0).val n.val s.val) - Ideal.ofBits .f32 0x3F000000#32) * Ideal.ofBits .f32 0x3E006807#32 := by
  unfold out2_1
  refine (congrFun (View.canon_cons_unit_lit _ _ _ (fun a => match a with | ⟨0, _⟩ => rfl | ⟨1, _⟩ => rfl | ⟨2, _⟩ => rfl)) y).trans ?_
  refine (pay1_at _ _ y n s h1 h2).trans ?_
  rw [jitter_at, counter_strata]
  unfold strataWord
  refine congrArg (· + _) ?_
  exact congrFun (View.ld_unit_lit _ x0 (fun a => match a with | ⟨0, _⟩ => rfl | ⟨1, _⟩ => rfl)) (inBase s)

/-- The kernel's lengths. -/
theorem lengths_at (c : Dev nD) (b : Fin 64) (n : Fin 1024) (s : Fin 64) :
    W9 m ρ c (Proc.devRef .tc main_v10) (inLengths b n s) = Reference.lengthAt b.val n.val s := by
  rw [W9_v10]
  refine (congrFun (W8_arr m ρ c 1) (inLengths b n s)).trans ?_
  refine (arr2_1 (V7 m ρ) c (inLengths b n s)).trans ?_
  refine (out2_1_at _ _ _ n s rfl rfl).trans ?_
  rw [coords2]
  unfold Reference.lengthAt
  refine congrArg (· + _) ?_
  refine (iblk2_0_at (V7 m ρ) c _ (inBase s)).trans ?_
  refine (congrFun (W7_v9 m ρ c) (inBase s)).trans ?_
  refine shapeCast_apply _ _ (inBase s) (Reference.inDepths s) ?_
  rw [Shape.rowMajor_val_one, Shape.rowMajor_val_two]; simp

end Cert.Proof.KernelIdeal
-- ==== Proof.Invertible.lean ====
module

public import proofs.«01_k».proof.Pre_invertible
public import proofs.«01_k».proof.Proof.RefInverse
public import proofs.«01_k».proof.Proof.Elimination
public import Idealize.ShloMosaic.Lib.ReduceAll

@[expose] public section

set_option maxRecDepth 16384
noncomputable section

namespace Cert.Proof.Invertible

open Cert.Pre_invertible Cert.Pre_invertible.Facts
open Cert.Proof.Reference (inMat inTri inBatch)
open Idealize.ShloMosaic Idealize.ShloMosaic.ValueIdx

/-! # What the precondition says of the matrices -/

/-- The shapes the precondition's operations take agree. -/
instance facts : Cert.Pre_invertible.Facts where
  slices_S64x3x3_S64x1x3_0_0_0 := by decide
  shapeCasts_S64x1x3_S64x3 := by decide
  slices_S64x3x3_S64x1x3_0_1_0 := by decide
  slices_S64x3x3_S64x1x3_0_2_0 := by decide
  slices_S64x3_S64x1_0_0 := by decide
  shapeCasts_S64x1_S64 := by decide
  slices_S64x3_S64x1_0_1 := by decide
  slices_S64x3_S64x1_0_2 := by decide
  bcast_S64_S1x64_1 := by decide
  concatenates_S1x64_S1x64_S1x64_S3x64_d0 := by decide
  transposes_S3x64_S64x3_1_0 := by decide
  reducesTo_S64x3_S64_d1 := by decide
  h_S_ := by decide
  bcast_S_S64x3x3 := by decide
  reducesTo_S64x3x3_S_d0_1_2 := by decide
  bcast_S_S64 := by decide
  reducesTo_S64_S_d0 := by decide

/-- Row `r` of every matrix. -/
theorem row_at {r : Nat} (hr : r < 3) (h : S64x3x3.Slices ![0, r, 0] S64x1x3) (x : S64x3x3.Idx → EReal) (b : Fin 64) (e : Fin 3) :
    shapeCast S64x3 (extractStridedSlice S64x1x3 ![0, r, 0] x h) shapeCasts_S64x1x3_S64x3 (inTri b e) = x (inMat b ⟨r, hr⟩ e) := by
  refine (shapeCast_apply _ _ (inTri b e) (fun a => match a with | ⟨0, _⟩ => b | ⟨1, _⟩ => ⟨0, Nat.one_pos⟩ | ⟨2, _⟩ => e) ?_).trans ?_
  · rw [Shape.rowMajor_val_three, Shape.rowMajor_val_two]
    show (b.val * 1 + 0) * 3 + e.val = b.val * 3 + e.val
    omega
  · exact extractStridedSlice_apply _ _ _ _ (inMat b ⟨r, hr⟩ e)
      (fun a => match a with | ⟨0, _⟩ => (Nat.zero_add _).symm | ⟨1, _⟩ => rfl | ⟨2, _⟩ => (Nat.zero_add _).symm)

/-- Axis `e` of every row. -/
theorem axis_at {e : Nat} (he : e < 3) (h : S64x3.Slices ![0, e] S64x1) (x : S64x3.Idx → EReal) (b : Fin 64) :
    shapeCast S64 (extractStridedSlice S64x1 ![0, e] x h) shapeCasts_S64x1_S64 (inBatch b) = x (inTri b ⟨e, he⟩) := by
  refine (shapeCast_apply _ _ (inBatch b) (fun a => match a with | ⟨0, _⟩ => b | ⟨1, _⟩ => ⟨0, Nat.one_pos⟩) ?_).trans ?_
  · rw [Shape.rowMajor_val_two, Shape.rowMajor_val_one]
    show b.val * 1 + 0 = b.val
    omega
  · exact extractStridedSlice_apply _ _ _ _ (inTri b ⟨e, he⟩) (fun a => match a with | ⟨0, _⟩ => (Nat.zero_add _).symm | ⟨1, _⟩ => rfl)

/-- Three rows side by side, turned: axis `e` reads row `e`. -/
theorem beside_at (x y z : S64.Idx → EReal) (b : Fin 64) (e : Fin 3) :
    fn_cross_part1 (F := Ideal) (broadcastInDim S1x64 ![1] bcast_S64_S1x64_1 x) (broadcastInDim S1x64 ![1] bcast_S64_S1x64_1 y)
      (broadcastInDim S1x64 ![1] bcast_S64_S1x64_1 z) (inTri b e) = (![x, y, z] e) (inBatch b) := by
  unfold fn_cross_part1
  refine (transpose_apply _ _ _ (inTri b e) (fun a => match a with | ⟨0, _⟩ => e | ⟨1, _⟩ => b) (fun a => match a with | ⟨0, _⟩ => rfl | ⟨1, _⟩ => rfl)).trans ?_
  have hb : ∀ w : S64.Idx → EReal, broadcastInDim S1x64 ![1] bcast_S64_S1x64_1 w (fun a => match a with | ⟨0, _⟩ => ⟨0, Nat.one_pos⟩ | ⟨1, _⟩ => b) = w (inBatch b) :=
    fun w => broadcastInDim_apply _ _ w _ (inBatch b) (fun a => match a with | ⟨0, _⟩ => rfl)
  refine (concatenate_apply_piece (t := S3x64) 0 [⟨S1x64, broadcastInDim S1x64 ![1] bcast_S64_S1x64_1 x⟩, ⟨S1x64, broadcastInDim S1x64 ![1] bcast_S64_S1x64_1 y⟩, ⟨S1x64, broadcastInDim S1x64 ![1] bcast_S64_S1x64_1 z⟩] concatenates_S1x64_S1x64_S1x64_S3x64_d0 _ e.val e.isLt S1x64 (broadcastInDim S1x64 ![1] bcast_S64_S1x64_1 (![x, y, z] e)) ?_ rfl e.val ?_
    (fun a => match a with | ⟨0, _⟩ => ⟨0, Nat.one_pos⟩ | ⟨1, _⟩ => b) (fun a => match a with | ⟨0, _⟩ => fun h => absurd rfl h | ⟨1, _⟩ => fun _ => rfl) rfl).trans (hb _)
  · obtain rfl | rfl | rfl := three e <;> rfl
  · obtain rfl | rfl | rfl := three e <;> rfl

/-- The cross product's axes. -/
theorem cross_at (x y : S64x3.Idx → EReal) (b : Fin 64) (e : Fin 3) : fn_cross (F := Ideal) x y (inTri b e)
    = ![x (inTri b 1) * y (inTri b 2) - x (inTri b 2) * y (inTri b 1), x (inTri b 2) * y (inTri b 0) - x (inTri b 0) * y (inTri b 2),
        x (inTri b 0) * y (inTri b 1) - x (inTri b 1) * y (inTri b 0)] e := by
  unfold fn_cross
  refine (beside_at _ _ _ b e).trans ?_
  obtain rfl | rfl | rfl := three e
  · exact congrArg₂ (· - ·) (congrArg₂ (· * ·) (axis_at (e := 1) (by omega) _ x b) (axis_at (e := 2) (by omega) _ y b)) (congrArg₂ (· * ·) (axis_at (e := 2) (by omega) _ x b) (axis_at (e := 1) (by omega) _ y b))
  · exact congrArg₂ (· - ·) (congrArg₂ (· * ·) (axis_at (e := 2) (by omega) _ x b) (axis_at (e := 0) (by omega) _ y b)) (congrArg₂ (· * ·) (axis_at (e := 0) (by omega) _ x b) (axis_at (e := 2) (by omega) _ y b))
  · exact congrArg₂ (· - ·) (congrArg₂ (· * ·) (axis_at (e := 0) (by omega) _ x b) (axis_at (e := 1) (by omega) _ y b)) (congrArg₂ (· * ·) (axis_at (e := 1) (by omega) _ x b) (axis_at (e := 0) (by omega) _ y b))

/-- A row's sum from zero. -/
theorem summed_at (x : S64x3.Idx → EReal) (b : Fin 64) :
    Host.reduceAdd (F := Ideal) (φ := .f32) x (constant (F := Ideal) S_ .f32 0x00000000#32) reducesTo_S64x3_S64_d1 h_S_ (inBatch b) = x (inTri b 0) + x (inTri b 1) + x (inTri b 2) := by
  simp only [Host.reduceAdd, Ideal.hostReduceAdd_def]
  rw [Ideal.hostReduceAdd_single reducesTo_S64x3_S64_d1 (by decide)]
  refine (congrArg (· + _) Ideal.ofBits_zero_f32).trans ((zero_add _).trans ?_)
  refine (Fin.sum_univ_three _).trans ?_
  have hk : ∀ k : Fin 3, x (Shape.Reduces.lift (by decide : S64x3.Reduces [1] S64) (inBatch b) k) = x (inTri b k) := fun k =>
    congrArg x (funext fun a => Fin.ext (by match a with | ⟨0, _⟩ => rfl | ⟨1, _⟩ => rfl))
  exact congrArg₂ (· + ·) (congrArg₂ (· + ·) (hk 0) (hk 1)) (hk 2)

/-- The pattern of infinity. -/
theorem infinity : Ideal.ofBits .f32 0x7F800000#32 = ⊤ := by simp [Ideal.ofBits, Ideal.ieee]

/-- A truth value that is one holds. -/
theorem holds {p : Prop} [Decidable p] (h : BitVec.ofBool (decide p) = 1#1) : p := by
  by_cases hp : p
  · exact hp
  · rw [decide_eq_false hp] at h
    exact absurd h (by decide)

/-- Both bits of an `and` that is one. -/
theorem both : ∀ {p q : BitVec 1}, p &&& q = 1#1 → p = 1#1 ∧ q = 1#1 := by decide

/-- A value whose magnitude is below infinity is real. -/
theorem real_of_lt {x : EReal} (h : max x (-x) < ⊤) : ∃ r : ℝ, x = (r : EReal) := by
  induction x with
  | bot => exact absurd h (by simp)
  | top => exact absurd h (by simp)
  | coe r => exact ⟨r, rfl⟩

theorem det_of {A : Fin 3 → Fin 3 → ℝ} {x : Fin 3 → Fin 3 → EReal} (hx : ∀ r c, x r c = (A r c : EReal))
    (h : x 0 0 * (x 1 1 * x 2 2 - x 1 2 * x 2 1) + x 0 1 * (x 1 2 * x 2 0 - x 1 0 * x 2 2) + x 0 2 * (x 1 0 * x 2 1 - x 1 1 * x 2 0) ≠ 0) : det3 A ≠ 0 := by
  intro h0
  apply h
  simp only [hx, ← EReal.coe_mul, ← EReal.coe_sub, ← EReal.coe_add]
  refine (congrArg _ ?_).trans EReal.coe_zero
  rw [← h0]
  unfold det3
  ring

instance : Subsingleton S_.Idx := ⟨fun _ _ => funext fun a => a.elim0⟩

/-- Under the precondition every matrix is real and has a determinant other than zero. -/
theorem decoded (x0 : FVec Ideal S64x1x512x512 .f32) (x1 : FVec Ideal S64x3x3 .f32) (x2 : FVec Ideal S64x3 .f32) (x3 x4 : FVec Ideal S64x2 .f32)
    (h : fn (F := Ideal) x0 x1 x2 x3 x4 = fun _ => 1#1) (b : Fin 64) :
    ∃ A : Fin 3 → Fin 3 → ℝ, (∀ r c, x1 (inMat b r c) = (A r c : EReal)) ∧ det3 A ≠ 0 := by
  unfold fn at h
  obtain ⟨hf, hn⟩ := both (congrFun h (Shape.Idx.first h_S_))
  have hreal : ∀ r c, ∃ y : ℝ, x1 (inMat b r c) = (y : EReal) := fun r c => by
    have e : max (x1 (inMat b r c)) (-(x1 (inMat b r c))) < Ideal.ofBits .f32 0x7F800000#32 :=
      holds (Host.reduce_andi_all _ _ _ _ _ hf (inMat b r c))
    rw [infinity] at e
    exact real_of_lt e
  choose A hA using hreal
  refine ⟨A, hA, ?_⟩
  have e := holds (Host.reduce_andi_all _ _ _ _ _ hn (inBatch b))
  refine det_of (x := fun r c => x1 (inMat b r c)) hA (fun h0 => e ?_)
  refine ((summed_at _ b).trans ?_).trans Ideal.ofBits_zero_f32.symm
  refine Eq.trans ?_ h0
  refine congrArg₂ (· + ·) (congrArg₂ (· + ·) ?_ ?_) ?_
  all_goals
    refine congrArg₂ (· * ·) (row_at (r := 0) (by omega) _ x1 b _) ((cross_at _ _ b _).trans ?_)
    exact congrArg₂ (· - ·) (congrArg₂ (· * ·) (row_at (r := 1) (by omega) _ x1 b _) (row_at (r := 2) (by omega) _ x1 b _))
      (congrArg₂ (· * ·) (row_at (r := 1) (by omega) _ x1 b _) (row_at (r := 2) (by omega) _ x1 b _))

end Cert.Proof.Invertible
-- ==== Proof.Values.lean ====
module

public import proofs.«01_k».proof.Defs
public import proofs.«01_k».proof.Proof.Gen.KernelIdeal
public import proofs.«01_k».proof.Proof.Gen.ReferenceIdeal
public import proofs.«01_k».proof.Proof.Gen.ReferenceIdeal.Read
public import proofs.«01_k».proof.Proof.Views
public import proofs.«01_k».proof.Proof.Strata
public import proofs.«01_k».proof.Proof.Invertible

@[expose] public section

noncomputable section

namespace Cert.Proof

open Idealize.ShloMosaic Idealize.ShloMosaic.TcCoe Idealize.SL.Sem
open Cert.ReferenceIdeal.Read

/-! # The kernel's four results are the reference's -/

/-- An index of the directions or origins by its coordinates. -/
theorem axes_eta (i : Cert.ReferenceIdeal.S64x1024x3.Idx) : i = Reference.inAxes (i 0) (i 1) (i 2) :=
  funext fun a => match a with | ⟨0, _⟩ => rfl | ⟨1, _⟩ => rfl | ⟨2, _⟩ => rfl

/-- An index of the positions by its coordinates. -/
theorem points_eta (i : Cert.ReferenceIdeal.S64x1024x2.Idx) : i = Reference.inPoints (i 0) (i 1) (i 2) :=
  funext fun a => match a with | ⟨0, _⟩ => rfl | ⟨1, _⟩ => rfl | ⟨2, _⟩ => rfl

/-- An index of the lengths by its coordinates. -/
theorem samples_eta (i : Cert.ReferenceIdeal.S64x1024x64.Idx) : i = Reference.inSamples (i 0) (i 1) (i 2) :=
  funext fun a => match a with | ⟨0, _⟩ => rfl | ⟨1, _⟩ => rfl | ⟨2, _⟩ => rfl

section
variable (m : (ℓ : Loc Cert.KernelIdeal.nD Cert.KernelIdeal.τ Cert.KernelIdeal.sig) → Buf (Elt Ideal) ℓ) (ρ : Dev Cert.KernelIdeal.nD → PrngReg)
variable (h : Cert.Pre_KernelIdeal_invertible m) (c : Dev Cert.KernelIdeal.nD)

include h in
theorem origins : KernelIdeal.W9 m ρ c (Proc.devRef .tc Cert.KernelIdeal.main_v16)
    = val_main_v265 (F := Ideal) (KernelIdeal.turns m c) (KernelIdeal.shifts m c) := by
  funext i
  obtain ⟨A, hA, hd⟩ := Invertible.decoded _ _ _ _ _ (h c) (i 0)
  rw [axes_eta i]
  exact KernelIdeal.origins_at m ρ c (i 0) A hA hd (i 1) (i 2)

include h in
theorem directions : KernelIdeal.W9 m ρ c (Proc.devRef .tc Cert.KernelIdeal.main_v14)
    = val_main_v261 (F := Ideal) (KernelIdeal.masks m c) (KernelIdeal.turns m c) (KernelIdeal.focals m c) (KernelIdeal.middles m c) := by
  funext i
  obtain ⟨A, hA, hd⟩ := Invertible.decoded _ _ _ _ _ (h c) (i 0)
  rw [axes_eta i]
  exact KernelIdeal.directions_at m ρ c (i 0) A hA hd (i 1) (i 2)

theorem lengths : KernelIdeal.W9 m ρ c (Proc.devRef .tc Cert.KernelIdeal.main_v10) = val_main_v328 (F := Ideal) := by
  funext i
  rw [samples_eta i]
  exact (KernelIdeal.lengths_at m ρ c (i 0) (i 1) (i 2)).trans (Reference.length_at (i 0) (i 1) (i 2)).symm

theorem positions : KernelIdeal.W9 m ρ c (Proc.devRef .tc Cert.KernelIdeal.main_v12) = val_main_v130 (F := Ideal) (KernelIdeal.masks m c) := by
  funext i
  rw [points_eta i]
  exact KernelIdeal.positions_at m ρ c (i 0) (i 1) (i 2)

end

/-- From equal arguments the two programs end with equal results. -/
theorem equal_values : Cert.algebraic_KernelIdeal_ReferenceIdeal_pre_invertible := by
  intro m g m' g' hpre hargs
  refine ⟨fun c => val_main_v265 (F := Ideal) (KernelIdeal.turns m c) (KernelIdeal.shifts m c),
    fun c => val_main_v261 (F := Ideal) (KernelIdeal.masks m c) (KernelIdeal.turns m c) (KernelIdeal.focals m c) (KernelIdeal.middles m c),
    fun _ => val_main_v328 (F := Ideal), fun c => val_main_v130 (F := Ideal) (KernelIdeal.masks m c), ?_, ?_⟩
  · refine (θ_run Cert.KernelIdeal.defs _ _).mono (fun s h c => ?_) (KernelIdeal.runs (F := Ideal) m g)
    exact ⟨(h.1 c _ (KernelIdeal.mem_uc Cert.KernelIdeal.main_v16 (by decide))).trans (origins m g hpre c),
      (h.1 c _ (KernelIdeal.mem_uc Cert.KernelIdeal.main_v14 (by decide))).trans (directions m g hpre c),
      (h.1 c _ (KernelIdeal.mem_uc Cert.KernelIdeal.main_v10 (by decide))).trans (lengths m g c),
      (h.1 c _ (KernelIdeal.mem_uc Cert.KernelIdeal.main_v12 (by decide))).trans (positions m g c),
      (h.1 c _ (KernelIdeal.mem_uc Cert.KernelIdeal.main_arg0 (by decide))).trans (KernelIdeal.W9_main_arg0 m g c),
      (h.1 c _ (KernelIdeal.mem_uc Cert.KernelIdeal.main_arg1 (by decide))).trans (KernelIdeal.W9_main_arg1 m g c),
      (h.1 c _ (KernelIdeal.mem_uc Cert.KernelIdeal.main_arg2 (by decide))).trans (KernelIdeal.W9_main_arg2 m g c),
      (h.1 c _ (KernelIdeal.mem_uc Cert.KernelIdeal.main_arg3 (by decide))).trans (KernelIdeal.W9_main_arg3 m g c),
      (h.1 c _ (KernelIdeal.mem_uc Cert.KernelIdeal.main_arg4 (by decide))).trans (KernelIdeal.W9_main_arg4 m g c)⟩
  · refine (θ_run Cert.ReferenceIdeal.defs _ _).mono (fun s h c => ?_) (Cert.ReferenceIdeal.Value.run (F := Ideal) m' g')
    obtain ⟨a0, a1, a2, a3, a4⟩ := hargs c
    obtain ⟨r0, r1, r2, r3, args⟩ := h c
    refine ⟨r0.trans ((val_main_v265_eq (StableHlo.launchContents m' c)).trans ?_), r1.trans ((val_main_v261_eq (StableHlo.launchContents m' c)).trans ?_),
      r2.trans (val_main_v328_eq (StableHlo.launchContents m' c)), r3.trans ((val_main_v130_eq (StableHlo.launchContents m' c)).trans ?_), args⟩
    · exact congrArg₂ (val_main_v265 (F := Ideal)) a1 a2
    · rw [StableHlo.launchContents_devRef, StableHlo.launchContents_devRef, StableHlo.launchContents_devRef, StableHlo.launchContents_devRef, a0, a1, a3, a4]
    · exact congrArg (val_main_v130 (F := Ideal)) a0

end Cert.Proof
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.RunBits
public import proofs.«01_k».proof.Proof.RunHost
public import proofs.«01_k».proof.Proof.Run_KernelIdeal
public import proofs.«01_k».proof.Proof.Values

@[expose] public section

noncomputable section

namespace Cert.Proof

open Idealize.ShloMosaic Idealize.SL.Sem

/-- Every claim of this certificate. -/
theorem claim : Cert.Claim :=
  ⟨Cert.Kernel.Gen.facts, Cert.KernelIdeal.Gen.facts, Cert.ReferenceIdeal.Gen.facts, Invertible.facts,
    frame_kernel, fun m g _ => Cert.Proof.KernelIdeal.frame (F := Ideal) m g, fun m g _ => Cert.Proof.KernelIdeal.frame (F := Ideal) m g,
    frame_reference, fun m g _ => frame_reference m g trivial, trivial, equal_values⟩

end Cert.Proof

end
